-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v30) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v8_0)) (v1 : (c : Dev Cert.Kernel12Ideal.nD) → Buf (Elt Ideal) ((c.tc : Thread Cert.Kernel12Ideal.nD Cert.Kernel12Ideal.τ).loc Cert.Kernel12Ideal.main_v8_1)) (v2 : (c : Dev Cert.Kernel12Ideal.nD) → Buf (Elt Ideal) ((c.tc : Thread Cert.Kernel12Ideal.nD Cert.Kernel12Ideal.τ).loc Cert.Kernel12Ideal.main_v8_2)) (v3 : (c : Dev Cert.Kernel12Ideal.nD) → Buf (Elt Ideal) ((c.tc : Thread Cert.Kernel12Ideal.nD Cert.Kernel12Ideal.τ).loc Cert.Kernel12Ideal.main_v8_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v8_0) = v0 c
          ∧ r.2.mem ((c.tc : Thread Cert.Kernel12Ideal.nD Cert.Kernel12Ideal.τ).loc Cert.Kernel12Ideal.main_v8_1) = v1 c
          ∧ r.2.mem ((c.tc : Thread Cert.Kernel12Ideal.nD Cert.Kernel12Ideal.τ).loc Cert.Kernel12Ideal.main_v8_2) = v2 c
          ∧ r.2.mem ((c.tc : Thread Cert.Kernel12Ideal.nD Cert.Kernel12Ideal.τ).loc Cert.Kernel12Ideal.main_v8_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v60) = v0 c
          ∧ r.2.mem ((c.tc : Thread Cert.Reference12Ideal.nD Cert.Reference12Ideal.τ).loc Cert.Reference12Ideal.main_v61) = v1 c
          ∧ r.2.mem ((c.tc : Thread Cert.Reference12Ideal.nD Cert.Reference12Ideal.τ).loc Cert.Reference12Ideal.main_v62) = v2 c
          ∧ r.2.mem ((c.tc : Thread Cert.Reference12Ideal.nD Cert.Reference12Ideal.τ).loc Cert.Reference12Ideal.main_v59) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v47) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_3) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v15) = v0 c
          ∧ r.2.mem ((c.tc : Thread Cert.Reference16Ideal.nD Cert.Reference16Ideal.τ).loc Cert.Reference16Ideal.main_v17) = v1 c
          ∧ r.2.mem ((c.tc : Thread Cert.Reference16Ideal.nD Cert.Reference16Ideal.τ).loc Cert.Reference16Ideal.main_v14) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Kernel.lean ====
abbrev S8192x8192 : Shape := ⟨2, ![8192, 8192]⟩
abbrev S1x8x256 : Shape := ⟨3, ![1, 8, 256]⟩
abbrev S_ : Shape := ⟨0, ![]⟩
abbrev S63 : Shape := ⟨1, ![63]⟩
abbrev S1 : Shape := ⟨1, ![1]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S64x1 : Shape := ⟨2, ![64, 1]⟩
abbrev S64x64 : Shape := ⟨2, ![64, 64]⟩
abbrev S1x64x64 : Shape := ⟨3, ![1, 64, 64]⟩
abbrev S8x1x1 : Shape := ⟨3, ![8, 1, 1]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S8x64x128 : Shape := ⟨3, ![8, 64, 128]⟩
abbrev S8x1x256 : Shape := ⟨3, ![8, 1, 256]⟩
abbrev S8x256 : Shape := ⟨2, ![8, 256]⟩
abbrev S8192x2048 : Shape := ⟨2, ![8192, 2048]⟩
abbrev S2048x256 : Shape := ⟨2, ![2048, 256]⟩
abbrev S1x64x128 : Shape := ⟨3, ![1, 64, 128]⟩
abbrev S1x1x256 : Shape := ⟨3, ![1, 1, 256]⟩
abbrev S64x128 : Shape := ⟨2, ![64, 128]⟩
abbrev S1x256 : Shape := ⟨2, ![1, 256]⟩
abbrev S128x256 : Shape := ⟨2, ![128, 256]⟩
abbrev S64x256 : Shape := ⟨2, ![64, 256]⟩

abbrev nBuf : Space → Nat
  | .hbm => 108
  | .vmem => 24
  | .smem => 0
  | _ => 0

abbrev bufTy : (tb : Table) → Fin (tcTables nBuf tb) → BufTy
  | .hbm, ⟨0, _⟩ => ⟨S8192x8192, .f32⟩
  | .hbm, ⟨1, _⟩ => ⟨S1x8x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S63, .f32⟩
  | .hbm, ⟨10, _⟩ => ⟨S_, .f32⟩
  | .hbm, ⟨11, _⟩ => ⟨S63, .f32⟩
  | .hbm, ⟨12, _⟩ => ⟨S63, .f32⟩
  | .hbm, ⟨13, _⟩ => ⟨S1, .f32⟩
  | .hbm, ⟨14, _⟩ => ⟨S_, .f32⟩
  | .hbm, ⟨15, _⟩ => ⟨S63, .f32⟩
  | .hbm, ⟨16, _⟩ => ⟨S63, .f32⟩
  | .hbm, ⟨17, _⟩ => ⟨S63, .f32⟩
  | .hbm, ⟨18, _⟩ => ⟨S63, .f32⟩
  | .hbm, ⟨19, _⟩ => ⟨S1, .f32⟩
  | .hbm, ⟨20, _⟩ => ⟨S63, .f32⟩
  | .hbm, ⟨21, _⟩ => ⟨S63, .f32⟩
  | .hbm, ⟨22, _⟩ => ⟨S63, .f32⟩
  | .hbm, ⟨23, _⟩ => ⟨S1, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S2048, .f32⟩
  | .hbm, ⟨32, _⟩ => ⟨S2048x1, .f32⟩
  | .hbm, ⟨33, _⟩ => ⟨S1x64, .f32⟩
  | .hbm, ⟨34, _⟩ => ⟨S2048x64, .f32⟩
  | .hbm, ⟨35, _⟩ => ⟨S2048x64, .f32⟩
  | .hbm, ⟨36, _⟩ => ⟨S2048x64, .f32⟩
  | .hbm, ⟨37, _⟩ => ⟨S2048x64, .f32⟩
  | .hbm, ⟨38, _⟩ => ⟨S2048x64, .f32⟩
  | .hbm, ⟨39, _⟩ => ⟨S2048x128, .f32⟩
  | .hbm, ⟨40, _⟩ => ⟨S2048x64, .f32⟩
  | .hbm, ⟨41, _⟩ => ⟨S2048x128, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S8, .f32⟩
  | .hbm, ⟨53, _⟩ => ⟨S64, .f32⟩
  | .hbm, ⟨54, _⟩ => ⟨S64x1, .f32⟩
  | .hbm, ⟨55, _⟩ => ⟨S1x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S1x64x64, .f32⟩
  | .hbm, ⟨60, _⟩ => ⟨S_, .f32⟩
  | .hbm, ⟨61, _⟩ => ⟨S1x64x64, .f32⟩
  | .hbm, ⟨62, _⟩ => ⟨S1x64x64, .i1⟩
  | .hbm, ⟨63, _⟩ => ⟨S_, .f32⟩
  | .hbm, ⟨64, _⟩ => ⟨S64x64, .f32⟩
  | .hbm, ⟨65, _⟩ => ⟨S64x64, .f32⟩
  | .hbm, ⟨66, _⟩ => ⟨S1x64x64, .f32⟩
  | .hbm, ⟨67, _⟩ => ⟨S8x1x1, .f32⟩
  | .hbm, ⟨68, _⟩ => ⟨S8x64x64, .f32⟩
  | .hbm, ⟨69, _⟩ => ⟨S8x64x64, .f32⟩
  | .hbm, ⟨70, _⟩ => ⟨S8x64x64, .f32⟩
  | .hbm, ⟨71, _⟩ => ⟨S8x64x64, .f32⟩
  | .hbm, ⟨72, _⟩ => ⟨S_, .f32⟩
  | .hbm, ⟨73, _⟩ => ⟨S_, .f32⟩
  | .hbm, ⟨74, _⟩ => ⟨S8x64x64, .i1⟩
  | .hbm, ⟨75, _⟩ => ⟨S8x64x64, .f32⟩
  | .hbm, ⟨76, _⟩ => ⟨S8x64x64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S1x64, .f32⟩
  | .hbm, ⟨81, _⟩ => ⟨S8x1, .f32⟩
  | .hbm, ⟨82, _⟩ => ⟨S8x64, .f32⟩
  | .hbm, ⟨83, _⟩ => ⟨S8x64, .f32⟩
  | .hbm, ⟨84, _⟩ => ⟨S8x64, .f32⟩
  | .hbm, ⟨85, _⟩ => ⟨S8x64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S1x64, .f32⟩
  | .hbm, ⟨90, _⟩ => ⟨S8x1, .f32⟩
  | .hbm, ⟨91, _⟩ => ⟨S8x64, .f32⟩
  | .hbm, ⟨92, _⟩ => ⟨S8x64, .f32⟩
  | .hbm, ⟨93, _⟩ => ⟨S8x64, .f32⟩
  | .hbm, ⟨94, _⟩ => ⟨S8x64, .f32⟩
  | .hbm, ⟨95, _⟩ => ⟨S_, .f32⟩
  | .hbm, ⟨96, _⟩ => ⟨S8, .f32⟩
  | .hbm, ⟨97, _⟩ => ⟨S8, .f32⟩
  | .hbm, ⟨98, _⟩ => ⟨S8, .f32⟩
  | .hbm, ⟨99, _⟩ => ⟨S8x64x1, .f32⟩
  | .hbm, ⟨100, _⟩ => ⟨S8x64x128, .f32⟩
  | .hbm, ⟨101, _⟩ => ⟨S8x64x1, .f32⟩
  | .hbm, ⟨102, _⟩ => ⟨S8x64x128, .f32⟩
  | .hbm, ⟨103, _⟩ => ⟨S8x1x1, .f32⟩
  | .hbm, ⟨104, _⟩ => ⟨S8x1x256, .f32⟩
  | .hbm, ⟨105, _⟩ => ⟨S8x256, .f32⟩
  | .hbm, ⟨106, _⟩ => ⟨S8x1x256, .f32⟩
  | .hbm, ⟨107, _⟩ => ⟨S8192x2048, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x128, .f32⟩
  | .local _ .vmem, ⟨9, _⟩ => ⟨S2048x128, .f32⟩
  | .local _ .vmem, ⟨10, _⟩ => ⟨S1x64x64, .f32⟩
  | .local _ .vmem, ⟨11, _⟩ => ⟨S1x64x64, .f32⟩
  | .local _ .vmem, ⟨12, _⟩ => ⟨S1x64x128, .f32⟩
  | .local _ .vmem, ⟨13, _⟩ => ⟨S1x64x128, .f32⟩
  | .local _ .vmem, ⟨14, _⟩ => ⟨S1x64x128, .f32⟩
  | .local _ .vmem, ⟨15, _⟩ => ⟨S1x64x128, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S2048x256, .bf16⟩
  | .local _ .vmem, ⟨21, _⟩ => ⟨S2048x256, .bf16⟩
  | .local _ .vmem, ⟨22, _⟩ => ⟨S2048x128, .f32⟩
  | .local _ .vmem, ⟨23, _⟩ => ⟨S2048x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_v2 : Ref sig .tc := ⟨.hbm, 27, rfl⟩
abbrev main_cst_2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_3 : Ref sig .tc := ⟨.hbm, 43, rfl⟩
abbrev main_v17 : Ref sig .tc := ⟨.hbm, 44, rfl⟩
abbrev main_v18 : Ref sig .tc := ⟨.hbm, 45, rfl⟩
abbrev main_cst_4 : Ref sig .tc := ⟨.hbm, 46, rfl⟩
abbrev main_v19 : Ref sig .tc := ⟨.hbm, 47, rfl⟩
abbrev main_v20 : Ref sig .tc := ⟨.hbm, 48, rfl⟩
abbrev main_cst_5 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_6 : Ref sig .tc := ⟨.hbm, 60, rfl⟩
abbrev main_v31 : Ref sig .tc := ⟨.hbm, 61, rfl⟩
abbrev main_v32 : Ref sig .tc := ⟨.hbm, 62, rfl⟩
abbrev main_cst_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v41 : Ref sig .tc := ⟨.hbm, 76, rfl⟩
abbrev main_cst_9 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_10 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_11 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c32_i32 : BitVec 32 := 32#32
  let v33 : BitVec 32 := Scalar.addi c0_i32 c32_i32
  let c1_i32 : BitVec 32 := 1#32
  ⟨c0_i32, v33, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c64_i32_29 : BitVec 32 := 64#32
  let v35 : BitVec 32 := Scalar.muli arg16 c64_i32_29
  v35
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c64_i32_29 : BitVec 32 := 64#32
  let v35 : BitVec 32 := Scalar.muli arg16 c64_i32_29
  let v36 : BitVec 32 := v35
  let v37 : Index := Scalar.indexCast v36
  let c0_30 : Index := 0#32
  ![v37.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c64_i32_29 : BitVec 32 := 64#32
  let v35 : BitVec 32 := Scalar.muli arg16 c64_i32_29
  let v36 : BitVec 32 := v35
  let v41 : Index := Scalar.indexCast v36
  let c0_32 : Index := 0#32
  ![v41.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8192x8192 : Shape := ⟨2, ![8192, 8192]⟩
abbrev S1x8x256 : Shape := ⟨3, ![1, 8, 256]⟩
abbrev S4x2048x8192 : Shape := ⟨3, ![4, 2048, 8192]⟩
abbrev S4x2048x1024 : Shape := ⟨3, ![4, 2048, 1024]⟩
abbrev S4x2048x2048 : Shape := ⟨3, ![4, 2048, 2048]⟩
abbrev S4x2048x8x128 : Shape := ⟨4, ![4, 2048, 8, 128]⟩
abbrev S_ : Shape := ⟨0, ![]⟩
abbrev S4x2048x8x256 : Shape := ⟨4, ![4, 2048, 8, 256]⟩
abbrev S63 : Shape := ⟨1, ![63]⟩
abbrev S1 : Shape := ⟨1, ![1]⟩
abbrev S64 : Shape := ⟨1, ![64]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S4x2048x8x64 : Shape := ⟨4, ![4, 2048, 8, 64]⟩
abbrev S4x32x64x8x128 : Shape := ⟨5, ![4, 32, 64, 8, 128]⟩
abbrev S4x32x64x8x256 : Shape := ⟨5, ![4, 32, 64, 8, 256]⟩
abbrev S8 : Shape := ⟨1, ![8]⟩
abbrev S64x1 : Shape := ⟨2, ![64, 1]⟩
abbrev S64x64 : Shape := ⟨2, ![64, 64]⟩
abbrev S1x64x64 : Shape := ⟨3, ![1, 64, 64]⟩
abbrev S8x1x1 : Shape := ⟨3, ![8, 1, 1]⟩
abbrev S8x64x64 : Shape := ⟨3, ![8, 64, 64]⟩
abbrev S4x32x8x64x64 : Shape := ⟨5, ![4, 32, 8, 64, 64]⟩
abbrev S1x1x8x64x64 : Shape := ⟨5, ![1, 1, 8, 64, 64]⟩
abbrev S32x4x8x256x64 : Shape := ⟨5, ![32, 4, 8, 256, 64]⟩
abbrev S32x4x64x8x256 : Shape := ⟨5, ![32, 4, 64, 8, 256]⟩
abbrev S1x8 : Shape := ⟨2, ![1, 8]⟩
abbrev S64x8 : Shape := ⟨2, ![64, 8]⟩
abbrev S1x1x64x8x1 : Shape := ⟨5, ![1, 1, 64, 8, 1]⟩
abbrev S32x4x8x128x256 : Shape := ⟨5, ![32, 4, 8, 128, 256]⟩
abbrev S1x8x1x1 : Shape := ⟨4, ![1, 8, 1, 1]⟩
abbrev S4x8x128x256 : Shape := ⟨4, ![4, 8, 128, 256]⟩
abbrev S32x4x64x8x128 : Shape := ⟨5, ![32, 4, 64, 8, 128]⟩
abbrev S1x4x8x128x256 : Shape := ⟨5, ![1, 4, 8, 128, 256]⟩
abbrev S1x4x64x8x128 : Shape := ⟨5, ![1, 4, 64, 8, 128]⟩
abbrev S4x64x8x128 : Shape := ⟨4, ![4, 64, 8, 128]⟩
abbrev S1x4x64x8x256 : Shape := ⟨5, ![1, 4, 64, 8, 256]⟩
abbrev S4x64x8x256 : Shape := ⟨4, ![4, 64, 8, 256]⟩
abbrev S4x8x256x64 : Shape := ⟨4, ![4, 8, 256, 64]⟩
abbrev S8x256 : Shape := ⟨2, ![8, 256]⟩
abbrev S4x2048x8 : Shape := ⟨3, ![4, 2048, 8]⟩
abbrev S4x2048x8x1 : Shape := ⟨4, ![4, 2048, 8, 1]⟩
abbrev S1x1x8x256 : Shape := ⟨4, ![1, 1, 8, 256]⟩
abbrev S8192x2048 : Shape := ⟨2, ![8192, 2048]⟩

abbrev nBuf : Space → Nat
  | .hbm => 275
  | .vmem => 0
  | .smem => 0
  | _ => 0

abbrev hbmTy0_0 (i : Nat) : BufTy := match i % 128 with
  | 0 => ⟨S8192x8192, .f32⟩
  | 1 => ⟨S1x8x256, .f32⟩
  | 2 => ⟨S4x2048x8192, .f32⟩
  | 3 => ⟨S4x2048x1024, .f32⟩
  | 4 => ⟨S4x2048x1024, .f32⟩
  | 5 => ⟨S4x2048x2048, .f32⟩
  | 6 => ⟨S4x2048x2048, .f32⟩
  | 7 => ⟨S4x2048x8x128, .f32⟩
  | 8 => ⟨S4x2048x8x128, .f32⟩
  | 9 => ⟨S_, .f32⟩
  | 10 => ⟨S4x2048x8x128, .f32⟩
  | 11 => ⟨S4x2048x8x128, .f32⟩
  | 12 => ⟨S4x2048x8x256, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S63, .f32⟩
  | 21 => ⟨S_, .f32⟩
  | 22 => ⟨S63, .f32⟩
  | 23 => ⟨S63, .f32⟩
  | 24 => ⟨S1, .f32⟩
  | 25 => ⟨S_, .f32⟩
  | 26 => ⟨S63, .f32⟩
  | 27 => ⟨S63, .f32⟩
  | 28 => ⟨S63, .f32⟩
  | 29 => ⟨S63, .f32⟩
  | 30 => ⟨S1, .f32⟩
  | 31 => ⟨S63, .f32⟩
  | 32 => ⟨S63, .f32⟩
  | 33 => ⟨S63, .f32⟩
  | 34 => ⟨S1, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S2048, .f32⟩
  | 43 => ⟨S2048x1, .f32⟩
  | 44 => ⟨S1x64, .f32⟩
  | 45 => ⟨S2048x64, .f32⟩
  | 46 => ⟨S2048x64, .f32⟩
  | 47 => ⟨S2048x64, .f32⟩
  | 48 => ⟨S2048x64, .f32⟩
  | 49 => ⟨S1x2048x1x64, .f32⟩
  | 50 => ⟨S2048x64, .f32⟩
  | 51 => ⟨S1x2048x1x64, .f32⟩
  | 52 => ⟨S4x2048x8x64, .f32⟩
  | 53 => ⟨S4x2048x8x64, .f32⟩
  | 54 => ⟨S4x2048x8x64, .f32⟩
  | 55 => ⟨S4x2048x8x64, .f32⟩
  | 56 => ⟨S4x2048x8x64, .f32⟩
  | 57 => ⟨S4x2048x8x64, .f32⟩
  | 58 => ⟨S4x2048x8x64, .f32⟩
  | 59 => ⟨S4x2048x8x64, .f32⟩
  | 60 => ⟨S4x2048x8x64, .f32⟩
  | 61 => ⟨S4x2048x8x64, .f32⟩
  | 62 => ⟨S4x2048x8x64, .f32⟩
  | 63 => ⟨S4x2048x8x64, .f32⟩
  | 64 => ⟨S4x2048x8x128, .f32⟩
  | 65 => ⟨S4x32x64x8x128, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S63, .f32⟩
  | 74 => ⟨S_, .f32⟩
  | 75 => ⟨S63, .f32⟩
  | 76 => ⟨S63, .f32⟩
  | 77 => ⟨S1, .f32⟩
  | 78 => ⟨S_, .f32⟩
  | 79 => ⟨S63, .f32⟩
  | 80 => ⟨S63, .f32⟩
  | 81 => ⟨S63, .f32⟩
  | 82 => ⟨S63, .f32⟩
  | 83 => ⟨S1, .f32⟩
  | 84 => ⟨S63, .f32⟩
  | 85 => ⟨S63, .f32⟩
  | 86 => ⟨S63, .f32⟩
  | 87 => ⟨S1, .f32⟩
  | 88 => ⟨S64, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S2048, .f32⟩
  | 96 => ⟨S2048x1, .f32⟩
  | 97 => ⟨S1x64, .f32⟩
  | 98 => ⟨S2048x64, .f32⟩
  | 99 => ⟨S2048x64, .f32⟩
  | 100 => ⟨S2048x64, .f32⟩
  | 101 => ⟨S2048x64, .f32⟩
  | 102 => ⟨S1x2048x1x64, .f32⟩
  | 103 => ⟨S2048x64, .f32⟩
  | 104 => ⟨S1x2048x1x64, .f32⟩
  | 105 => ⟨S4x2048x8x64, .f32⟩
  | 106 => ⟨S4x2048x8x64, .f32⟩
  | 107 => ⟨S4x2048x8x64, .f32⟩
  | 108 => ⟨S4x2048x8x64, .f32⟩
  | 109 => ⟨S4x2048x8x64, .f32⟩
  | 110 => ⟨S4x2048x8x64, .f32⟩
  | 111 => ⟨S4x2048x8x64, .f32⟩
  | 112 => ⟨S4x2048x8x64, .f32⟩
  | 113 => ⟨S4x2048x8x64, .f32⟩
  | 114 => ⟨S4x2048x8x64, .f32⟩
  | 115 => ⟨S4x2048x8x64, .f32⟩
  | 116 => ⟨S4x2048x8x64, .f32⟩
  | 117 => ⟨S4x2048x8x128, .f32⟩
  | 118 => ⟨S4x32x64x8x128, .f32⟩
  | 119 => ⟨S4x32x64x8x256, .f32⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S_, .f32⟩
  | _ => ⟨S8192x8192, .f32⟩

abbrev hbmTy0_1 (i : Nat) : BufTy := match i % 128 with
  | 0 => ⟨S8, .f32⟩
  | 1 => ⟨S8, .f32⟩
  | 2 => ⟨S8, .f32⟩
  | 3 => ⟨S64, .f32⟩
  | 4 => ⟨S64x1, .f32⟩
  | 5 => ⟨S1x64, .f32⟩
  | 6 => ⟨S64x64, .f32⟩
  | 7 => ⟨S64x64, .f32⟩
  | 8 => ⟨S64x64, .f32⟩
  | 9 => ⟨S1x64x64, .f32⟩
  | 10 => ⟨S_, .f32⟩
  | 11 => ⟨S1x64x64, .f32⟩
  | 12 => ⟨S1x64x64, .i1⟩
  | 13 => ⟨S_, .f32⟩
  | 14 => ⟨S64x64, .f32⟩
  | 15 => ⟨S64x64, .f32⟩
  | 16 => ⟨S1x64x64, .f32⟩
  | 17 => ⟨S8x1x1, .f32⟩
  | 18 => ⟨S8x64x64, .f32⟩
  | 19 => ⟨S8x64x64, .f32⟩
  | 20 => ⟨S8x64x64, .f32⟩
  | 21 => ⟨S8x64x64, .f32⟩
  | 22 => ⟨S_, .f32⟩
  | 23 => ⟨S_, .f32⟩
  | 24 => ⟨S8x64x64, .i1⟩
  | 25 => ⟨S8x64x64, .f32⟩
  | 26 => ⟨S8x64x64, .f32⟩
  | 27 => ⟨S4x32x8x64x64, .f32⟩
  | 28 => ⟨S1x1x8x64x64, .f32⟩
  | 29 => ⟨S4x32x8x64x64, .f32⟩
  | 30 => ⟨S4x32x8x64x64, .f32⟩
  | 31 => ⟨S32x4x8x256x64, .f32⟩
  | 32 => ⟨S32x4x64x8x256, .f32⟩
  | 33 => ⟨S_, .f32⟩
  | 34 => ⟨S64, .f32⟩
  | 35 => ⟨S64, .f32⟩
  | 36 => ⟨S64x1, .f32⟩
  | 37 => ⟨S1x8, .f32⟩
  | 38 => ⟨S64x8, .f32⟩
  | 39 => ⟨S64x8, .f32⟩
  | 40 => ⟨S64x8, .f32⟩
  | 41 => ⟨S64x8, .f32⟩
  | 42 => ⟨S1x1x64x8x1, .f32⟩
  | 43 => ⟨S4x32x64x8x128, .f32⟩
  | 44 => ⟨S4x32x64x8x128, .f32⟩
  | 45 => ⟨S32x4x8x128x256, .f32⟩
  | 46 => ⟨S_, .f32⟩
  | 47 => ⟨S8, .f32⟩
  | 48 => ⟨S8, .f32⟩
  | 49 => ⟨S8, .f32⟩
  | 50 => ⟨S1x8x1x1, .f32⟩
  | 51 => ⟨S_, .f32⟩
  | 52 => ⟨S64, .f32⟩
  | 53 => ⟨S64, .f32⟩
  | 54 => ⟨S64x1, .f32⟩
  | 55 => ⟨S1x8, .f32⟩
  | 56 => ⟨S64x8, .f32⟩
  | 57 => ⟨S64x8, .f32⟩
  | 58 => ⟨S64x8, .f32⟩
  | 59 => ⟨S64x8, .f32⟩
  | 60 => ⟨S1x1x64x8x1, .f32⟩
  | 61 => ⟨S4x32x64x8x128, .f32⟩
  | 62 => ⟨S4x32x64x8x128, .f32⟩
  | 63 => ⟨S_, .f32⟩
  | 64 => ⟨S4x8x128x256, .f32⟩
  | 65 => ⟨S32x4x64x8x128, .f32⟩
  | 66 => ⟨S_, .f32⟩
  | 67 => ⟨S32x4x64x8x256, .f32⟩
  | 68 => ⟨S_, .i32⟩
  | 69 => ⟨S32x4x8x128x256, .f32⟩
  | 70 => ⟨S32x4x64x8x128, .f32⟩
  | 71 => ⟨S32x4x64x8x256, .f32⟩
  | 72 => ⟨S1x8x1x1, .f32⟩
  | 73 => ⟨S_, .i32⟩
  | 74 => ⟨S4x8x128x256, .f32⟩
  | 75 => ⟨S32x4x64x8x256, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S1x4x8x128x256, .f32⟩
  | 83 => ⟨S4x8x128x256, .f32⟩
  | 84 => ⟨S_, .i32⟩
  | 85 => ⟨S_, .i32⟩
  | 86 => ⟨S_, .i32⟩
  | 87 => ⟨S_, .i32⟩
  | 88 => ⟨S1x4x64x8x128, .f32⟩
  | 89 => ⟨S4x64x8x128, .f32⟩
  | 90 => ⟨S_, .i32⟩
  | 91 => ⟨S_, .i32⟩
  | 92 => ⟨S_, .i32⟩
  | 93 => ⟨S_, .i32⟩
  | 94 => ⟨S1x4x64x8x256, .f32⟩
  | 95 => ⟨S4x64x8x256, .f32⟩
  | 96 => ⟨S4x8x256x64, .f32⟩
  | 97 => ⟨S4x64x8x256, .f32⟩
  | 98 => ⟨S4x8x128x256, .f32⟩
  | 99 => ⟨S4x8x128x256, .f32⟩
  | 100 => ⟨S4x8x128x256, .f32⟩
  | 101 => ⟨S4x64x8x256, .f32⟩
  | 102 => ⟨S1x4x64x8x256, .f32⟩
  | 103 => ⟨S_, .i32⟩
  | 104 => ⟨S_, .i32⟩
  | 105 => ⟨S_, .i32⟩
  | 106 => ⟨S_, .i32⟩
  | 107 => ⟨S32x4x64x8x256, .f32⟩
  | 108 => ⟨S_, .i32⟩
  | 109 => ⟨S_, .i32⟩
  | 110 => ⟨S4x32x64x8x256, .f32⟩
  | 111 => ⟨S4x2048x8192, .f32⟩
  | 112 => ⟨S4x2048x1024, .f32⟩
  | 113 => ⟨S4x2048x1024, .f32⟩
  | 114 => ⟨S4x2048x2048, .f32⟩
  | 115 => ⟨S4x2048x2048, .f32⟩
  | 116 => ⟨S8x256, .f32⟩
  | 117 => ⟨S4x2048x8x256, .f32⟩
  | 118 => ⟨S4x2048x8x256, .f32⟩
  | 119 => ⟨S_, .f32⟩
  | 120 => ⟨S4x2048x8, .f32⟩
  | 121 => ⟨S4x2048x8x1, .f32⟩
  | 122 => ⟨S_, .f32⟩
  | 123 => ⟨S4x2048x8x1, .f32⟩
  | 124 => ⟨S4x2048x8x1, .f32⟩
  | 125 => ⟨S_, .f32⟩
  | 126 => ⟨S4x2048x8x1, .f32⟩
  | 127 => ⟨S4x2048x8x1, .f32⟩
  | _ => ⟨S8192x8192, .f32⟩

abbrev hbmTy0_2 (i : Nat) : BufTy := match i % 128 with
  | 0 => ⟨S4x2048x8x1, .f32⟩
  | 1 => ⟨S4x2048x8x256, .f32⟩
  | 2 => ⟨S4x2048x8x256, .f32⟩
  | 3 => ⟨S1x1x8x256, .f32⟩
  | 4 => ⟨S4x2048x8x256, .f32⟩
  | 5 => ⟨S4x2048x8x256, .f32⟩
  | 6 => ⟨S4x2048x2048, .f32⟩
  | 7 => ⟨S4x2048x2048, .f32⟩
  | 8 => ⟨S_, .f32⟩
  | 9 => ⟨S4x2048x2048, .f32⟩
  | 10 => ⟨S4x2048x2048, .f32⟩
  | 11 => ⟨S_, .f32⟩
  | 12 => ⟨S4x2048x2048, .f32⟩
  | 13 => ⟨S4x2048x2048, .f32⟩
  | 14 => ⟨S4x2048x2048, .f32⟩
  | 15 => ⟨S4x2048x2048, .f32⟩
  | 16 => ⟨S4x2048x2048, .f32⟩
  | 17 => ⟨S8192x2048, .f32⟩
  | 18 => ⟨S8192x2048, .bf16⟩
  | _ => ⟨S8192x8192, .f32⟩

abbrev hbmTy (i : Nat) : BufTy := match i / 128 with
  | 0 => hbmTy0_0 i
  | 1 => hbmTy0_1 i
  | 2 => hbmTy0_2 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_cst_5 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_cst : Ref sig .tc := ⟨.hbm, 71, rfl⟩
abbrev main_call1_v3 : Ref sig .tc := ⟨.hbm, 72, rfl⟩
abbrev main_call1_v4 : Ref sig .tc := ⟨.hbm, 73, rfl⟩
abbrev main_call1_cst_0 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_v15 : Ref sig .tc := ⟨.hbm, 86, rfl⟩
abbrev main_call1_v16 : Ref sig .tc := ⟨.hbm, 87, rfl⟩
abbrev main_v39 : Ref sig .tc := ⟨.hbm, 88, rfl⟩
abbrev main_cst_6 : Ref sig .tc := ⟨.hbm, 89, rfl⟩
abbrev main_v40 : Ref sig .tc := ⟨.hbm, 90, rfl⟩
abbrev main_v41 : Ref sig .tc := ⟨.hbm, 91, rfl⟩
abbrev main_cst_7 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_8 : Ref sig .tc := ⟨.hbm, 121, rfl⟩
abbrev main_v70 : Ref sig .tc := ⟨.hbm, 122, rfl⟩
abbrev main_v71 : Ref sig .tc := ⟨.hbm, 123, rfl⟩
abbrev main_cst_9 : Ref sig .tc := ⟨.hbm, 124, rfl⟩
abbrev main_v72 : Ref sig .tc := ⟨.hbm, 125, rfl⟩
abbrev main_v73 : Ref sig .tc := ⟨.hbm, 126, rfl⟩
abbrev main_cst_10 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_11 : Ref sig .tc := ⟨.hbm, 138, rfl⟩
abbrev main_v84 : Ref sig .tc := ⟨.hbm, 139, rfl⟩
abbrev main_v85 : Ref sig .tc := ⟨.hbm, 140, rfl⟩
abbrev main_cst_12 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_13 : Ref sig .tc := ⟨.hbm, 150, rfl⟩
abbrev main_call2_v0 : Ref sig .tc := ⟨.hbm, 151, rfl⟩
abbrev main_call2_v1 : Ref sig .tc := ⟨.hbm, 152, rfl⟩
abbrev main_call2_v2 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_cst_14 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_15 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_16 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_cst_17 : Ref sig .tc := ⟨.hbm, 191, rfl⟩
abbrev main_v128 : Ref sig .tc := ⟨.hbm, 192, rfl⟩
abbrev main_v129 : Ref sig .tc := ⟨.hbm, 193, rfl⟩
abbrev main_cst_18 : Ref sig .tc := ⟨.hbm, 194, rfl⟩
abbrev main_v130 : Ref sig .tc := ⟨.hbm, 195, rfl⟩
abbrev main_c : Ref sig .tc := ⟨.hbm, 196, rfl⟩
abbrev main_v131_0 : Ref sig .tc := ⟨.hbm, 197, rfl⟩
abbrev main_v131_1 : Ref sig .tc := ⟨.hbm, 198, rfl⟩
abbrev main_v131_2 : Ref sig .tc := ⟨.hbm, 199, rfl⟩
abbrev main_v131_3 : Ref sig .tc := ⟨.hbm, 200, rfl⟩
abbrev main_v131_4 : Ref sig .tc := ⟨.hbm, 201, rfl⟩
abbrev main_v131_5 : Ref sig .tc := ⟨.hbm, 202, rfl⟩
abbrev main_v131_6 : Ref sig .tc := ⟨.hbm, 203, rfl⟩
abbrev main_while0c_c_28 : Ref sig .tc := ⟨.hbm, 204, rfl⟩
abbrev main_while0c_v158 : Ref sig .tc := ⟨.hbm, 205, rfl⟩
abbrev main_while0b_call3_c : Ref sig .tc := ⟨.hbm, 206, rfl⟩
abbrev main_while0b_call3_c_0 : Ref sig .tc := ⟨.hbm, 207, rfl⟩
abbrev main_while0b_call3_c_1 : Ref sig .tc := ⟨.hbm, 208, rfl⟩
abbrev main_while0b_call3_c_2 : Ref sig .tc := ⟨.hbm, 209, rfl⟩
abbrev main_while0b_call3_v0 : Ref sig .tc := ⟨.hbm, 210, rfl⟩
abbrev main_while0b_v158 : Ref sig .tc := ⟨.hbm, 211, rfl⟩
abbrev main_while0b_call4_c : Ref sig .tc := ⟨.hbm, 212, rfl⟩
abbrev main_while0b_call4_c_0 : Ref sig .tc := ⟨.hbm, 213, rfl⟩
abbrev main_while0b_call4_c_1 : Ref sig .tc := ⟨.hbm, 214, rfl⟩
abbrev main_while0b_call4_c_2 : Ref sig .tc := ⟨.hbm, 215, rfl⟩
abbrev main_while0b_call4_v0 : Ref sig .tc := ⟨.hbm, 216, rfl⟩
abbrev main_while0b_v159 : Ref sig .tc := ⟨.hbm, 217, rfl⟩
abbrev main_while0b_call5_c : Ref sig .tc := ⟨.hbm, 218, rfl⟩
abbrev main_while0b_call5_c_0 : Ref sig .tc := ⟨.hbm, 219, rfl⟩
abbrev main_while0b_call5_c_1 : Ref sig .tc := ⟨.hbm, 220, rfl⟩
abbrev main_while0b_call5_c_2 : Ref sig .tc := ⟨.hbm, 221, rfl⟩
abbrev main_while0b_call5_v0 : Ref sig .tc := ⟨.hbm, 222, rfl⟩
abbrev main_while0b_v160 : Ref sig .tc := ⟨.hbm, 223, rfl⟩
abbrev main_while0b_v161 : Ref sig .tc := ⟨.hbm, 224, rfl⟩
abbrev main_while0b_v162 : Ref sig .tc := ⟨.hbm, 225, rfl⟩
abbrev main_while0b_v163 : Ref sig .tc := ⟨.hbm, 226, rfl⟩
abbrev main_while0b_v164 : Ref sig .tc := ⟨.hbm, 227, rfl⟩
abbrev main_while0b_v165 : Ref sig .tc := ⟨.hbm, 228, rfl⟩
abbrev main_while0b_v166 : Ref sig .tc := ⟨.hbm, 229, rfl⟩
abbrev main_while0b_call6_v0 : Ref sig .tc := ⟨.hbm, 230, rfl⟩
abbrev main_while0b_call6_c : Ref sig .tc := ⟨.hbm, 231, rfl⟩
abbrev main_while0b_call6_c_0 : Ref sig .tc := ⟨.hbm, 232, rfl⟩
abbrev main_while0b_call6_c_1 : Ref sig .tc := ⟨.hbm, 233, rfl⟩
abbrev main_while0b_call6_c_2 : Ref sig .tc := ⟨.hbm, 234, rfl⟩
abbrev main_while0b_v167 : Ref sig .tc := ⟨.hbm, 235, rfl⟩
abbrev main_while0b_c_28 : Ref sig .tc := ⟨.hbm, 236, rfl⟩
abbrev main_while0b_v168 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_cst_19 : Ref sig .tc := ⟨.hbm, 247, rfl⟩
abbrev main_v141 : Ref sig .tc := ⟨.hbm, 248, rfl⟩
abbrev main_v142 : Ref sig .tc := ⟨.hbm, 249, rfl⟩
abbrev main_cst_20 : Ref sig .tc := ⟨.hbm, 250, rfl⟩
abbrev main_v143 : Ref sig .tc := ⟨.hbm, 251, rfl⟩
abbrev main_v144 : Ref sig .tc := ⟨.hbm, 252, rfl⟩
abbrev main_cst_21 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_call7_v0 : Ref sig .tc := ⟨.hbm, 262, rfl⟩
abbrev main_call7_v1 : Ref sig .tc := ⟨.hbm, 263, rfl⟩
abbrev main_call7_cst : Ref sig .tc := ⟨.hbm, 264, rfl⟩
abbrev main_call7_v2 : Ref sig .tc := ⟨.hbm, 265, rfl⟩
abbrev main_call7_v3 : Ref sig .tc := ⟨.hbm, 266, rfl⟩
abbrev main_call7_cst_0 : Ref sig .tc := ⟨.hbm, 267, rfl⟩
abbrev main_call7_v4 : Ref sig .tc := ⟨.hbm, 268, rfl⟩
abbrev main_call7_v5 : Ref sig .tc := ⟨.hbm, 269, rfl⟩
abbrev main_v153 : Ref sig .tc := ⟨.hbm, 270, rfl⟩
abbrev main_v154 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x4096 : Shape := ⟨2, ![8192, 4096]⟩
abbrev S1x4096x8192 : Shape := ⟨3, ![1, 4096, 8192]⟩
abbrev S1x8192 : Shape := ⟨2, ![1, 8192]⟩
abbrev S1x16384x4096 : Shape := ⟨3, ![1, 16384, 4096]⟩
abbrev S4096x8192 : Shape := ⟨2, ![4096, 8192]⟩
abbrev S8192 : Shape := ⟨1, ![8192]⟩
abbrev S16384x4096 : Shape := ⟨2, ![16384, 4096]⟩
abbrev S8192x8192 : Shape := ⟨2, ![8192, 8192]⟩
abbrev S1024x4096 : Shape := ⟨2, ![1024, 4096]⟩
abbrev S4096x512 : Shape := ⟨2, ![4096, 512]⟩
abbrev S1x512 : Shape := ⟨2, ![1, 512]⟩
abbrev S128x4096 : Shape := ⟨2, ![128, 4096]⟩
abbrev S1024x512 : Shape := ⟨2, ![1024, 512]⟩

abbrev nBuf : Space → Nat
  | .hbm => 10
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1x4096x8192, .f32⟩
  | .hbm, ⟨2, _⟩ => ⟨S1x8192, .f32⟩
  | .hbm, ⟨3, _⟩ => ⟨S1x16384x4096, .f32⟩
  | .hbm, ⟨4, _⟩ => ⟨S4096x8192, .f32⟩
  | .hbm, ⟨5, _⟩ => ⟨S8192, .f32⟩
  | .hbm, ⟨6, _⟩ => ⟨S1x8192, .f32⟩
  | .hbm, ⟨7, _⟩ => ⟨S16384x4096, .f32⟩
  | .hbm, ⟨8, _⟩ => ⟨S8192x8192, .bf16⟩
  | .hbm, ⟨9, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S1x512, .f32⟩
  | .local _ .vmem, ⟨6, _⟩ => ⟨S128x4096, .f32⟩
  | .local _ .vmem, ⟨7, _⟩ => ⟨S128x4096, .f32⟩
  | .local _ .vmem, ⟨8, _⟩ => ⟨S1024x512, .bf16⟩
  | .local _ .vmem, ⟨9, _⟩ => ⟨S1024x512, .bf16⟩
  | .local _ .vmem, ⟨10, _⟩ => ⟨S128x4096, .bf16⟩
  | .local _ .vmem, ⟨11, _⟩ => ⟨S128x4096, .bf16⟩
  | .local _ .vmem, ⟨12, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x4096 : Shape := ⟨2, ![8192, 4096]⟩
abbrev S1x4096x8192 : Shape := ⟨3, ![1, 4096, 8192]⟩
abbrev S1x8192 : Shape := ⟨2, ![1, 8192]⟩
abbrev S1x16384x4096 : Shape := ⟨3, ![1, 16384, 4096]⟩
abbrev S4096x8192 : Shape := ⟨2, ![4096, 8192]⟩
abbrev S8192x8192 : Shape := ⟨2, ![8192, 8192]⟩
abbrev S8192 : Shape := ⟨1, ![8192]⟩
abbrev S_ : Shape := ⟨0, ![]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x8192, .f32⟩
  | .hbm, ⟨2, _⟩ => ⟨S1x8192, .f32⟩
  | .hbm, ⟨3, _⟩ => ⟨S1x16384x4096, .f32⟩
  | .hbm, ⟨4, _⟩ => ⟨S8192x4096, .f32⟩
  | .hbm, ⟨5, _⟩ => ⟨S4096x8192, .f32⟩
  | .hbm, ⟨6, _⟩ => ⟨S8192x8192, .f32⟩
  | .hbm, ⟨7, _⟩ => ⟨S8192, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .bf16⟩
  | .hbm, ⟨20, _⟩ => ⟨S16384x4096, .f32⟩
  | .hbm, ⟨21, _⟩ => ⟨S16384x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel3.lean ====
abbrev S8192x4096 : Shape := ⟨2, ![8192, 4096]⟩
abbrev S4096x8192 : Shape := ⟨2, ![4096, 8192]⟩
abbrev S1x16384x4096 : Shape := ⟨3, ![1, 16384, 4096]⟩
abbrev S16384x4096 : Shape := ⟨2, ![16384, 4096]⟩
abbrev S8192x8192 : Shape := ⟨2, ![8192, 8192]⟩
abbrev S32x4096x512 : Shape := ⟨3, ![32, 4096, 512]⟩
abbrev S1024x4096 : Shape := ⟨2, ![1024, 4096]⟩
abbrev S4096x512 : Shape := ⟨2, ![4096, 512]⟩
abbrev S128x4096 : Shape := ⟨2, ![128, 4096]⟩
abbrev S1024x512 : Shape := ⟨2, ![1024, 512]⟩
abbrev S1x4096x128 : Shape := ⟨3, ![1, 4096, 128]⟩
abbrev S4096x128 : Shape := ⟨2, ![4096, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .bf16⟩
  | .hbm, ⟨2, _⟩ => ⟨S1x16384x4096, .f32⟩
  | .hbm, ⟨3, _⟩ => ⟨S16384x4096, .f32⟩
  | .hbm, ⟨4, _⟩ => ⟨S8192x8192, .f32⟩
  | .hbm, ⟨5, _⟩ => ⟨S32x4096x512, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S128x4096, .f32⟩
  | .local _ .vmem, ⟨5, _⟩ => ⟨S128x4096, .f32⟩
  | .local _ .vmem, ⟨6, _⟩ => ⟨S1024x512, .f32⟩
  | .local _ .vmem, ⟨7, _⟩ => ⟨S1024x512, .f32⟩
  | .local _ .vmem, ⟨8, _⟩ => ⟨S1x4096x128, .bf16⟩
  | .local _ .vmem, ⟨9, _⟩ => ⟨S1x4096x128, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16_i32_4 : BitVec 32 := 16#32
  let v19 : BitVec 32 := Scalar.muli arg0 c16_i32_4
  let v20 : BitVec 32 := Scalar.addi v19 arg1
  let c4_i32_5 : BitVec 32 := 4#32
  let c0_i32_6 : BitVec 32 := 0#32
  let v21 : BitVec 1 := Scalar.cmpi .eq c4_i32_5 c0_i32_6
  let c1_i32_7 : BitVec 32 := 1#32
  let v22 : BitVec 32 := Scalar.select v21 c1_i32_7 c4_i32_5
  let v23 : BitVec 32 := Scalar.remsi v20 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c0_i32_11 : BitVec 32 := 0#32
  let c0_i32_12 : BitVec 32 := 0#32
  ![v18.toNat, c0_i32_11.toNat, v30.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8192x4096 : Shape := ⟨2, ![8192, 4096]⟩
abbrev S4096x8192 : Shape := ⟨2, ![4096, 8192]⟩
abbrev S1x16384x4096 : Shape := ⟨3, ![1, 16384, 4096]⟩
abbrev S8192x8192 : Shape := ⟨2, ![8192, 8192]⟩
abbrev S16384x4096 : Shape := ⟨2, ![16384, 4096]⟩
abbrev S32x512x4096 : Shape := ⟨3, ![32, 512, 4096]⟩
abbrev S32x4096x512 : Shape := ⟨3, ![32, 4096, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .bf16⟩
  | .hbm, ⟨2, _⟩ => ⟨S1x16384x4096, .f32⟩
  | .hbm, ⟨3, _⟩ => ⟨S8192x4096, .f32⟩
  | .hbm, ⟨4, _⟩ => ⟨S4096x8192, .f32⟩
  | .hbm, ⟨5, _⟩ => ⟨S8192x8192, .f32⟩
  | .hbm, ⟨6, _⟩ => ⟨S16384x4096, .f32⟩
  | .hbm, ⟨7, _⟩ => ⟨S32x512x4096, .f32⟩
  | .hbm, ⟨8, _⟩ => ⟨S32x4096x512, .f32⟩
  | .hbm, ⟨9, _⟩ => ⟨S32x4096x512, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2048 : Shape := ⟨2, ![8192, 2048]⟩
abbrev S1x4096x4096 : Shape := ⟨3, ![1, 4096, 4096]⟩
abbrev S8192x8192 : Shape := ⟨2, ![8192, 8192]⟩
abbrev S4096x4096 : Shape := ⟨2, ![4096, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x8192, .bf16⟩
  | .hbm, ⟨4, _⟩ => ⟨S4096x4096, .f32⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x512, .bf16⟩
  | .local _ .vmem, ⟨15, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8192x2048 : Shape := ⟨2, ![8192, 2048]⟩
abbrev S1x4096x4096 : Shape := ⟨3, ![1, 4096, 4096]⟩
abbrev S8192x8192 : Shape := ⟨2, ![8192, 8192]⟩
abbrev S1x2048x4096 : Shape := ⟨3, ![1, 2048, 4096]⟩
abbrev S2048x4096 : Shape := ⟨2, ![2048, 4096]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x8192, .bf16⟩
  | .hbm, ⟨4, _⟩ => ⟨S8192x2048, .f32⟩
  | .hbm, ⟨5, _⟩ => ⟨S1x2048x4096, .f32⟩
  | .hbm, ⟨6, _⟩ => ⟨S2048x4096, .f32⟩
  | .hbm, ⟨7, _⟩ => ⟨S8192x4096, .f32⟩
  | .hbm, ⟨8, _⟩ => ⟨S8192x2048, .f32⟩
  | .hbm, ⟨9, _⟩ => ⟨S1x2048x4096, .f32⟩
  | .hbm, ⟨10, _⟩ => ⟨S2048x4096, .f32⟩
  | .hbm, ⟨11, _⟩ => ⟨S8192x4096, .f32⟩
  | .hbm, ⟨12, _⟩ => ⟨S8192x8192, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel5.lean ====
abbrev S8192x4096 : Shape := ⟨2, ![8192, 4096]⟩
abbrev S1x4096x4096 : Shape := ⟨3, ![1, 4096, 4096]⟩
abbrev S4x2048x4096 : Shape := ⟨3, ![4, 2048, 4096]⟩
abbrev S24x1x4096 : Shape := ⟨3, ![24, 1, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S4x2048x4096, .f32⟩
  | .hbm, ⟨3, _⟩ => ⟨S24x1x4096, .f32⟩
  | .hbm, ⟨4, _⟩ => ⟨S4096x4096, .f32⟩
  | .hbm, ⟨5, _⟩ => ⟨S8192x4096, .f32⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32_4 : BitVec 32 := 2#32
  let v18 : BitVec 32 := Scalar.addi v17 c2_i32_4
  let c0_i32_5 : BitVec 32 := 0#32
  let c0_i32_6 : BitVec 32 := 0#32
  ![v18.toNat, c0_i32_5.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x4096 : Shape := ⟨2, ![8192, 4096]⟩
abbrev S1x4096x4096 : Shape := ⟨3, ![1, 4096, 4096]⟩
abbrev S4x2048x4096 : Shape := ⟨3, ![4, 2048, 4096]⟩
abbrev S24x1x4096 : Shape := ⟨3, ![24, 1, 4096]⟩
abbrev S4096x4096 : Shape := ⟨2, ![4096, 4096]⟩
abbrev S4x6x4096 : Shape := ⟨3, ![4, 6, 4096]⟩
abbrev S4x1x4096 : Shape := ⟨3, ![4, 1, 4096]⟩
abbrev S4x4096 : Shape := ⟨2, ![4, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S4x2048x4096, .f32⟩
  | .hbm, ⟨3, _⟩ => ⟨S24x1x4096, .f32⟩
  | .hbm, ⟨4, _⟩ => ⟨S8192x4096, .f32⟩
  | .hbm, ⟨5, _⟩ => ⟨S4x2048x4096, .f32⟩
  | .hbm, ⟨6, _⟩ => ⟨S4096x4096, .f32⟩
  | .hbm, ⟨7, _⟩ => ⟨S4x2048x4096, .f32⟩
  | .hbm, ⟨8, _⟩ => ⟨S4x6x4096, .f32⟩
  | .hbm, ⟨9, _⟩ => ⟨S4x1x4096, .f32⟩
  | .hbm, ⟨10, _⟩ => ⟨S4x4096, .f32⟩
  | .hbm, ⟨11, _⟩ => ⟨S4x1x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel6.lean ====
abbrev S8192x1024 : Shape := ⟨2, ![8192, 1024]⟩
abbrev S1024x10240 : Shape := ⟨2, ![1024, 10240]⟩
abbrev S8192x10240 : Shape := ⟨2, ![8192, 10240]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x10240, .bf16⟩
  | .hbm, ⟨2, _⟩ => ⟨S8192x10240, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x1024 : Shape := ⟨2, ![8192, 1024]⟩
abbrev S1024x10240 : Shape := ⟨2, ![1024, 10240]⟩
abbrev S8192x10240 : Shape := ⟨2, ![8192, 10240]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10240, .bf16⟩
  | .hbm, ⟨2, _⟩ => ⟨S8192x1024, .f32⟩
  | .hbm, ⟨3, _⟩ => ⟨S1024x10240, .f32⟩
  | .hbm, ⟨4, _⟩ => ⟨S8192x10240, .f32⟩
  | .hbm, ⟨5, _⟩ => ⟨S8192x10240, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S2048x4096 : Shape := ⟨2, ![2048, 4096]⟩
abbrev S4096x8192 : Shape := ⟨2, ![4096, 8192]⟩
abbrev S2048x8192 : Shape := ⟨2, ![2048, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S4096x8192, .bf16⟩
  | .hbm, ⟨2, _⟩ => ⟨S2048x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x4096 : Shape := ⟨2, ![2048, 4096]⟩
abbrev S4096x8192 : Shape := ⟨2, ![4096, 8192]⟩
abbrev S4096x2048 : Shape := ⟨2, ![4096, 2048]⟩
abbrev S8192x4096 : Shape := ⟨2, ![8192, 4096]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x8192, .bf16⟩
  | .hbm, ⟨2, _⟩ => ⟨S4096x2048, .bf16⟩
  | .hbm, ⟨3, _⟩ => ⟨S4096x2048, .f32⟩
  | .hbm, ⟨4, _⟩ => ⟨S8192x4096, .bf16⟩
  | .hbm, ⟨5, _⟩ => ⟨S8192x4096, .f32⟩
  | .hbm, ⟨6, _⟩ => ⟨S2048x8192, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S8192x10240 : Shape := ⟨2, ![8192, 10240]⟩
abbrev S1x512x16x128 : Shape := ⟨4, ![1, 512, 16, 128]⟩
abbrev S512x16x128 : Shape := ⟨3, ![512, 16, 128]⟩
abbrev S16x128x512 : Shape := ⟨3, ![16, 128, 512]⟩
abbrev S64x16x128x512 : Shape := ⟨4, ![64, 16, 128, 512]⟩
abbrev S512x2048 : Shape := ⟨2, ![512, 2048]⟩
abbrev S4x16x128x512 : Shape := ⟨4, ![4, 16, 128, 512]⟩
abbrev S512x128 : Shape := ⟨2, ![512, 128]⟩
abbrev S1x128x512 : Shape := ⟨3, ![1, 128, 512]⟩
abbrev S128x512 : Shape := ⟨2, ![128, 512]⟩
abbrev S512x512 : Shape := ⟨2, ![512, 512]⟩
abbrev S4x128x512 : Shape := ⟨3, ![4, 128, 512]⟩
abbrev S4x1x128x512 : Shape := ⟨4, ![4, 1, 128, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x10240, .bf16⟩
  | .hbm, ⟨1, _⟩ => ⟨S1x512x16x128, .f32⟩
  | .hbm, ⟨2, _⟩ => ⟨S512x16x128, .f32⟩
  | .hbm, ⟨3, _⟩ => ⟨S16x128x512, .f32⟩
  | .hbm, ⟨4, _⟩ => ⟨S16x128x512, .bf16⟩
  | .hbm, ⟨5, _⟩ => ⟨S64x16x128x512, .bf16⟩
  | .local _ .vmem, ⟨0, _⟩ => ⟨S512x2048, .bf16⟩
  | .local _ .vmem, ⟨1, _⟩ => ⟨S512x2048, .bf16⟩
  | .local _ .vmem, ⟨2, _⟩ => ⟨S16x128x512, .bf16⟩
  | .local _ .vmem, ⟨3, _⟩ => ⟨S4x16x128x512, .bf16⟩
  | .local _ .vmem, ⟨4, _⟩ => ⟨S4x16x128x512, .bf16⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x10240 : Shape := ⟨2, ![8192, 10240]⟩
abbrev S1x512x16x128 : Shape := ⟨4, ![1, 512, 16, 128]⟩
abbrev S8192x2048 : Shape := ⟨2, ![8192, 2048]⟩
abbrev S8192x16x128 : Shape := ⟨3, ![8192, 16, 128]⟩
abbrev S512x16x128 : Shape := ⟨3, ![512, 16, 128]⟩
abbrev S16x512x8192 : Shape := ⟨3, ![16, 512, 8192]⟩
abbrev S8192x16x512 : Shape := ⟨3, ![8192, 16, 512]⟩
abbrev S64x128x16x512 : Shape := ⟨4, ![64, 128, 16, 512]⟩
abbrev S64x16x128x512 : Shape := ⟨4, ![64, 16, 128, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S1x512x16x128, .f32⟩
  | .hbm, ⟨2, _⟩ => ⟨S8192x10240, .f32⟩
  | .hbm, ⟨3, _⟩ => ⟨S8192x2048, .f32⟩
  | .hbm, ⟨4, _⟩ => ⟨S8192x16x128, .f32⟩
  | .hbm, ⟨5, _⟩ => ⟨S512x16x128, .f32⟩
  | .hbm, ⟨6, _⟩ => ⟨S16x512x8192, .f32⟩
  | .hbm, ⟨7, _⟩ => ⟨S8192x16x512, .f32⟩
  | .hbm, ⟨8, _⟩ => ⟨S64x128x16x512, .f32⟩
  | .hbm, ⟨9, _⟩ => ⟨S64x16x128x512, .f32⟩
  | .hbm, ⟨10, _⟩ => ⟨S64x16x128x512, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel9.lean ====
abbrev S4x2048x4096 : Shape := ⟨3, ![4, 2048, 4096]⟩
abbrev S1x4096 : Shape := ⟨2, ![1, 4096]⟩
abbrev S24x1x4096 : Shape := ⟨3, ![24, 1, 4096]⟩
abbrev S8192x4096 : Shape := ⟨2, ![8192, 4096]⟩
abbrev S4096 : Shape := ⟨1, ![4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S24x1x4096, .f32⟩
  | .hbm, ⟨3, _⟩ => ⟨S8192x4096, .f32⟩
  | .hbm, ⟨4, _⟩ => ⟨S4096, .f32⟩
  | .hbm, ⟨5, _⟩ => ⟨S1x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S4x2048x4096 : Shape := ⟨3, ![4, 2048, 4096]⟩
abbrev S1x4096 : Shape := ⟨2, ![1, 4096]⟩
abbrev S24x1x4096 : Shape := ⟨3, ![24, 1, 4096]⟩
abbrev S4x6x4096 : Shape := ⟨3, ![4, 6, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x1x4096 : Shape := ⟨3, ![4, 1, 4096]⟩
abbrev S4x4096 : Shape := ⟨2, ![4, 4096]⟩
abbrev S8192x4096 : Shape := ⟨2, ![8192, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S24x1x4096, .f32⟩
  | .hbm, ⟨3, _⟩ => ⟨S4x6x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S4x1x4096, .f32⟩
  | .hbm, ⟨22, _⟩ => ⟨S4x4096, .f32⟩
  | .hbm, ⟨23, _⟩ => ⟨S4x1x4096, .f32⟩
  | .hbm, ⟨24, _⟩ => ⟨S4x4096, .f32⟩
  | .hbm, ⟨25, _⟩ => ⟨S4x1x4096, .f32⟩
  | .hbm, ⟨26, _⟩ => ⟨S_, .f32⟩
  | .hbm, ⟨27, _⟩ => ⟨S4x1x4096, .f32⟩
  | .hbm, ⟨28, _⟩ => ⟨S4x1x4096, .f32⟩
  | .hbm, ⟨29, _⟩ => ⟨S4x2048x4096, .f32⟩
  | .hbm, ⟨30, _⟩ => ⟨S4x2048x4096, .f32⟩
  | .hbm, ⟨31, _⟩ => ⟨S4x1x4096, .f32⟩
  | .hbm, ⟨32, _⟩ => ⟨S4x2048x4096, .f32⟩
  | .hbm, ⟨33, _⟩ => ⟨S4x2048x4096, .f32⟩
  | .hbm, ⟨34, _⟩ => ⟨S8192x4096, .f32⟩
  | .hbm, ⟨35, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel10.lean ====
abbrev S8192x4096 : Shape := ⟨2, ![8192, 4096]⟩
abbrev S1x4096 : Shape := ⟨2, ![1, 4096]⟩
abbrev S24x1x4096 : Shape := ⟨3, ![24, 1, 4096]⟩
abbrev S4096 : Shape := ⟨1, ![4096]⟩
abbrev S4096x8192 : Shape := ⟨2, ![4096, 8192]⟩
abbrev S256x4096 : Shape := ⟨2, ![256, 4096]⟩
abbrev S1x1x4096 : Shape := ⟨3, ![1, 1, 4096]⟩
abbrev S4096x256 : Shape := ⟨2, ![4096, 256]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S24x1x4096, .f32⟩
  | .hbm, ⟨3, _⟩ => ⟨S4096, .f32⟩
  | .hbm, ⟨4, _⟩ => ⟨S1x4096, .f32⟩
  | .hbm, ⟨5, _⟩ => ⟨S4096x8192, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x256, .bf16⟩
  | .local _ .vmem, ⟨8, _⟩ => ⟨S4096x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x4096 : Shape := ⟨2, ![8192, 4096]⟩
abbrev S1x4096 : Shape := ⟨2, ![1, 4096]⟩
abbrev S24x1x4096 : Shape := ⟨3, ![24, 1, 4096]⟩
abbrev S4x6x4096 : Shape := ⟨3, ![4, 6, 4096]⟩
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x1x4096 : Shape := ⟨3, ![4, 1, 4096]⟩
abbrev S4x4096 : Shape := ⟨2, ![4, 4096]⟩
abbrev S4096x8192 : Shape := ⟨2, ![4096, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S24x1x4096, .f32⟩
  | .hbm, ⟨3, _⟩ => ⟨S4x6x4096, .f32⟩
  | .hbm, ⟨4, _⟩ => ⟨S4x2048x4096, .f32⟩
  | .hbm, ⟨5, _⟩ => ⟨S4096, .f32⟩
  | .hbm, ⟨6, _⟩ => ⟨S4x2048x4096, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | .hbm, ⟨22, _⟩ => ⟨S4x1x4096, .f32⟩
  | .hbm, ⟨23, _⟩ => ⟨S4x4096, .f32⟩
  | .hbm, ⟨24, _⟩ => ⟨S4x1x4096, .f32⟩
  | .hbm, ⟨25, _⟩ => ⟨S4x4096, .f32⟩
  | .hbm, ⟨26, _⟩ => ⟨S4x1x4096, .f32⟩
  | .hbm, ⟨27, _⟩ => ⟨S_, .f32⟩
  | .hbm, ⟨28, _⟩ => ⟨S4x1x4096, .f32⟩
  | .hbm, ⟨29, _⟩ => ⟨S4x1x4096, .f32⟩
  | .hbm, ⟨30, _⟩ => ⟨S4x2048x4096, .f32⟩
  | .hbm, ⟨31, _⟩ => ⟨S4x2048x4096, .f32⟩
  | .hbm, ⟨32, _⟩ => ⟨S4x1x4096, .f32⟩
  | .hbm, ⟨33, _⟩ => ⟨S4x2048x4096, .f32⟩
  | .hbm, ⟨34, _⟩ => ⟨S4x2048x4096, .f32⟩
  | .hbm, ⟨35, _⟩ => ⟨S8192x4096, .f32⟩
  | .hbm, ⟨36, _⟩ => ⟨S4096x8192, .f32⟩
  | .hbm, ⟨37, _⟩ => ⟨S4096x8192, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel11.lean ====
abbrev S8192x4096 : Shape := ⟨2, ![8192, 4096]⟩
abbrev S4096x8192 : Shape := ⟨2, ![4096, 8192]⟩
abbrev S24x1x4096 : Shape := ⟨3, ![24, 1, 4096]⟩
abbrev S4096 : Shape := ⟨1, ![4096]⟩
abbrev S1x4096 : Shape := ⟨2, ![1, 4096]⟩
abbrev S256x4096 : Shape := ⟨2, ![256, 4096]⟩
abbrev S4096x256 : Shape := ⟨2, ![4096, 256]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x8192, .f32⟩
  | .hbm, ⟨2, _⟩ => ⟨S24x1x4096, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8192x4096 : Shape := ⟨2, ![8192, 4096]⟩
abbrev S4096x8192 : Shape := ⟨2, ![4096, 8192]⟩
abbrev S24x1x4096 : Shape := ⟨3, ![24, 1, 4096]⟩
abbrev S4096 : Shape := ⟨1, ![4096]⟩
abbrev S4x6x4096 : Shape := ⟨3, ![4, 6, 4096]⟩
abbrev S4x1x4096 : Shape := ⟨3, ![4, 1, 4096]⟩
abbrev S4x4096 : Shape := ⟨2, ![4, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x8192, .f32⟩
  | .hbm, ⟨2, _⟩ => ⟨S24x1x4096, .f32⟩
  | .hbm, ⟨3, _⟩ => ⟨S4096, .f32⟩
  | .hbm, ⟨4, _⟩ => ⟨S4x6x4096, .f32⟩
  | .hbm, ⟨5, _⟩ => ⟨S4x1x4096, .f32⟩
  | .hbm, ⟨6, _⟩ => ⟨S4x4096, .f32⟩
  | .hbm, ⟨7, _⟩ => ⟨S8192x4096, .f32⟩
  | .hbm, ⟨8, _⟩ => ⟨S4x2048x4096, .f32⟩
  | .hbm, ⟨9, _⟩ => ⟨S4x2048x4096, .f32⟩
  | .hbm, ⟨10, _⟩ => ⟨S4x1x4096, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x4096, .f32⟩
  | .hbm, ⟨26, _⟩ => ⟨S4x2048x4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | .hbm, ⟨30, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel12.lean ====
abbrev S8192x8192 : Shape := ⟨2, ![8192, 8192]⟩
abbrev S1x1024 : Shape := ⟨2, ![1, 1024]⟩
abbrev S1x512 : Shape := ⟨2, ![1, 512]⟩
abbrev S1x128 : Shape := ⟨2, ![1, 128]⟩
abbrev S1024 : Shape := ⟨1, ![1024]⟩
abbrev S512 : Shape := ⟨1, ![512]⟩
abbrev S128 : Shape := ⟨1, ![128]⟩
abbrev S8192x1024 : Shape := ⟨2, ![8192, 1024]⟩
abbrev S8192x512 : Shape := ⟨2, ![8192, 512]⟩
abbrev S8192x128 : Shape := ⟨2, ![8192, 128]⟩
abbrev S512x2048 : Shape := ⟨2, ![512, 2048]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩

abbrev nBuf : Space → Nat
  | .hbm => 17
  | .vmem => 14
  | .smem => 0
  | _ => 0

abbrev bufTy : (tb : Table) → Fin (tcTables nBuf tb) → BufTy
  | .hbm, ⟨0, _⟩ => ⟨S8192x8192, .f32⟩
  | .hbm, ⟨1, _⟩ => ⟨S1x1024, .f32⟩
  | .hbm, ⟨2, _⟩ => ⟨S1x512, .f32⟩
  | .hbm, ⟨3, _⟩ => ⟨S1x128, .f32⟩
  | .hbm, ⟨4, _⟩ => ⟨S1x128, .f32⟩
  | .hbm, ⟨5, _⟩ => ⟨S1024, .f32⟩
  | .hbm, ⟨6, _⟩ => ⟨S1x1024, .f32⟩
  | .hbm, ⟨7, _⟩ => ⟨S512, .f32⟩
  | .hbm, ⟨8, _⟩ => ⟨S1x512, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S8192x1024, .bf16⟩
  | .hbm, ⟨14, _⟩ => ⟨S8192x512, .bf16⟩
  | .hbm, ⟨15, _⟩ => ⟨S8192x128, .bf16⟩
  | .hbm, ⟨16, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x1024, .f32⟩
  | .local _ .vmem, ⟨3, _⟩ => ⟨S1x512, .f32⟩
  | .local _ .vmem, ⟨4, _⟩ => ⟨S1x128, .f32⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S512x128, .f32⟩
  | .local _ .vmem, ⟨13, _⟩ => ⟨S512x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S8192x8192 : Shape := ⟨2, ![8192, 8192]⟩
abbrev S1x1024 : Shape := ⟨2, ![1, 1024]⟩
abbrev S1x512 : Shape := ⟨2, ![1, 512]⟩
abbrev S1x128 : Shape := ⟨2, ![1, 128]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x512 : Shape := ⟨2, ![8192, 512]⟩
abbrev S512 : Shape := ⟨1, ![512]⟩
abbrev S8192x128 : Shape := ⟨2, ![8192, 128]⟩
abbrev S128 : Shape := ⟨1, ![128]⟩

abbrev nBuf : Space → Nat
  | .hbm => 80
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S1x1024, .f32⟩
  | .hbm, ⟨2, _⟩ => ⟨S1x512, .f32⟩
  | .hbm, ⟨3, _⟩ => ⟨S1x128, .f32⟩
  | .hbm, ⟨4, _⟩ => ⟨S1x128, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x512, .f32⟩
  | .hbm, ⟨24, _⟩ => ⟨S512, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x512, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S8192x128, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x128, .f32⟩
  | .hbm, ⟨60, _⟩ => ⟨S8192x128, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x128, .f32⟩
  | .hbm, ⟨66, _⟩ => ⟨S8192x128, .f32⟩
  | .hbm, ⟨67, _⟩ => ⟨S1x128, .f32⟩
  | .hbm, ⟨68, _⟩ => ⟨S8192x128, .f32⟩
  | .hbm, ⟨69, _⟩ => ⟨S8192x128, .f32⟩
  | .hbm, ⟨70, _⟩ => ⟨S1x128, .f32⟩
  | .hbm, ⟨71, _⟩ => ⟨S8192x128, .f32⟩
  | .hbm, ⟨72, _⟩ => ⟨S8192x128, .f32⟩
  | .hbm, ⟨73, _⟩ => ⟨S8192x128, .f32⟩
  | .hbm, ⟨74, _⟩ => ⟨S_, .f32⟩
  | .hbm, ⟨75, _⟩ => ⟨S8192x128, .f32⟩
  | .hbm, ⟨76, _⟩ => ⟨S8192x128, .f32⟩
  | .hbm, ⟨77, _⟩ => ⟨S8192x1024, .bf16⟩
  | .hbm, ⟨78, _⟩ => ⟨S8192x512, .bf16⟩
  | .hbm, ⟨79, _⟩ => ⟨S8192x128, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Kernel13.lean ====
abbrev S8x4096 : Shape := ⟨2, ![8, 4096]⟩
abbrev S1x4096x24576 : Shape := ⟨3, ![1, 4096, 24576]⟩
abbrev S1x24576 : Shape := ⟨2, ![1, 24576]⟩
abbrev S4096x24576 : Shape := ⟨2, ![4096, 24576]⟩
abbrev S24576 : Shape := ⟨1, ![24576]⟩
abbrev S8x24576 : Shape := ⟨2, ![8, 24576]⟩
abbrev S4096x1024 : Shape := ⟨2, ![4096, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S4096x24576, .f32⟩
  | .hbm, ⟨4, _⟩ => ⟨S24576, .f32⟩
  | .hbm, ⟨5, _⟩ => ⟨S1x24576, .f32⟩
  | .hbm, ⟨6, _⟩ => ⟨S8x24576, .f32⟩
  | .local _ .vmem, ⟨0, _⟩ => ⟨S8x4096, .f32⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8x4096 : Shape := ⟨2, ![8, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S8x24576 : Shape := ⟨2, ![8, 24576]⟩
abbrev S24576 : Shape := ⟨1, ![24576]⟩

abbrev nBuf : Space → Nat
  | .hbm => 18
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4096x24576, .f32⟩
  | .hbm, ⟨13, _⟩ => ⟨S8x24576, .f32⟩
  | .hbm, ⟨14, _⟩ => ⟨S24576, .f32⟩
  | .hbm, ⟨15, _⟩ => ⟨S1x24576, .f32⟩
  | .hbm, ⟨16, _⟩ => ⟨S8x24576, .f32⟩
  | .hbm, ⟨17, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel14.lean ====
abbrev S1x4096x7872 : Shape := ⟨3, ![1, 4096, 7872]⟩
abbrev S4096x7872 : Shape := ⟨2, ![4096, 7872]⟩
abbrev S7872x4096 : Shape := ⟨2, ![7872, 4096]⟩
abbrev S4096x8192 : Shape := ⟨2, ![4096, 8192]⟩
abbrev S64x4096 : Shape := ⟨2, ![64, 4096]⟩
abbrev S4096x512 : Shape := ⟨2, ![4096, 512]⟩
abbrev S512x4096 : Shape := ⟨2, ![512, 4096]⟩

abbrev nBuf : Space → Nat
  | .hbm => 4
  | .vmem => 18
  | .smem => 0
  | _ => 0

abbrev bufTy : (tb : Table) → Fin (tcTables nBuf tb) → BufTy
  | .hbm, ⟨0, _⟩ => ⟨S1x4096x7872, .f32⟩
  | .hbm, ⟨1, _⟩ => ⟨S4096x7872, .f32⟩
  | .hbm, ⟨2, _⟩ => ⟨S7872x4096, .f32⟩
  | .hbm, ⟨3, _⟩ => ⟨S4096x8192, .bf16⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S4096x512, .bf16⟩
  | .local _ .vmem, ⟨17, _⟩ => ⟨S4096x512, .bf16⟩
  | _, _ => ⟨S1x4096x7872, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let v0 : BitVec 1 := Scalar.cmpi .sle arg0 c3_i32
  let c8_i32 : BitVec 32 := 8#32
  let v1 : BitVec 32 := Scalar.muli arg0 c8_i32
  let c0_i32 : BitVec 32 := 0#32
  let v2 : BitVec 32 := Scalar.addi v1 c0_i32
  let c8_i32_0 : BitVec 32 := 8#32
  let v3 : BitVec 32 := Scalar.muli arg0 c8_i32_0
  let c0_i32_1 : BitVec 32 := 0#32
  let v4 : BitVec 32 := Scalar.addi v3 c0_i32_1
  let c5_i32 : BitVec 32 := 5#32
  let v5 : BitVec 32 := Scalar.subi v4 c5_i32
  let v6 : BitVec 32 := Scalar.select v0 v2 v5
  let c0_i32_2 : BitVec 32 := 0#32
  let c0_i32_3 : BitVec 32 := 0#32
  ![v6.toNat, c0_i32_2.toNat]

def cc0_transform_1 (i : grid0.Coords) : Fin 2 → Nat :=
  let arg0 : BitVec 32 := BitVec.ofNat 32 (i 0).val
  let c3_i32 : BitVec 32 := 3#32
  let v0 : BitVec 1 := Scalar.cmpi .sle arg0 c3_i32
  let c8_i32 : BitVec 32 := 8#32
  let v1 : BitVec 32 := Scalar.muli arg0 c8_i32
  let c1_i32 : BitVec 32 := 1#32
  let v2 : BitVec 32 := Scalar.addi v1 c1_i32
  let c8_i32_0 : BitVec 32 := 8#32
  let v3 : BitVec 32 := Scalar.muli arg0 c8_i32_0
  let c1_i32_1 : BitVec 32 := 1#32
  let v4 : BitVec 32 := Scalar.addi v3 c1_i32_1
  let c5_i32 : BitVec 32 := 5#32
  let v5 : BitVec 32 := Scalar.subi v4 c5_i32
  let v6 : BitVec 32 := Scalar.select v0 v2 v5
  let c0_i32 : BitVec 32 := 0#32
  let c0_i32_2 : BitVec 32 := 0#32
  ![v6.toNat, c0_i32.toNat]

def cc0_transform_2 (i : grid0.Coords) : Fin 2 → Nat :=
  let arg0 : BitVec 32 := BitVec.ofNat 32 (i 0).val
  let c3_i32 : BitVec 32 := 3#32
  let v0 : BitVec 1 := Scalar.cmpi .sle arg0 c3_i32
  let c8_i32 : BitVec 32 := 8#32
  let v1 : BitVec 32 := Scalar.muli arg0 c8_i32
  let c2_i32 : BitVec 32 := 2#32
  let v2 : BitVec 32 := Scalar.addi v1 c2_i32
  let c8_i32_0 : BitVec 32 := 8#32
  let v3 : BitVec 32 := Scalar.muli arg0 c8_i32_0
  let c2_i32_1 : BitVec 32 := 2#32
  let v4 : BitVec 32 := Scalar.addi v3 c2_i32_1
  let c5_i32 : BitVec 32 := 5#32
  let v5 : BitVec 32 := Scalar.subi v4 c5_i32
  let v6 : BitVec 32 := Scalar.select v0 v2 v5
  let c0_i32 : BitVec 32 := 0#32
  let c0_i32_2 : BitVec 32 := 0#32
  ![v6.toNat, c0_i32.toNat]

def cc0_transform_3 (i : grid0.Coords) : Fin 2 → Nat :=
  let arg0 : BitVec 32 := BitVec.ofNat 32 (i 0).val
  let c3_i32 : BitVec 32 := 3#32
  let v0 : BitVec 1 := Scalar.cmpi .sle arg0 c3_i32
  let c8_i32 : BitVec 32 := 8#32
  let v1 : BitVec 32 := Scalar.muli arg0 c8_i32
  let c3_i32_0 : BitVec 32 := 3#32
  let v2 : BitVec 32 := Scalar.addi v1 c3_i32_0
  let c8_i32_1 : BitVec 32 := 8#32
  let v3 : BitVec 32 := Scalar.muli arg0 c8_i32_1
  let c3_i32_2 : BitVec 32 := 3#32
  let v4 : BitVec 32 := Scalar.addi v3 c3_i32_2
  let c5_i32 : BitVec 32 := 5#32
  let v5 : BitVec 32 := Scalar.subi v4 c5_i32
  let v6 : BitVec 32 := Scalar.select v0 v2 v5
  let c0_i32 : BitVec 32 := 0#32
  let c0_i32_3 : BitVec 32 := 0#32
  ![v6.toNat, c0_i32.toNat]

def cc0_transform_4 (i : grid0.Coords) : Fin 2 → Nat :=
  let arg0 : BitVec 32 := BitVec.ofNat 32 (i 0).val
  let c3_i32 : BitVec 32 := 3#32
  let v0 : BitVec 1 := Scalar.cmpi .sle arg0 c3_i32
  let c8_i32 : BitVec 32 := 8#32
  let v1 : BitVec 32 := Scalar.muli arg0 c8_i32
  let c4_i32 : BitVec 32 := 4#32
  let v2 : BitVec 32 := Scalar.addi v1 c4_i32
  let c8_i32_0 : BitVec 32 := 8#32
  let v3 : BitVec 32 := Scalar.muli arg0 c8_i32_0
  let c4_i32_1 : BitVec 32 := 4#32
  let v4 : BitVec 32 := Scalar.addi v3 c4_i32_1
  let c5_i32 : BitVec 32 := 5#32
  let v5 : BitVec 32 := Scalar.subi v4 c5_i32
  let v6 : BitVec 32 := Scalar.select v0 v2 v5
  let c0_i32 : BitVec 32 := 0#32
  let c0_i32_2 : BitVec 32 := 0#32
  ![v6.toNat, c0_i32.toNat]

def cc0_transform_5 (i : grid0.Coords) : Fin 2 → Nat :=
  let arg0 : BitVec 32 := BitVec.ofNat 32 (i 0).val
  let c3_i32 : BitVec 32 := 3#32
  let v0 : BitVec 1 := Scalar.cmpi .sle arg0 c3_i32
  let c8_i32 : BitVec 32 := 8#32
  let v1 : BitVec 32 := Scalar.muli arg0 c8_i32
  let c5_i32 : BitVec 32 := 5#32
  let v2 : BitVec 32 := Scalar.addi v1 c5_i32
  let c8_i32_0 : BitVec 32 := 8#32
  let v3 : BitVec 32 := Scalar.muli arg0 c8_i32_0
  let c5_i32_1 : BitVec 32 := 5#32
  let v4 : BitVec 32 := Scalar.addi v3 c5_i32_1
  let c5_i32_2 : BitVec 32 := 5#32
  let v5 : BitVec 32 := Scalar.subi v4 c5_i32_2
  let v6 : BitVec 32 := Scalar.select v0 v2 v5
  let c0_i32 : BitVec 32 := 0#32
  let c0_i32_3 : BitVec 32 := 0#32
  ![v6.toNat, c0_i32.toNat]

def cc0_transform_6 (i : grid0.Coords) : Fin 2 → Nat :=
  let arg0 : BitVec 32 := BitVec.ofNat 32 (i 0).val
  let c3_i32 : BitVec 32 := 3#32
  let v0 : BitVec 1 := Scalar.cmpi .sle arg0 c3_i32
  let c8_i32 : BitVec 32 := 8#32
  let v1 : BitVec 32 := Scalar.muli arg0 c8_i32
  let c6_i32 : BitVec 32 := 6#32
  let v2 : BitVec 32 := Scalar.addi v1 c6_i32
  let c8_i32_0 : BitVec 32 := 8#32
  let v3 : BitVec 32 := Scalar.muli arg0 c8_i32_0
  let c6_i32_1 : BitVec 32 := 6#32
  let v4 : BitVec 32 := Scalar.addi v3 c6_i32_1
  let c5_i32 : BitVec 32 := 5#32
  let v5 : BitVec 32 := Scalar.subi v4 c5_i32
  let v6 : BitVec 32 := Scalar.select v0 v2 v5
  let c0_i32 : BitVec 32 := 0#32
  let c0_i32_2 : BitVec 32 := 0#32
  ![v6.toNat, c0_i32.toNat]

def cc0_transform_7 (i : grid0.Coords) : Fin 2 → Nat :=
  let arg0 : BitVec 32 := BitVec.ofNat 32 (i 0).val
  let c3_i32 : BitVec 32 := 3#32
  let v0 : BitVec 1 := Scalar.cmpi .sle arg0 c3_i32
  let c8_i32 : BitVec 32 := 8#32
  let v1 : BitVec 32 := Scalar.muli arg0 c8_i32
  let c7_i32 : BitVec 32 := 7#32
  let v2 : BitVec 32 := Scalar.addi v1 c7_i32
  let c8_i32_0 : BitVec 32 := 8#32
  let v3 : BitVec 32 := Scalar.muli arg0 c8_i32_0
  let c7_i32_1 : BitVec 32 := 7#32
  let v4 : BitVec 32 := Scalar.addi v3 c7_i32_1
  let c5_i32 : BitVec 32 := 5#32
  let v5 : BitVec 32 := Scalar.subi v4 c5_i32
  let v6 : BitVec 32 := Scalar.select v0 v2 v5
  let c0_i32 : BitVec 32 := 0#32
  let c0_i32_2 : BitVec 32 := 0#32
  ![v6.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S1x4096x7872 : Shape := ⟨3, ![1, 4096, 7872]⟩
abbrev S4096x7872 : Shape := ⟨2, ![4096, 7872]⟩
abbrev S_ : Shape := ⟨0, ![]⟩
abbrev S4096x320 : Shape := ⟨2, ![4096, 320]⟩
abbrev S4096x1728 : Shape := ⟨2, ![4096, 1728]⟩
abbrev S4096x6144 : Shape := ⟨2, ![4096, 6144]⟩
abbrev S4096x8192 : Shape := ⟨2, ![4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x7872, .f32⟩
  | .hbm, ⟨1, _⟩ => ⟨S4096x7872, .f32⟩
  | .hbm, ⟨2, _⟩ => ⟨S_, .f32⟩
  | .hbm, ⟨3, _⟩ => ⟨S4096x320, .f32⟩
  | .hbm, ⟨4, _⟩ => ⟨S4096x1728, .f32⟩
  | .hbm, ⟨5, _⟩ => ⟨S4096x6144, .f32⟩
  | .hbm, ⟨6, _⟩ => ⟨S4096x8192, .f32⟩
  | .hbm, ⟨7, _⟩ => ⟨S4096x8192, .bf16⟩
  | _, _ => ⟨S1x4096x7872, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S32x16 : Shape := ⟨2, ![32, 16]⟩
abbrev S16x128x256 : Shape := ⟨3, ![16, 128, 256]⟩
abbrev S1x128x256 : Shape := ⟨3, ![1, 128, 256]⟩
abbrev S128x256 : Shape := ⟨2, ![128, 256]⟩
abbrev S1x1 : Shape := ⟨2, ![1, 1]⟩

abbrev nBuf : Space → Nat
  | .hbm => 2
  | .vmem => 2
  | .smem => 1
  | _ => 0

abbrev bufTy : (tb : Table) → Fin (tcTables nBuf tb) → BufTy
  | .hbm, ⟨0, _⟩ => ⟨S32x16, .f32⟩
  | .hbm, ⟨1, _⟩ => ⟨S16x128x256, .f32⟩
  | .local _ .vmem, ⟨0, _⟩ => ⟨S1x128x256, .f32⟩
  | .local _ .vmem, ⟨1, _⟩ => ⟨S1x128x256, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0 : Index := 0#32
  let arg0 : BitVec 32 := BitVec.ofNat 32 (i 0).val
  let v33 : Index := Scalar.indexCast arg0
  ![0, v33.toNat]
def k0_off2 (i : grid0.Coords) : Fin 2 → Nat :=
  let c1 : Index := 1#32
  let arg0 : BitVec 32 := BitVec.ofNat 32 (i 0).val
  let v39 : Index := Scalar.indexCast arg0
  ![1, v39.toNat]
def k0_off3 (i : grid0.Coords) : Fin 2 → Nat :=
  let c2 : Index := 2#32
  let arg0 : BitVec 32 := BitVec.ofNat 32 (i 0).val
  let v45 : Index := Scalar.indexCast arg0
  ![2, v45.toNat]
def k0_off4 (i : grid0.Coords) : Fin 2 → Nat :=
  let c3 : Index := 3#32
  let arg0 : BitVec 32 := BitVec.ofNat 32 (i 0).val
  let v51 : Index := Scalar.indexCast arg0
  ![3, v51.toNat]
def k0_off5 (i : grid0.Coords) : Fin 2 → Nat :=
  let c4 : Index := 4#32
  let arg0 : BitVec 32 := BitVec.ofNat 32 (i 0).val
  let v57 : Index := Scalar.indexCast arg0
  ![4, v57.toNat]
def k0_off6 (i : grid0.Coords) : Fin 2 → Nat :=
  let c5 : Index := 5#32
  let arg0 : BitVec 32 := BitVec.ofNat 32 (i 0).val
  let v63 : Index := Scalar.indexCast arg0
  ![5, v63.toNat]
def k0_off7 (i : grid0.Coords) : Fin 2 → Nat :=
  let c6 : Index := 6#32
  let arg0 : BitVec 32 := BitVec.ofNat 32 (i 0).val
  let v69 : Index := Scalar.indexCast arg0
  ![6, v69.toNat]
def k0_off8 (i : grid0.Coords) : Fin 2 → Nat :=
  let c7 : Index := 7#32
  let arg0 : BitVec 32 := BitVec.ofNat 32 (i 0).val
  let v75 : Index := Scalar.indexCast arg0
  ![7, v75.toNat]
def k0_off9 (i : grid0.Coords) : Fin 2 → Nat :=
  let c8 : Index := 8#32
  let arg0 : BitVec 32 := BitVec.ofNat 32 (i 0).val
  let v81 : Index := Scalar.indexCast arg0
  ![8, v81.toNat]
def k0_off10 (i : grid0.Coords) : Fin 2 → Nat :=
  let c9 : Index := 9#32
  let arg0 : BitVec 32 := BitVec.ofNat 32 (i 0).val
  let v87 : Index := Scalar.indexCast arg0
  ![9, v87.toNat]
def k0_off11 (i : grid0.Coords) : Fin 2 → Nat :=
  let c10 : Index := 10#32
  let arg0 : BitVec 32 := BitVec.ofNat 32 (i 0).val
  let v93 : Index := Scalar.indexCast arg0
  ![10, v93.toNat]
def k0_off12 (i : grid0.Coords) : Fin 2 → Nat :=
  let c11 : Index := 11#32
  let arg0 : BitVec 32 := BitVec.ofNat 32 (i 0).val
  let v99 : Index := Scalar.indexCast arg0
  ![11, v99.toNat]
def k0_off13 (i : grid0.Coords) : Fin 2 → Nat :=
  let c12 : Index := 12#32
  let arg0 : BitVec 32 := BitVec.ofNat 32 (i 0).val
  let v105 : Index := Scalar.indexCast arg0
  ![12, v105.toNat]
def k0_off14 (i : grid0.Coords) : Fin 2 → Nat :=
  let c13 : Index := 13#32
  let arg0 : BitVec 32 := BitVec.ofNat 32 (i 0).val
  let v111 : Index := Scalar.indexCast arg0
  ![13, v111.toNat]
def k0_off15 (i : grid0.Coords) : Fin 2 → Nat :=
  let c14 : Index := 14#32
  let arg0 : BitVec 32 := BitVec.ofNat 32 (i 0).val
  let v117 : Index := Scalar.indexCast arg0
  ![14, v117.toNat]
def k0_off16 (i : grid0.Coords) : Fin 2 → Nat :=
  let c15 : Index := 15#32
  let arg0 : BitVec 32 := BitVec.ofNat 32 (i 0).val
  let v123 : Index := Scalar.indexCast arg0
  ![15, v123.toNat]
def k0_off17 (i : grid0.Coords) : Fin 2 → Nat :=
  let c16 : Index := 16#32
  let arg0 : BitVec 32 := BitVec.ofNat 32 (i 0).val
  let v129 : Index := Scalar.indexCast arg0
  ![16, v129.toNat]
def k0_off18 (i : grid0.Coords) : Fin 2 → Nat :=
  let c17 : Index := 17#32
  let arg0 : BitVec 32 := BitVec.ofNat 32 (i 0).val
  let v135 : Index := Scalar.indexCast arg0
  ![17, v135.toNat]
def k0_off19 (i : grid0.Coords) : Fin 2 → Nat :=
  let c18 : Index := 18#32
  let arg0 : BitVec 32 := BitVec.ofNat 32 (i 0).val
  let v141 : Index := Scalar.indexCast arg0
  ![18, v141.toNat]
def k0_off20 (i : grid0.Coords) : Fin 2 → Nat :=
  let c19 : Index := 19#32
  let arg0 : BitVec 32 := BitVec.ofNat 32 (i 0).val
  let v147 : Index := Scalar.indexCast arg0
  ![19, v147.toNat]
def k0_off21 (i : grid0.Coords) : Fin 2 → Nat :=
  let c20 : Index := 20#32
  let arg0 : BitVec 32 := BitVec.ofNat 32 (i 0).val
  let v153 : Index := Scalar.indexCast arg0
  ![20, v153.toNat]
def k0_off22 (i : grid0.Coords) : Fin 2 → Nat :=
  let c21 : Index := 21#32
  let arg0 : BitVec 32 := BitVec.ofNat 32 (i 0).val
  let v159 : Index := Scalar.indexCast arg0
  ![21, v159.toNat]
def k0_off23 (i : grid0.Coords) : Fin 2 → Nat :=
  let c22 : Index := 22#32
  let arg0 : BitVec 32 := BitVec.ofNat 32 (i 0).val
  let v165 : Index := Scalar.indexCast arg0
  ![22, v165.toNat]
def k0_off24 (i : grid0.Coords) : Fin 2 → Nat :=
  let c23 : Index := 23#32
  let arg0 : BitVec 32 := BitVec.ofNat 32 (i 0).val
  let v171 : Index := Scalar.indexCast arg0
  ![23, v171.toNat]
def k0_off25 (i : grid0.Coords) : Fin 2 → Nat :=
  let c24 : Index := 24#32
  let arg0 : BitVec 32 := BitVec.ofNat 32 (i 0).val
  let v177 : Index := Scalar.indexCast arg0
  ![24, v177.toNat]
def k0_off26 (i : grid0.Coords) : Fin 2 → Nat :=
  let c25 : Index := 25#32
  let arg0 : BitVec 32 := BitVec.ofNat 32 (i 0).val
  let v183 : Index := Scalar.indexCast arg0
  ![25, v183.toNat]
def k0_off27 (i : grid0.Coords) : Fin 2 → Nat :=
  let c26 : Index := 26#32
  let arg0 : BitVec 32 := BitVec.ofNat 32 (i 0).val
  let v189 : Index := Scalar.indexCast arg0
  ![26, v189.toNat]
def k0_off28 (i : grid0.Coords) : Fin 2 → Nat :=
  let c27 : Index := 27#32
  let arg0 : BitVec 32 := BitVec.ofNat 32 (i 0).val
  let v195 : Index := Scalar.indexCast arg0
  ![27, v195.toNat]
def k0_off29 (i : grid0.Coords) : Fin 2 → Nat :=
  let c28 : Index := 28#32
  let arg0 : BitVec 32 := BitVec.ofNat 32 (i 0).val
  let v201 : Index := Scalar.indexCast arg0
  ![28, v201.toNat]
def k0_off30 (i : grid0.Coords) : Fin 2 → Nat :=
  let c29 : Index := 29#32
  let arg0 : BitVec 32 := BitVec.ofNat 32 (i 0).val
  let v207 : Index := Scalar.indexCast arg0
  ![29, v207.toNat]
def k0_off31 (i : grid0.Coords) : Fin 2 → Nat :=
  let c30 : Index := 30#32
  let arg0 : BitVec 32 := BitVec.ofNat 32 (i 0).val
  let v213 : Index := Scalar.indexCast arg0
  ![30, v213.toNat]
def k0_off32 (i : grid0.Coords) : Fin 2 → Nat :=
  let c31 : Index := 31#32
  let arg0 : BitVec 32 := BitVec.ofNat 32 (i 0).val
  let v219 : Index := Scalar.indexCast arg0
  ![31, v219.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference15Ideal.lean ====
abbrev S32x16 : Shape := ⟨2, ![32, 16]⟩
abbrev S256 : Shape := ⟨1, ![256]⟩
abbrev S1x256 : Shape := ⟨2, ![1, 256]⟩
abbrev S_ : Shape := ⟨0, ![]⟩
abbrev S128 : Shape := ⟨1, ![128]⟩
abbrev S128x1 : Shape := ⟨2, ![128, 1]⟩
abbrev S128x256 : Shape := ⟨2, ![128, 256]⟩
abbrev S128x256x1 : Shape := ⟨3, ![128, 256, 1]⟩
abbrev S128x256x16 : Shape := ⟨3, ![128, 256, 16]⟩
abbrev S1x16 : Shape := ⟨2, ![1, 16]⟩
abbrev S16 : Shape := ⟨1, ![16]⟩
abbrev S1x1x16 : Shape := ⟨3, ![1, 1, 16]⟩
abbrev S16x128x256 : Shape := ⟨3, ![16, 128, 256]⟩

abbrev nBuf : Space → Nat
  | .hbm => 65
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S256, .i32⟩
  | .hbm, ⟨2, _⟩ => ⟨S1x256, .i32⟩
  | .hbm, ⟨3, _⟩ => ⟨S_, .i32⟩
  | .hbm, ⟨4, _⟩ => ⟨S1x256, .i32⟩
  | .hbm, ⟨5, _⟩ => ⟨S1x256, .i32⟩
  | .hbm, ⟨6, _⟩ => ⟨S128, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i32⟩
  | .hbm, ⟨15, _⟩ => ⟨S128x256, .f32⟩
  | .hbm, ⟨16, _⟩ => ⟨S_, .f32⟩
  | .hbm, ⟨17, _⟩ => ⟨S128x256, .f32⟩
  | .hbm, ⟨18, _⟩ => ⟨S128x256, .f32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S128x256, .i32⟩
  | .hbm, ⟨27, _⟩ => ⟨S_, .i32⟩
  | .hbm, ⟨28, _⟩ => ⟨S128x256, .i32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S_, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S_, .i32⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S128x256x1, .i32⟩
  | .hbm, ⟨55, _⟩ => ⟨S128x256x16, .f32⟩
  | .hbm, ⟨56, _⟩ => ⟨S1x16, .f32⟩
  | .hbm, ⟨57, _⟩ => ⟨S16, .f32⟩
  | .hbm, ⟨58, _⟩ => ⟨S1x1x16, .f32⟩
  | .hbm, ⟨59, _⟩ => ⟨S128x256x16, .f32⟩
  | .hbm, ⟨60, _⟩ => ⟨S128x256x16, .f32⟩
  | .hbm, ⟨61, _⟩ => ⟨S16x128x256, .f32⟩
  | .hbm, ⟨62, _⟩ => ⟨S_, .f32⟩
  | .hbm, ⟨63, _⟩ => ⟨S16x128x256, .f32⟩
  | .hbm, ⟨64, _⟩ => ⟨S16x128x256, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_c_7 : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel16.lean ====
abbrev S2048x8192 : Shape := ⟨2, ![2048, 8192]⟩
abbrev S2x128x128 : Shape := ⟨3, ![2, 128, 128]⟩
abbrev S8x32x4x8192 : Shape := ⟨4, ![8, 32, 4, 8192]⟩
abbrev S8x64x128x128 : Shape := ⟨4, ![8, 64, 128, 128]⟩
abbrev S8x1x8192 : Shape := ⟨3, ![8, 1, 8192]⟩
abbrev S256x512 : Shape := ⟨2, ![256, 512]⟩
abbrev S1x32x4x512 : Shape := ⟨4, ![1, 32, 4, 512]⟩
abbrev S1x4x128x128 : Shape := ⟨4, ![1, 4, 128, 128]⟩
abbrev S1x1x512 : Shape := ⟨3, ![1, 1, 512]⟩
abbrev S16x128 : Shape := ⟨2, ![16, 128]⟩
abbrev S80x128 : Shape := ⟨2, ![80, 128]⟩
abbrev S1x128x128 : Shape := ⟨3, ![1, 128, 128]⟩
abbrev S128x128 : Shape := ⟨2, ![128, 128]⟩
abbrev S128x512 : Shape := ⟨2, ![128, 512]⟩
abbrev S128 : Shape := ⟨1, ![128]⟩
abbrev S1x128 : Shape := ⟨2, ![1, 128]⟩
abbrev S8x128 : Shape := ⟨2, ![8, 128]⟩
abbrev S4x128 : Shape := ⟨2, ![4, 128]⟩
abbrev S1x1x4x128 : Shape := ⟨4, ![1, 1, 4, 128]⟩
abbrev S1x1x128x128 : Shape := ⟨4, ![1, 1, 128, 128]⟩
abbrev S1x1x128 : Shape := ⟨3, ![1, 1, 128]⟩

abbrev nBuf : Space → Nat
  | .hbm => 7
  | .vmem => 17
  | .smem => 0
  | _ => 0

abbrev bufTy : (tb : Table) → Fin (tcTables nBuf tb) → BufTy
  | .hbm, ⟨0, _⟩ => ⟨S2048x8192, .f32⟩
  | .hbm, ⟨1, _⟩ => ⟨S2x128x128, .bf16⟩
  | .hbm, ⟨2, _⟩ => ⟨S8x32x4x8192, .f32⟩
  | .hbm, ⟨3, _⟩ => ⟨S8x64x128x128, .f32⟩
  | .hbm, ⟨4, _⟩ => ⟨S8x32x4x8192, .f32⟩
  | .hbm, ⟨5, _⟩ => ⟨S8x1x8192, .f32⟩
  | .hbm, ⟨6, _⟩ => ⟨S8x1x8192, .f32⟩
  | .local _ .vmem, ⟨0, _⟩ => ⟨S256x512, .f32⟩
  | .local _ .vmem, ⟨1, _⟩ => ⟨S256x512, .f32⟩
  | .local _ .vmem, ⟨2, _⟩ => ⟨S2x128x128, .bf16⟩
  | .local _ .vmem, ⟨3, _⟩ => ⟨S1x32x4x512, .f32⟩
  | .local _ .vmem, ⟨4, _⟩ => ⟨S1x32x4x512, .f32⟩
  | .local _ .vmem, ⟨5, _⟩ => ⟨S1x4x128x128, .f32⟩
  | .local _ .vmem, ⟨6, _⟩ => ⟨S1x4x128x128, .f32⟩
  | .local _ .vmem, ⟨7, _⟩ => ⟨S1x32x4x512, .f32⟩
  | .local _ .vmem, ⟨8, _⟩ => ⟨S1x32x4x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S16x128, .f32⟩
  | .local _ .vmem, ⟨14, _⟩ => ⟨S16x128, .f32⟩
  | .local _ .vmem, ⟨15, _⟩ => ⟨S80x128, .f32⟩
  | .local _ .vmem, ⟨16, _⟩ => ⟨S80x128, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S2048x8192 : Shape := ⟨2, ![2048, 8192]⟩
abbrev S2x128x128 : Shape := ⟨3, ![2, 128, 128]⟩
abbrev S8192x2048 : Shape := ⟨2, ![8192, 2048]⟩
abbrev S8192x8x256 : Shape := ⟨3, ![8192, 8, 256]⟩
abbrev S8192x8x128 : Shape := ⟨3, ![8192, 8, 128]⟩
abbrev S1x128x128 : Shape := ⟨3, ![1, 128, 128]⟩
abbrev S128x128 : Shape := ⟨2, ![128, 128]⟩
abbrev S128x8192x8 : Shape := ⟨3, ![128, 8192, 8]⟩
abbrev S8x128x8192 : Shape := ⟨3, ![8, 128, 8192]⟩
abbrev S_ : Shape := ⟨0, ![]⟩
abbrev S8x8192 : Shape := ⟨2, ![8, 8192]⟩
abbrev S8x1x8192 : Shape := ⟨3, ![8, 1, 8192]⟩
abbrev S8x32x4x8192 : Shape := ⟨4, ![8, 32, 4, 8192]⟩
abbrev S8x128x64x128 : Shape := ⟨4, ![8, 128, 64, 128]⟩
abbrev S8x64x128x128 : Shape := ⟨4, ![8, 64, 128, 128]⟩

abbrev nBuf : Space → Nat
  | .hbm => 21
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2x128x128, .bf16⟩
  | .hbm, ⟨2, _⟩ => ⟨S8192x2048, .f32⟩
  | .hbm, ⟨3, _⟩ => ⟨S8192x8x256, .f32⟩
  | .hbm, ⟨4, _⟩ => ⟨S2x128x128, .f32⟩
  | .hbm, ⟨5, _⟩ => ⟨S8192x8x128, .f32⟩
  | .hbm, ⟨6, _⟩ => ⟨S1x128x128, .f32⟩
  | .hbm, ⟨7, _⟩ => ⟨S128x128, .f32⟩
  | .hbm, ⟨8, _⟩ => ⟨S128x8192x8, .f32⟩
  | .hbm, ⟨9, _⟩ => ⟨S8x128x8192, .f32⟩
  | .hbm, ⟨10, _⟩ => ⟨S8192x8x128, .f32⟩
  | .hbm, ⟨11, _⟩ => ⟨S1x128x128, .f32⟩
  | .hbm, ⟨12, _⟩ => ⟨S128x128, .f32⟩
  | .hbm, ⟨13, _⟩ => ⟨S128x8192x8, .f32⟩
  | .hbm, ⟨14, _⟩ => ⟨S8x128x8192, .f32⟩
  | .hbm, ⟨15, _⟩ => ⟨S_, .f32⟩
  | .hbm, ⟨16, _⟩ => ⟨S8x8192, .f32⟩
  | .hbm, ⟨17, _⟩ => ⟨S8x1x8192, .f32⟩
  | .hbm, ⟨18, _⟩ => ⟨S8x32x4x8192, .f32⟩
  | .hbm, ⟨19, _⟩ => ⟨S8x128x64x128, .f32⟩
  | .hbm, ⟨20, _⟩ => ⟨S8x64x128x128, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== Proof.KLoop.lean ====
/-
  One grid point of the retention kernel, at any element semantics.

  At a grid point the body rotates the head's queries and keys into its two scratch buffers and then runs 32 trips, one
  per chunk of 64 rows, that carry the 128×256 state. Here that run is read as plain definitions over the blocks the
  point stages: `stateAt n`, the state before chunk `n`, and `outChunk n`, the 64 rows it stores.
-/
module

public import proofs.«01_k».proof.Proof.Gen.KernelIdeal.Value
public import Idealize.ShloMosaic.Lib.Pointwise

@[expose] public section

set_option maxRecDepth 65536

noncomputable section

namespace Cert.KernelIdeal.Ret

open Cert.KernelIdeal Cert.KernelIdeal.Gen Idealize.ShloMosaic Idealize.ShloMosaic.TcCoe Idealize.SL.Sem Idealize.ShloMosaic.Tactic

variable {F : FTy → Type} [FloatOps F]

/-- Rows `64 n … 64 n + 63` of a block of 2048 rows. -/
def rows {w : ℕ} {α : Type} (X : (⟨2, ![2048, w]⟩ : Shape).Idx → α) (n : ℕ) : (⟨2, ![64, w]⟩ : Shape).Idx → α :=
  fun y => X (ix2 ⟨(64 * n + (y 0).val) % 2048, Nat.mod_lt _ (by decide)⟩ (y 1))

/-- The loop runs 32 trips. -/
theorem trips_eq : k0_t1_loop.trips = 32 := by decide +kernel

/-- A read of 64 rows at trip `k`'s row offset is `rows` at `k` (the scratch buffers' 128 columns). -/
theorem rows_off1 (X : S2048x128.Idx → Elt F .f32) (k : Fin k0_t1_loop.trips) (inb) :
    (fun j => X ((Rect.unit (s := S2048x128) (k0_off1 k) ![64, 128] inb).toLoadRect.idx j)) = rows (w := 128) X k.val := by
  have e := k0_off1_eq k
  have hk : k.val < 32 := Nat.lt_of_lt_of_eq k.isLt trips_eq
  funext y
  refine congrArg X (funext fun a => Fin.ext ?_)
  have e0 := congrFun e 0
  have e1 := congrFun e 1
  have hy : (y 0).val < 64 := (y 0).isLt
  match a with
  | ⟨0, _⟩ =>
    show k0_off1 k 0 + 1 * (y 0).val = (64 * k.val + (y 0).val) % 2048
    rw [e0]
    show 64 * k.val + 1 * (y 0).val = _
    omega
  | ⟨1, _⟩ =>
    show k0_off1 k 1 + 1 * (y 1).val = (y 1).val
    rw [e1]
    show 0 + 1 * (y 1).val = _
    omega

/-- A read of 64 rows at trip `k`'s row offset is `rows` at `k` (the value and gate blocks' 256 columns). -/
theorem rows_off2 (X : S2048x256.Idx → Elt F .f32) (k : Fin k0_t1_loop.trips) (inb) :
    View.ld X (Rect.unit (s := S2048x256) (k0_off2 k) ![64, 256] inb) = rows (w := 256) X k.val := by
  have e := k0_off2_eq k
  have hk : k.val < 32 := Nat.lt_of_lt_of_eq k.isLt trips_eq
  funext y
  refine congrArg X (funext fun a => Fin.ext ?_)
  have e0 := congrFun e 0
  have e1 := congrFun e 1
  have hy : (y 0).val < 64 := (y 0).isLt
  match a with
  | ⟨0, _⟩ =>
    show k0_off2 k 0 + 1 * (y 0).val = (64 * k.val + (y 0).val) % 2048
    rw [e0]
    show 64 * k.val + 1 * (y 0).val = _
    omega
  | ⟨1, _⟩ =>
    show k0_off2 k 1 + 1 * (y 1).val = (y 1).val
    rw [e1]
    show 0 + 1 * (y 1).val = _
    omega

/-- The state before chunk `n`: zero, then decayed and added to chunk by chunk. `kd`, `cd`, `K`, `Vv` are the key
    decays, the chunk decay, the rotated keys and the values of the head. -/
def stateAt (kd : FVec F S64x128 .f32) (cd : FVec F S1x256 .f32) (K : Vec F S2048x128 .f32) (Vv : Vec F S2048x256 .f32) :
    ℕ → FVec F S128x256 .f32
  | 0 => k0_pay3
  | n + 1 => k0_pay4 (k0_pay6 kd (rows K n) (rows Vv n)) (k0_pay8 cd (stateAt kd cd K Vv n))

/-- The 64 rows the body stores for chunk `n`. -/
def outChunk (dm : FVec F S64x64 .f32) (qd kd : FVec F S64x128 .f32) (cd gr : FVec F S1x256 .f32)
    (Q K : Vec F S2048x128 .f32) (Vv G : Vec F S2048x256 .f32) (n : ℕ) : FVec F S64x256 .bf16 :=
  k0_pay7 dm qd gr (stateAt kd cd K Vv n) (rows Q n) (rows K n) (rows Vv n) (rows G n)

/-- The generated recursion of the loop at a grid point's buffers. -/
abbrev stP (c : Dev nD) (t : Fin cfg0.N) (v23 : FVec F S64x64 .f32) (v25 v27 : FVec F S64x128 .f32) (v28 v30 : Vec F S1x1x256 .f32)
    (X4 : BufTy.Contents (Elt F) (ms0_2 t).view.ty) (X5 : BufTy.Contents (Elt F) (ms0_3 t).view.ty)
    (X14 : BufTy.Contents (Elt F) scM0_0.view.ty) (X15 : BufTy.Contents (Elt F) scM0_1.view.ty) :=
  st_k0_t1 (F := F) Variants.none c none (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) scM0_0 (Memref.isWhole_whole _) scM0_1 (Memref.isWhole_whole _)
    v23 v25 v27 v28 v30 X4 X5 X14 X15 k0_pay3

section
variable (c : Dev nD) (t : Fin cfg0.N) (v23 : FVec F S64x64 .f32) (v25 v27 : FVec F S64x128 .f32) (v28 v30 : Vec F S1x1x256 .f32)
    (X4 : BufTy.Contents (Elt F) (ms0_2 t).view.ty) (X5 : BufTy.Contents (Elt F) (ms0_3 t).view.ty)
    (X14 : BufTy.Contents (Elt F) scM0_0.view.ty) (X15 : BufTy.Contents (Elt F) scM0_1.view.ty)
    (Q K : Vec F S2048x128 .f32) (Vv G : Vec F S2048x256 .f32)

/-- One trip: it yields the next state and stores one piece, the chunk's 64 rows, of buffers that hold `Q`, `K`, `Vv`
    and `G`. -/
theorem st_succ (hQ : ∀ B : LoadRect S2048x128, View.readAt (Elt F) (View.whole cc0_scratch0) B X14 = fun j => Q (B.idx j))
    (hK : ∀ B : LoadRect S2048x128, View.readAt (Elt F) (View.whole cc0_scratch1) B X15 = fun j => K (B.idx j))
    (hV : View.read (Elt F) (ms0_2 t).view X4 = Vv) (hG : View.read (Elt F) (ms0_3 t).view X5 = G)
    (k : Fin k0_t1_loop.trips) :
    ∃ h, stP c t v23 v25 v27 v28 v30 X4 X5 X14 X15 (k.val + 1)
      = (k0_pay4 (k0_pay6 v27 (rows K k.val) (rows Vv k.val)) (k0_pay8 (k0_pay1 v28) (stP c t v23 v25 v27 v28 v30 X4 X5 X14 X15 k.val).1),
         ⟨Rect.unit (s := S2048x256) (k0_off2 k) ![64, 256] h,
          k0_pay7 v23 v25 (k0_pay2 v30) (stP c t v23 v25 v27 v28 v30 X4 X5 X14 X15 k.val).1 (rows Q k.val) (rows K k.val) (rows Vv k.val) (rows G k.val)⟩
          :: (stP c t v23 v25 v27 v28 v30 X4 X5 X14 X15 k.val).2) := by
  refine ⟨k0_off2_inb k, ?_⟩
  rw [stP, st_k0_t1_succ]
  refine Prod.ext ?_ ?_
  · show (trip_k0_t1 (F := F) _ _ _ _ _ _ _ _ _ _ _ _ _ _ _ _ _ _ _ _ _ _ _ _ _ _ _ _ _ _ _ _ _ _ _ _ _ _ _ _ _ _).1 _ = _
    unfold trip_k0_t1
    dsimp only
    unfold trip_k0_t1.sl.r trip_k0_t1.sl.r_1
    simp only [View.readAt_eq_ld (ms0_2 t).view, View.readAt_eq_ld (ms0_3 t).view, hV, hG, hK]
    erw [rows_off1 K k, rows_off2 Vv k]
  · show (trip_k0_t1 (F := F) _ _ _ _ _ _ _ _ _ _ _ _ _ _ _ _ _ _ _ _ _ _ _ _ _ _ _ _ _ _ _ _ _ _ _ _ _ _ _ _ _ _).2.1 _ ++ _ = _
    unfold trip_k0_t1
    dsimp only
    simp only [View.readAt_eq_ld (ms0_2 t).view, View.readAt_eq_ld (ms0_3 t).view, hV, hG, hQ, hK]
    erw [rows_off1 Q k, rows_off1 K k, rows_off2 Vv k, rows_off2 G k]
    rfl

/-- Before trip `n` the carried value is `stateAt n`, and what the pieces stored so far leave at row `64 n' + r` of a
    finished chunk `n'` is that chunk's row `r`. -/
theorem st_eq (hQ : ∀ B : LoadRect S2048x128, View.readAt (Elt F) (View.whole cc0_scratch0) B X14 = fun j => Q (B.idx j))
    (hK : ∀ B : LoadRect S2048x128, View.readAt (Elt F) (View.whole cc0_scratch1) B X15 = fun j => K (B.idx j))
    (hV : View.read (Elt F) (ms0_2 t).view X4 = Vv) (hG : View.read (Elt F) (ms0_3 t).view X5 = G) :
    ∀ n, n ≤ 32 → (stP c t v23 v25 v27 v28 v30 X4 X5 X14 X15 n).1 = stateAt v27 (k0_pay1 v28) K Vv n
      ∧ ∀ n', n' < n → ∀ (y : S2048x256.Idx) (r : Fin 64), (y 0).val = 64 * n' + r.val →
        View.canon (stP c t v23 v25 v27 v28 v30 X4 X5 X14 X15 n).2 y
          = outChunk v23 v25 v27 (k0_pay1 v28) (k0_pay2 v30) Q K Vv G n' (ix2 r (y 1))
  | 0, _ => ⟨rfl, fun n' h => absurd h (Nat.not_lt_zero _)⟩
  | n + 1, hn => by
    obtain ⟨ih1, ih2⟩ := st_eq hQ hK hV hG n (Nat.le_of_succ_le hn)
    obtain ⟨h, e⟩ := st_succ c t v23 v25 v27 v28 v30 X4 X5 X14 X15 Q K Vv G hQ hK hV hG ⟨n, by rw [trips_eq]; omega⟩
    have e' : stP c t v23 v25 v27 v28 v30 X4 X5 X14 X15 (n + 1) = _ := e
    rw [e']
    simp only [ih1]
    have e0 := congrFun (k0_off2_eq ⟨n, by rw [trips_eq]; omega⟩) 0
    have e1 := congrFun (k0_off2_eq ⟨n, by rw [trips_eq]; omega⟩) 1
    refine ⟨rfl, fun n' hn' y r hy => ?_⟩
    rcases Nat.lt_or_ge n' n with hlt | hge
    · rw [View.canon_cons_of_not_mem]
      · exact ih2 n' hlt y r hy
      · intro hmem
        rw [← Rect.map_emb_univ, Finset.mem_map] at hmem
        obtain ⟨x, -, hx⟩ := hmem
        have h0 := congrArg (fun z : S2048x256.Idx => (z 0).val) hx
        have h0' : k0_off2 ⟨n, by rw [trips_eq]; omega⟩ 0 + 1 * (x 0).val = (y 0).val := h0
        rw [e0] at h0'
        have h0'' : 64 * n + 1 * (x 0).val = (y 0).val := h0'
        have := r.isLt
        omega
    · obtain rfl : n' = n := by omega
      have hy' : y = (Rect.unit (s := S2048x256) (k0_off2 ⟨n', by rw [trips_eq]; omega⟩) ![64, 256] h).emb (ix2 r (y 1)) := by
        funext a
        refine Fin.ext ?_
        match a with
        | ⟨0, _⟩ =>
          show (y 0).val = k0_off2 ⟨n', by rw [trips_eq]; omega⟩ 0 + 1 * r.val
          rw [e0]
          show (y 0).val = 64 * n' + 1 * r.val
          omega
        | ⟨1, _⟩ =>
          show (y 1).val = k0_off2 ⟨n', by rw [trips_eq]; omega⟩ 1 + 1 * (y 1).val
          rw [e1]
          show (y 1).val = 0 + 1 * (y 1).val
          omega
      conv_lhs => rw [hy']
      rw [View.canon_cons_emb]
      rfl
end

/-- WHAT A POINT WRITES: row `64 n + r` of the output block is row `r` of chunk `n`, over the point's staged blocks:
    `x0`, `x1` the head's queries and keys, `x2` its values, `x3` its gates, `x4`, `x5` the rotation's tables, `x6` the
    decay mask, `x7`, `x8` the query and key decays, `x9` the chunk decay, `x10` the norm's gain. -/
theorem out_eq (c : Dev nD) (t : Fin cfg0.N) (x0 x1 : Vec F S2048x128 .f32) (x2 x3 : Vec F S2048x256 .f32) (x4 x5 : Vec F S2048x128 .f32)
    (x6 : Vec F S1x64x64 .f32) (x7 x8 : Vec F S1x64x128 .f32) (x9 x10 : Vec F S1x1x256 .f32) (n : ℕ) (hn : n < 32)
    (y : S2048x256.Idx) (r : Fin 64) (hy : (y 0).val = 64 * n + r.val) :
    out0_A_11 c (grid0.coords t) (ms0_0 t) (hs0_0 t) (ms0_1 t) (hs0_1 t) (ms0_2 t) (hs0_2 t) (ms0_3 t) (hs0_3 t) (ms0_4 t) (hs0_4 t)
        (ms0_5 t) (hs0_5 t) (ms0_6 t) (hs0_6 t) (ms0_7 t) (hs0_7 t) (ms0_8 t) (hs0_8 t) (ms0_9 t) (hs0_9 t) (ms0_10 t) (hs0_10 t)
        (ms0_11 t) (hs0_11 t) scM0_0 (Memref.isWhole_whole _) scM0_1 (Memref.isWhole_whole _) x0 x1 x2 x3 x4 x5 x6 x7 x8 x9 x10 y
      = outChunk (k0_pay13 x6) (k0_pay14 x7) (k0_pay15 x8) (k0_pay1 x9) (k0_pay2 x10) (k0_pay11 x4 x5 x0) (k0_pay12 x4 x5 x1) x2 x3 n
          (ix2 r (y 1)) := by
  unfold out0_A_11
  rw [View.read_writes_eq_canon _ _ _ (cover0_A_11 c _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_4 t).read_unread, (hs0_5 t).read_unread,
    (hs0_6 t).read_unread, (hs0_7 t).read_unread, (hs0_8 t).read_unread, (hs0_9 t).read_unread, (hs0_10 t).read_unread]
  rw [View.ld_unit_zero (S := S1x64x64) (X := x6) (by decide), View.ld_unit_zero (S := S1x64x128) (X := x7) (by decide),
    View.ld_unit_zero (S := S1x64x128) (X := x8) (by decide), View.ld_unit_zero (S := S1x1x256) (X := x9) (by decide),
    View.ld_unit_zero (S := S1x1x256) (X := x10) (by decide), View.ld_unit_zero (S := S2048x128) (X := x0) (by decide),
    View.ld_unit_zero (S := S2048x128) (X := x1) (by decide), View.ld_unit_zero (S := S2048x128) (X := x4) (by decide),
    View.ld_unit_zero (S := S2048x128) (X := x5) (by decide)]
  refine (st_eq c t (k0_pay13 x6) (k0_pay14 x7) (k0_pay15 x8) x9 x10 _ _ _ _ (k0_pay11 x4 x5 x0) (k0_pay12 x4 x5 x1) x2 x3
    ?_ ?_ ((hs0_2 t).read_unread x2) ((hs0_3 t).read_unread x3) 32 (Nat.le_refl _)).2 n hn y r hy
  · intro B
    rw [View.readAt_writes_junk_eq_canon]
    funext j
    exact congrFun (View.canon_unit_zero (S := S2048x128) (by decide) _ _) _
  · intro B
    rw [View.readAt_writes_junk_eq_canon]
    funext j
    exact congrFun (View.canon_unit_zero (S := S2048x128) (by decide) _ _) _

end Cert.KernelIdeal.Ret

end
-- ==== Proof.Spec.lean ====
/- The retention of one head over one sequence, written on extended reals: rotation, decayed state, chunk output, group
   norm and gate. Both programs' results are read as these. -/
module

public import Idealize.ShloMosaic.PureOps.Ideal

@[expose] public section

noncomputable section

namespace Cert.Ret

open Idealize.ShloMosaic

/-- Row `l` of chunk `n` of a sequence of 2048. -/
def row (n : ℕ) (l : Fin 64) : Fin 2048 := ⟨(64 * n + l.val) % 2048, Nat.mod_lt _ (by decide)⟩

/-- The rotation of a head's pairs: component `d` of the first half pairs with component `d + 64`. -/
def rot (cos sin : Fin 64 → EReal) (x : Fin 128 → EReal) (d : Fin 128) : EReal :=
  if h : d.val < 64 then x ⟨d.val, by omega⟩ * cos ⟨d.val, h⟩ - x ⟨d.val + 64, by omega⟩ * sin ⟨d.val, h⟩
  else x ⟨d.val - 64, by omega⟩ * sin ⟨d.val - 64, by omega⟩ + x ⟨d.val, d.isLt⟩ * cos ⟨d.val - 64, by omega⟩

/-- The state before chunk `n`: zero, then decayed by `cd` and added to by the chunk's decayed keys and its values. -/
def state (kd : Fin 64 → EReal) (cd : EReal) (K : Fin 2048 → Fin 128 → EReal) (V : Fin 2048 → Fin 256 → EReal) :
    ℕ → Fin 128 → Fin 256 → EReal
  | 0 => fun _ _ => 0
  | n + 1 => fun k v => state kd cd K V n k v * cd + ∑ l : Fin 64, K (row n l) k * kd l * V (row n l) v

/-- The chunk's output before the norm: its masked products against its own values, and its decayed queries against the
    state. -/
def mix (dm : Fin 64 → Fin 64 → EReal) (qd kd : Fin 64 → EReal) (cd : EReal) (Q K : Fin 2048 → Fin 128 → EReal)
    (V : Fin 2048 → Fin 256 → EReal) (n : ℕ) (j : Fin 64) (v : Fin 256) : EReal :=
  (∑ l : Fin 64, (∑ k : Fin 128, Q (row n j) k * K (row n l) k) * dm j l * V (row n l) v)
    + ∑ k : Fin 128, Q (row n j) k * qd j * state kd cd K V n k v

/-- The group norm with gain `gr` of the values `y`, gated by `g`. -/
def gated (g : EReal) (y : Fin 256 → EReal) (gr : EReal) (v : Fin 256) : EReal :=
  g * Ideal.logistic g
    * (y v * Ideal.rsqrt (Ideal.div (∑ u : Fin 256, y u * y u) (Ideal.ofBits .f32 0x43800000#32) + Ideal.ofBits .f32 0x358637BD#32) * gr)

/-- Equal operands give equal results. -/
theorem gated_mix_congr {g g' gr gr' cd : EReal} {dm dm' : Fin 64 → Fin 64 → EReal} {qd kd : Fin 64 → EReal}
    {Q Q' K K' : Fin 2048 → Fin 128 → EReal} {V V' : Fin 2048 → Fin 256 → EReal} {n : ℕ} {j : Fin 64} {v : Fin 256}
    (hg : g = g') (hd : dm = dm') (hQ : Q = Q') (hK : K = K') (hV : V = V') (hr : gr = gr') :
    gated g (mix dm qd kd cd Q K V n j) gr v = gated g' (mix dm' qd kd cd Q' K' V' n j) gr' v := by
  subst hg hd hQ hK hV hr
  rfl

end Cert.Ret

end
-- ==== Proof.KPoint.lean ====
/- A grid point's chunk, read element by element on extended reals: it is the retention of `Spec`. -/
module

public import proofs.«01_k».proof.Proof.KLoop
public import proofs.«01_k».proof.Proof.Spec
public import Idealize.ShloMosaic.Lib.Pointwise

@[expose] public section

set_option maxRecDepth 65536

noncomputable section

namespace Cert.KernelIdeal.Ret

open Cert.KernelIdeal Cert.KernelIdeal.Gen Idealize.ShloMosaic
open Cert.Ret (row rot state mix gated)

/-- The state's step at an index: the old entry decayed, plus the chunk's decayed keys against its values. -/
theorem step_apply (kd : FVec Ideal S64x128 .f32) (cd : FVec Ideal S1x256 .f32) (K : Vec Ideal S2048x128 .f32)
    (Vv : Vec Ideal S2048x256 .f32) (s : FVec Ideal S128x256 .f32) (n : ℕ) (k : Fin 128) (v : Fin 256) :
    k0_pay4 (k0_pay6 kd (rows K n) (rows Vv n)) (k0_pay8 cd s) (ix2 k v)
      = s (ix2 k v) * cd (ix2 0 v) + ∑ l : Fin 64, K (ix2 (row n l) k) * kd (ix2 l k) * Vv (ix2 (row n l) v) := by
  pointwise [k0_pay4, k0_pay6, k0_pay8, k0_pay5, rows]
  rfl

/-- The stored rows at an index: the chunk's mixture, normed and gated. -/
theorem out_apply (dm : FVec Ideal S64x64 .f32) (qd : FVec Ideal S64x128 .f32) (gr : FVec Ideal S1x256 .f32)
    (Q K : Vec Ideal S2048x128 .f32) (Vv G : Vec Ideal S2048x256 .f32) (s : FVec Ideal S128x256 .f32)
    (n : ℕ) (j : Fin 64) (v : Fin 256) :
    k0_pay7 dm qd gr s (rows Q n) (rows K n) (rows Vv n) (rows G n) (ix2 j v)
      = gated (G (ix2 (row n j) v))
          (fun u => (∑ l : Fin 64, (∑ k : Fin 128, Q (ix2 (row n j) k) * K (ix2 (row n l) k)) * dm (ix2 j l) * Vv (ix2 (row n l) u))
            + ∑ k : Fin 128, Q (ix2 (row n j) k) * qd (ix2 j k) * s (ix2 k u)) (gr (ix2 0 v)) v := by
  pointwise [k0_pay7, k0_pay5, rows]
  rfl

/-- The rotation at an index, from tables that hold each angle's cosine twice and its sine once negated and once not. -/
theorem rot_eq (cos sin : Fin 64 → EReal) (x : Fin 128 → EReal) (cc ss : Fin 128 → EReal)
    (hc : ∀ d : Fin 128, cc d = cos ⟨d.val % 64, Nat.mod_lt _ (by decide)⟩)
    (hs : ∀ d : Fin 128, ss d = if h : d.val < 64 then -sin ⟨d.val, h⟩ else sin ⟨d.val - 64, by omega⟩) (d : Fin 128) :
    x d * cc d + x ⟨(d.val + 128 - 64) % 128, Nat.mod_lt _ (by decide)⟩ * ss d = rot cos sin x d := by
  rw [hc, hs]
  unfold rot
  by_cases h : d.val < 64
  · rw [dif_pos h, dif_pos h]
    have e1 : (⟨(d.val + 128 - 64) % 128, Nat.mod_lt _ (by decide)⟩ : Fin 128) = ⟨d.val + 64, by omega⟩ := Fin.ext (by dsimp only; omega)
    have e2 : (⟨d.val % 64, Nat.mod_lt _ (by decide)⟩ : Fin 64) = ⟨d.val, h⟩ := Fin.ext (by dsimp only; omega)
    rw [e1, e2, sub_eq_add_neg, mul_neg]
  · rw [dif_neg h, dif_neg h]
    have e1 : (⟨(d.val + 128 - 64) % 128, Nat.mod_lt _ (by decide)⟩ : Fin 128) = ⟨d.val - 64, by omega⟩ := Fin.ext (by dsimp only; omega)
    have e2 : (⟨d.val % 64, Nat.mod_lt _ (by decide)⟩ : Fin 64) = ⟨d.val - 64, by omega⟩ := Fin.ext (by dsimp only; omega)
    rw [e1, e2, add_comm]

section Point
variable (x0 x1 : Vec Ideal S2048x128 .f32) (x2 x3 : Vec Ideal S2048x256 .f32) (x4 x5 : Vec Ideal S2048x128 .f32)
    (x6 : Vec Ideal S1x64x64 .f32) (x7 x8 : Vec Ideal S1x64x128 .f32) (x9 x10 : Vec Ideal S1x1x256 .f32)
    (cos sin : Fin 2048 → Fin 64 → EReal) (qd kd : Fin 64 → EReal) (cd : EReal)

/-- What the rotation's tables hold. -/
structure Tables : Prop where
  cc : ∀ p d, x4 (ix2 p d) = cos p ⟨d.val % 64, Nat.mod_lt _ (by decide)⟩
  ss : ∀ p d, x5 (ix2 p d) = if h : d.val < 64 then -sin p ⟨d.val, h⟩ else sin p ⟨d.val - 64, by omega⟩

variable {x4 x5 cos sin}

/-- The rotated queries at an index. -/
theorem rotq_apply (h : Tables x4 x5 cos sin) (p : Fin 2048) (d : Fin 128) :
    k0_pay11 x4 x5 x0 (ix2 p d) = rot (cos p) (sin p) (fun d => x0 (ix2 p d)) d := by
  refine Eq.trans ?_ (rot_eq (cos p) (sin p) (fun d => x0 (ix2 p d)) (fun d => x4 (ix2 p d)) (fun d => x5 (ix2 p d)) (h.cc p) (h.ss p) d)
  pointwise [k0_pay11, k0_pay9, k0_pay10]

/-- The scaled and rotated keys at an index. -/
theorem rotk_apply (h : Tables x4 x5 cos sin) (p : Fin 2048) (d : Fin 128) :
    k0_pay12 x4 x5 x1 (ix2 p d) = rot (cos p) (sin p) (fun d => x1 (ix2 p d) * Ideal.ofBits .f32 0x3DB504F3#32) d := by
  refine Eq.trans ?_ (rot_eq (cos p) (sin p) (fun d => x1 (ix2 p d) * Ideal.ofBits .f32 0x3DB504F3#32) (fun d => x4 (ix2 p d)) (fun d => x5 (ix2 p d)) (h.cc p) (h.ss p) d)
  pointwise [k0_pay12, k0_pay9, k0_pay10]

/-- The carried state at an index, over decays that do not depend on the column. -/
theorem stateAt_apply (K : Vec Ideal S2048x128 .f32) (h8 : ∀ j k, x8 (ix3 0 j k) = kd j) (h9 : ∀ v, x9 (ix3 0 0 v) = cd)
    (n : ℕ) (k : Fin 128) (v : Fin 256) :
    stateAt (k0_pay15 x8) (k0_pay1 x9) K x2 n (ix2 k v)
      = state kd cd (fun p d => K (ix2 p d)) (fun p u => x2 (ix2 p u)) n k v := by
  induction n generalizing k v with
  | zero =>
    unfold stateAt
    pointwise [k0_pay3]
    rfl
  | succ n ih =>
    have e8 : ∀ l k, k0_pay15 x8 (ix2 l k) = kd l := fun l k => by
      pointwise [k0_pay15]
      exact h8 l k
    have e9 : ∀ v, k0_pay1 x9 (ix2 0 v) = cd := fun v => by
      pointwise [k0_pay1]
      exact h9 v
    unfold stateAt
    rw [step_apply, ih]
    simp only [e8, e9]
    rfl

/-- THE POINT'S CHUNK at an index is the retention's. -/
theorem chunk_apply (h : Tables x4 x5 cos sin) (h7 : ∀ j k, x7 (ix3 0 j k) = qd j) (h8 : ∀ j k, x8 (ix3 0 j k) = kd j)
    (h9 : ∀ v, x9 (ix3 0 0 v) = cd) (n : ℕ) (j : Fin 64) (v : Fin 256) :
    outChunk (k0_pay13 x6) (k0_pay14 x7) (k0_pay15 x8) (k0_pay1 x9) (k0_pay2 x10) (k0_pay11 x4 x5 x0) (k0_pay12 x4 x5 x1) x2 x3 n (ix2 j v)
      = gated (x3 (ix2 (row n j) v))
          (mix (fun j l => x6 (ix3 0 j l)) qd kd cd (fun p => rot (cos p) (sin p) (fun d => x0 (ix2 p d)))
            (fun p => rot (cos p) (sin p) (fun d => x1 (ix2 p d) * Ideal.ofBits .f32 0x3DB504F3#32)) (fun p u => x2 (ix2 p u)) n j)
          (x10 (ix3 0 0 v)) v := by
  have e6 : ∀ j l, k0_pay13 x6 (ix2 j l) = x6 (ix3 0 j l) := fun j l => by pointwise [k0_pay13]
  have e7 : ∀ j k, k0_pay14 x7 (ix2 j k) = qd j := fun j k => by
    pointwise [k0_pay14]
    exact h7 j k
  have e10 : k0_pay2 x10 (ix2 0 v) = x10 (ix3 0 0 v) := by pointwise [k0_pay2]
  unfold outChunk
  rw [out_apply]
  simp only [e6, e7, e10, rotq_apply x0 h, rotk_apply x1 h, stateAt_apply x2 x8 x9 kd cd _ h8 h9]
  rfl
end Point

end Cert.KernelIdeal.Ret

end
-- ==== Proof.KTables.lean ====
/- The tables the kernel computes before its launch, at an index, in the reference's tables. -/
module

public import proofs.«01_k».proof.Proof.KPoint
public import proofs.«01_k».proof.Proof.Gen.ReferenceIdeal.Step
public import Idealize.ShloMosaic.Lib.Claim

@[expose] public section

set_option maxRecDepth 65536

noncomputable section

namespace Cert.KernelIdeal.Ret

open Cert.KernelIdeal Cert.KernelIdeal.Gen Idealize.ShloMosaic Idealize.ShloMosaic.TcCoe Idealize.SL.Sem

variable (m : (ℓ : Loc nD τ sig) → Buf (Elt Ideal) ℓ) (c : Dev nD)

/-- The cosine of position `p` times frequency `d`. -/
abbrev cosT (p : Fin 2048) (d : Fin 64) : EReal := Cert.ReferenceIdeal.Step.K_main_v21 (F := Ideal) (ix2 p d)
/-- The sine of position `p` times frequency `d`. -/
abbrev sinT (p : Fin 2048) (d : Fin 64) : EReal := Cert.ReferenceIdeal.Step.K_main_v23 (F := Ideal) (ix2 p d)

/-- The rotation's first table: each cosine twice. -/
theorem cc_eq (p : Fin 2048) (d : Fin 128) :
    V m c main_v13 (ix2 p d) = cosT p ⟨d.val % 64, Nat.mod_lt _ (by decide)⟩ := by
  have e : V m c main_v13 = concatenate S2048x128 1 [⟨S2048x64, Cert.ReferenceIdeal.Step.K_main_v21 (F := Ideal)⟩, ⟨S2048x64, Cert.ReferenceIdeal.Step.K_main_v21 (F := Ideal)⟩] concatenates_S2048x64_S2048x64_S2048x128_d1 := by
    entry_read
    rfl
  rw [e]
  pointwise
  split
  · exact congrArg (cosT p) (Fin.ext (by dsimp only; omega))
  · exact congrArg (cosT p) (Fin.ext (by dsimp only; omega))

/-- The rotation's second table: each sine negated, then itself. -/
theorem ss_eq (p : Fin 2048) (d : Fin 128) :
    V m c main_v15 (ix2 p d) = if h : d.val < 64 then -sinT p ⟨d.val, h⟩ else sinT p ⟨d.val - 64, by omega⟩ := by
  have e : V m c main_v15 = concatenate S2048x128 1 [⟨S2048x64, (Host.negf (F := Ideal) (φ := .f32) (s := S2048x64) (Cert.ReferenceIdeal.Step.K_main_v23 (F := Ideal)) : FVec Ideal S2048x64 .f32)⟩, ⟨S2048x64, Cert.ReferenceIdeal.Step.K_main_v23 (F := Ideal)⟩] concatenates_S2048x64_S2048x64_S2048x128_d1 := by
    entry_read
    rfl
  rw [e]
  pointwise

/-- The decay mask. -/
theorem dm_eq : V m c main_v41 = Cert.ReferenceIdeal.Step.K_main_v94 (F := Ideal) := by
  entry_read
  rfl

/-- The queries' decay, along every column. -/
theorem qd_eq (h : Fin 8) (j : Fin 64) (k : Fin 128) :
    V m c main_v64 (ix3 h j k) = Cert.ReferenceIdeal.Step.K_main_v124 (F := Ideal) (ix2 j h) := by
  entry_read
  rfl

/-- The keys' decay, along every column. -/
theorem kd_eq (h : Fin 8) (j : Fin 64) (k : Fin 128) :
    V m c main_v62 (ix3 h j k) = Cert.ReferenceIdeal.Step.K_main_v108 (F := Ideal) (ix2 j h) := by
  entry_read
  rfl

/-- A chunk's decay, along every column. -/
theorem cd_eq (h : Fin 8) (v : Fin 256) :
    V m c main_v66 (ix3 h 0 v) = Cert.ReferenceIdeal.Step.K_main_v115 (F := Ideal) (ix1 h) := by
  entry_read
  rfl

/-- The gains laid out with a unit axis between head and column. -/
theorem gain_cast (X : FVec Ideal S1x8x256 .f32) (h : Fin 8) (v : Fin 256) :
    shapeCast S8x1x256 (shapeCast S8x256 X shapeCasts_S1x8x256_S8x256) shapeCasts_S8x256_S8x1x256 (ix3 h 0 v) = X (ix3 0 h v) := by
  pointwise

/-- The gain's window array at head `h`. -/
theorem gr_eq (h : Fin 8) (v : Fin 256) :
    V m c main_v68 (ix3 h 0 v) = m ((c.tc : Thread nD τ).loc main_arg1) (ix3 0 h v) := by
  have e : V m c main_v68 = shapeCast S8x1x256 (shapeCast S8x256 (m ((c.tc : Thread nD τ).loc main_arg1)) shapeCasts_S1x8x256_S8x256) shapeCasts_S8x256_S8x1x256 := by
    entry_read
    rfl
  rw [e]
  exact gain_cast _ h v

end Cert.KernelIdeal.Ret

end
-- ==== Proof.KArray.lean ====
/- The whole result of the kernel's launch, at an index. -/
module

public import proofs.«01_k».proof.Proof.KTables

@[expose] public section

set_option maxRecDepth 65536

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Ret (row rot state mix gated)

/-- The launch has 32 points: 8 heads for each of 4 sequences. -/
theorem lt32 (t : Fin cfg0.N) : t.val < 32 := Nat.lt_of_lt_of_eq t.isLt N_0

/-- A point's head. -/
abbrev headOf (t : Fin cfg0.N) : Fin 8 := ⟨t.val % 8, Nat.mod_lt _ (by decide)⟩

/-- Window 0's block at point `t`. -/
theorem index0 : ∀ t : Fin cfg0.N, win0_0.index t 0 = t.val / 8 ∧ win0_0.index t 1 = 16 + t.val % 8 :=
  (by decide +kernel : ∀ t : Fin grid0.N, win0_0.index t 0 = t.val / 8 ∧ win0_0.index t 1 = 16 + t.val % 8)
/-- Window 1's block at point `t`. -/
theorem index1 : ∀ t : Fin cfg0.N, win0_1.index t 0 = t.val / 8 ∧ win0_1.index t 1 = 24 + t.val % 8 :=
  (by decide +kernel : ∀ t : Fin grid0.N, win0_1.index t 0 = t.val / 8 ∧ win0_1.index t 1 = 24 + t.val % 8)
/-- Window 2's block at point `t`. -/
theorem index2 : ∀ t : Fin cfg0.N, win0_2.index t 0 = t.val / 8 ∧ win0_2.index t 1 = 16 + t.val % 8 :=
  (by decide +kernel : ∀ t : Fin grid0.N, win0_2.index t 0 = t.val / 8 ∧ win0_2.index t 1 = 16 + t.val % 8)
/-- Window 3's block at point `t`. -/
theorem index3 : ∀ t : Fin cfg0.N, win0_3.index t 0 = t.val / 8 ∧ win0_3.index t 1 = 24 + t.val % 8 :=
  (by decide +kernel : ∀ t : Fin grid0.N, win0_3.index t 0 = t.val / 8 ∧ win0_3.index t 1 = 24 + t.val % 8)
/-- Window 4's block at point `t`. -/
theorem index4 : ∀ t : Fin cfg0.N, win0_4.index t 0 = 0 ∧ win0_4.index t 1 = 0 :=
  (by decide +kernel : ∀ t : Fin grid0.N, win0_4.index t 0 = 0 ∧ win0_4.index t 1 = 0)
/-- Window 5's block at point `t`. -/
theorem index5 : ∀ t : Fin cfg0.N, win0_5.index t 0 = 0 ∧ win0_5.index t 1 = 0 :=
  (by decide +kernel : ∀ t : Fin grid0.N, win0_5.index t 0 = 0 ∧ win0_5.index t 1 = 0)
/-- Window 6's block at point `t`. -/
theorem index6 : ∀ t : Fin cfg0.N, win0_6.index t 0 = t.val % 8 ∧ win0_6.index t 1 = 0 ∧ win0_6.index t 2 = 0 :=
  (by decide +kernel : ∀ t : Fin grid0.N, win0_6.index t 0 = t.val % 8 ∧ win0_6.index t 1 = 0 ∧ win0_6.index t 2 = 0)
/-- Window 7's block at point `t`. -/
theorem index7 : ∀ t : Fin cfg0.N, win0_7.index t 0 = t.val % 8 ∧ win0_7.index t 1 = 0 ∧ win0_7.index t 2 = 0 :=
  (by decide +kernel : ∀ t : Fin grid0.N, win0_7.index t 0 = t.val % 8 ∧ win0_7.index t 1 = 0 ∧ win0_7.index t 2 = 0)
/-- Window 8's block at point `t`. -/
theorem index8 : ∀ t : Fin cfg0.N, win0_8.index t 0 = t.val % 8 ∧ win0_8.index t 1 = 0 ∧ win0_8.index t 2 = 0 :=
  (by decide +kernel : ∀ t : Fin grid0.N, win0_8.index t 0 = t.val % 8 ∧ win0_8.index t 1 = 0 ∧ win0_8.index t 2 = 0)
/-- Window 9's block at point `t`. -/
theorem index9 : ∀ t : Fin cfg0.N, win0_9.index t 0 = t.val % 8 ∧ win0_9.index t 1 = 0 ∧ win0_9.index t 2 = 0 :=
  (by decide +kernel : ∀ t : Fin grid0.N, win0_9.index t 0 = t.val % 8 ∧ win0_9.index t 1 = 0 ∧ win0_9.index t 2 = 0)
/-- Window 10's block at point `t`. -/
theorem index10 : ∀ t : Fin cfg0.N, win0_10.index t 0 = t.val % 8 ∧ win0_10.index t 1 = 0 ∧ win0_10.index t 2 = 0 :=
  (by decide +kernel : ∀ t : Fin grid0.N, win0_10.index t 0 = t.val % 8 ∧ win0_10.index t 1 = 0 ∧ win0_10.index t 2 = 0)
/-- Window 11's block at point `t`. -/
theorem index11 : ∀ t : Fin cfg0.N, win0_11.index t 0 = t.val / 8 ∧ win0_11.index t 1 = t.val % 8 :=
  (by decide +kernel : ∀ t : Fin grid0.N, win0_11.index t 0 = t.val / 8 ∧ win0_11.index t 1 = t.val % 8)

section Blocks
variable (m : (ℓ : Loc nD τ sig) → Buf (Elt Ideal) ℓ) (c : Dev nD)

/-- The projection's array. -/
abbrev proj : FVec Ideal S8192x8192 .f32 := m ((c.tc : Thread nD τ).loc main_arg0)
/-- The gains. -/
abbrev gain : FVec Ideal S1x8x256 .f32 := m ((c.tc : Thread nD τ).loc main_arg1)

/-- Column `d` of a head's 128 columns that start at `base`, in sequence `b`. -/
abbrev col128 (X : FVec Ideal S8192x8192 .f32) (base : ℕ) (t : ℕ) (ht : t < 32) (hb : base ≤ 7168) (p : Fin 2048) (d : Fin 128) : EReal :=
  X (ix2 ⟨2048 * (t / 8) + p.val, by omega⟩ ⟨base + 128 * (t % 8) + d.val, by omega⟩)
/-- Column `v` of a head's 256 columns that start at `base`, in sequence `b`. -/
abbrev col256 (X : FVec Ideal S8192x8192 .f32) (base : ℕ) (t : ℕ) (ht : t < 32) (hb : base ≤ 6144) (p : Fin 2048) (v : Fin 256) : EReal :=
  X (ix2 ⟨2048 * (t / 8) + p.val, by omega⟩ ⟨base + 256 * (t % 8) + v.val, by omega⟩)

/-- The queries' block at a point. -/
theorem blk0 (t : Fin cfg0.N) (p : Fin 2048) (d : Fin 128) :
    iblk m c 0 t (ix2 p d) = col128 (proj m c) 2048 t.val (lt32 t) (by decide) p d := by
  obtain ⟨e0, e1⟩ := index0 t
  show V m c main_arg0 _ = _
  rw [V_main_arg0]
  refine congrArg (proj m c) (funext fun a => Fin.ext ?_)
  match a with
  | ⟨0, _⟩ =>
    show win0_0.index t 0 * 2048 + 1 * p.val = 2048 * (t.val / 8) + p.val
    rw [e0]
    omega
  | ⟨1, _⟩ =>
    show win0_0.index t 1 * 128 + 1 * d.val = 2048 + 128 * (t.val % 8) + d.val
    rw [e1]
    omega

/-- The keys' block at a point. -/
theorem blk1 (t : Fin cfg0.N) (p : Fin 2048) (d : Fin 128) :
    iblk m c 1 t (ix2 p d) = col128 (proj m c) 3072 t.val (lt32 t) (by decide) p d := by
  obtain ⟨e0, e1⟩ := index1 t
  show V m c main_arg0 _ = _
  rw [V_main_arg0]
  refine congrArg (proj m c) (funext fun a => Fin.ext ?_)
  match a with
  | ⟨0, _⟩ =>
    show win0_1.index t 0 * 2048 + 1 * p.val = 2048 * (t.val / 8) + p.val
    rw [e0]
    omega
  | ⟨1, _⟩ =>
    show win0_1.index t 1 * 128 + 1 * d.val = 3072 + 128 * (t.val % 8) + d.val
    rw [e1]
    omega

/-- The values' block at a point. -/
theorem blk2 (t : Fin cfg0.N) (p : Fin 2048) (d : Fin 256) :
    iblk m c 2 t (ix2 p d) = col256 (proj m c) 4096 t.val (lt32 t) (by decide) p d := by
  obtain ⟨e0, e1⟩ := index2 t
  show V m c main_arg0 _ = _
  rw [V_main_arg0]
  refine congrArg (proj m c) (funext fun a => Fin.ext ?_)
  match a with
  | ⟨0, _⟩ =>
    show win0_2.index t 0 * 2048 + 1 * p.val = 2048 * (t.val / 8) + p.val
    rw [e0]
    omega
  | ⟨1, _⟩ =>
    show win0_2.index t 1 * 256 + 1 * d.val = 4096 + 256 * (t.val % 8) + d.val
    rw [e1]
    omega

/-- The gates' block at a point. -/
theorem blk3 (t : Fin cfg0.N) (p : Fin 2048) (d : Fin 256) :
    iblk m c 3 t (ix2 p d) = col256 (proj m c) 6144 t.val (lt32 t) (by decide) p d := by
  obtain ⟨e0, e1⟩ := index3 t
  show V m c main_arg0 _ = _
  rw [V_main_arg0]
  refine congrArg (proj m c) (funext fun a => Fin.ext ?_)
  match a with
  | ⟨0, _⟩ =>
    show win0_3.index t 0 * 2048 + 1 * p.val = 2048 * (t.val / 8) + p.val
    rw [e0]
    omega
  | ⟨1, _⟩ =>
    show win0_3.index t 1 * 256 + 1 * d.val = 6144 + 256 * (t.val % 8) + d.val
    rw [e1]
    omega

/-- The first rotation table's block is the table. -/
theorem blk4 (t : Fin cfg0.N) (p : Fin 2048) (d : Fin 128) : iblk m c 4 t (ix2 p d) = V m c main_v13 (ix2 p d) := by
  obtain ⟨e0, e1⟩ := index4 t
  refine congrArg (V m c main_v13) (funext fun a => Fin.ext ?_)
  match a with
  | ⟨0, _⟩ =>
    show win0_4.index t 0 * 2048 + 1 * p.val = p.val
    rw [e0]
    omega
  | ⟨1, _⟩ =>
    show win0_4.index t 1 * 128 + 1 * d.val = d.val
    rw [e1]
    omega

/-- The second rotation table's block is the table. -/
theorem blk5 (t : Fin cfg0.N) (p : Fin 2048) (d : Fin 128) : iblk m c 5 t (ix2 p d) = V m c main_v15 (ix2 p d) := by
  obtain ⟨e0, e1⟩ := index5 t
  refine congrArg (V m c main_v15) (funext fun a => Fin.ext ?_)
  match a with
  | ⟨0, _⟩ =>
    show win0_5.index t 0 * 2048 + 1 * p.val = p.val
    rw [e0]
    omega
  | ⟨1, _⟩ =>
    show win0_5.index t 1 * 128 + 1 * d.val = d.val
    rw [e1]
    omega

/-- The decay mask's block is the head's. -/
theorem blk6 (t : Fin cfg0.N) (j : Fin 64) (k : Fin 64) : iblk m c 6 t (ix3 0 j k) = V m c main_v41 (ix3 (headOf t) j k) := by
  obtain ⟨e0, e1, e2⟩ := index6 t
  refine congrArg (V m c main_v41) (funext fun a => Fin.ext ?_)
  match a with
  | ⟨0, _⟩ =>
    show win0_6.index t 0 * 1 + 1 * 0 = t.val % 8
    rw [e0]
    omega
  | ⟨1, _⟩ =>
    show win0_6.index t 1 * 64 + 1 * j.val = j.val
    rw [e1]
    omega
  | ⟨2, _⟩ =>
    show win0_6.index t 2 * 64 + 1 * k.val = k.val
    rw [e2]
    omega

/-- The queries' decay's block is the head's. -/
theorem blk7 (t : Fin cfg0.N) (j : Fin 64) (k : Fin 128) : iblk m c 7 t (ix3 0 j k) = V m c main_v64 (ix3 (headOf t) j k) := by
  obtain ⟨e0, e1, e2⟩ := index7 t
  refine congrArg (V m c main_v64) (funext fun a => Fin.ext ?_)
  match a with
  | ⟨0, _⟩ =>
    show win0_7.index t 0 * 1 + 1 * 0 = t.val % 8
    rw [e0]
    omega
  | ⟨1, _⟩ =>
    show win0_7.index t 1 * 64 + 1 * j.val = j.val
    rw [e1]
    omega
  | ⟨2, _⟩ =>
    show win0_7.index t 2 * 128 + 1 * k.val = k.val
    rw [e2]
    omega

/-- The keys' decay's block is the head's. -/
theorem blk8 (t : Fin cfg0.N) (j : Fin 64) (k : Fin 128) : iblk m c 8 t (ix3 0 j k) = V m c main_v62 (ix3 (headOf t) j k) := by
  obtain ⟨e0, e1, e2⟩ := index8 t
  refine congrArg (V m c main_v62) (funext fun a => Fin.ext ?_)
  match a with
  | ⟨0, _⟩ =>
    show win0_8.index t 0 * 1 + 1 * 0 = t.val % 8
    rw [e0]
    omega
  | ⟨1, _⟩ =>
    show win0_8.index t 1 * 64 + 1 * j.val = j.val
    rw [e1]
    omega
  | ⟨2, _⟩ =>
    show win0_8.index t 2 * 128 + 1 * k.val = k.val
    rw [e2]
    omega

/-- The chunk's decay's block is the head's. -/
theorem blk9 (t : Fin cfg0.N) (j : Fin 1) (k : Fin 256) : iblk m c 9 t (ix3 0 j k) = V m c main_v66 (ix3 (headOf t) j k) := by
  obtain ⟨e0, e1, e2⟩ := index9 t
  refine congrArg (V m c main_v66) (funext fun a => Fin.ext ?_)
  match a with
  | ⟨0, _⟩ =>
    show win0_9.index t 0 * 1 + 1 * 0 = t.val % 8
    rw [e0]
    omega
  | ⟨1, _⟩ =>
    show win0_9.index t 1 * 1 + 1 * j.val = j.val
    rw [e1]
    omega
  | ⟨2, _⟩ =>
    show win0_9.index t 2 * 256 + 1 * k.val = k.val
    rw [e2]
    omega

/-- The gain's block is the head's. -/
theorem blk10 (t : Fin cfg0.N) (j : Fin 1) (k : Fin 256) : iblk m c 10 t (ix3 0 j k) = V m c main_v68 (ix3 (headOf t) j k) := by
  obtain ⟨e0, e1, e2⟩ := index10 t
  refine congrArg (V m c main_v68) (funext fun a => Fin.ext ?_)
  match a with
  | ⟨0, _⟩ =>
    show win0_10.index t 0 * 1 + 1 * 0 = t.val % 8
    rw [e0]
    omega
  | ⟨1, _⟩ =>
    show win0_10.index t 1 * 1 + 1 * j.val = j.val
    rw [e1]
    omega
  | ⟨2, _⟩ =>
    show win0_10.index t 2 * 256 + 1 * k.val = k.val
    rw [e2]
    omega

/-- The retention of head `t % 8` over sequence `t / 8`, chunk `n`, row `j`, column `v`, from the whole projection: what both
    programs' results are. -/
def result (X : FVec Ideal S8192x8192 .f32) (g : FVec Ideal S1x8x256 .f32) (t : ℕ) (ht : t < 32) (n : ℕ) (j : Fin 64) (v : Fin 256) : EReal :=
  gated (col256 X 6144 t ht (by decide) (row n j) v)
    (mix (fun j l => Cert.ReferenceIdeal.Step.K_main_v94 (F := Ideal) (ix3 ⟨t % 8, Nat.mod_lt _ (by decide)⟩ j l))
      (fun j => Cert.ReferenceIdeal.Step.K_main_v124 (F := Ideal) (ix2 j ⟨t % 8, Nat.mod_lt _ (by decide)⟩))
      (fun j => Cert.ReferenceIdeal.Step.K_main_v108 (F := Ideal) (ix2 j ⟨t % 8, Nat.mod_lt _ (by decide)⟩))
      (Cert.ReferenceIdeal.Step.K_main_v115 (F := Ideal) (ix1 ⟨t % 8, Nat.mod_lt _ (by decide)⟩))
      (fun p => rot (cosT p) (sinT p) (col128 X 2048 t ht (by decide) p))
      (fun p => rot (cosT p) (sinT p) (fun d => col128 X 3072 t ht (by decide) p d * Ideal.ofBits .f32 0x3DB504F3#32))
      (col256 X 4096 t ht (by decide)) n j)
    (g (ix3 0 ⟨t % 8, Nat.mod_lt _ (by decide)⟩ v)) v

/-- WHAT POINT `t` WRITES BACK at row `64 n + j`, column `v`. -/
theorem point_eq (t : Fin cfg0.N) (n : ℕ) (hn : n < 32) (j : Fin 64) (y : S2048x256.Idx) (hy : (y 0).val = 64 * n + j.val) :
    (dats m 0 c).flushed 11 t y = result (proj m c) (gain m c) t.val (lt32 t) n j (y 1) := by
  rw [Value.flushed11_A]
  refine (out_eq c t _ _ _ _ _ _ _ _ _ _ _ n hn y j hy).trans ?_
  have hT : Tables (iblk m c 4 t) (iblk m c 5 t) cosT sinT :=
    ⟨fun p d => (blk4 m c t p d).trans (cc_eq m c p d), fun p d => (blk5 m c t p d).trans (ss_eq m c p d)⟩
  refine (chunk_apply (iblk m c 0 t) (iblk m c 1 t) (iblk m c 2 t) (iblk m c 3 t) (iblk m c 6 t) (iblk m c 7 t) (iblk m c 8 t) (iblk m c 9 t)
    (iblk m c 10 t) _ _ _ hT (fun j k => (blk7 m c t j k).trans (qd_eq m c _ j k)) (fun j k => (blk8 m c t j k).trans (kd_eq m c _ j k))
    (fun v => (blk9 m c t 0 v).trans (cd_eq m c _ v)) n j (y 1)).trans ?_
  exact Cert.Ret.gated_mix_congr (blk3 m c t (row n j) (y 1))
    (funext fun j => funext fun l => (blk6 m c t j l).trans (congrFun (dm_eq m c) (ix3 (headOf t) j l)))
    (funext fun p => congrArg (rot (cosT p) (sinT p)) (funext fun d => blk0 m c t p d))
    (funext fun p => congrArg (rot (cosT p) (sinT p)) (funext fun d => congrArg (· * Ideal.ofBits .f32 0x3DB504F3#32) (blk1 m c t p d)))
    (funext fun p => funext fun v => blk2 m c t p v)
    ((blk10 m c t 0 (y 1)).trans (gr_eq m c (headOf t) (y 1)))

/-- THE KERNEL'S RESULT at row `2048 b + 64 n + j`, column `256 h + v`, is the retention of head `h` over sequence `b`. -/
theorem array_eq (t : Fin cfg0.N) (n : ℕ) (hn : n < 32) (j : Fin 64) (v : Fin 256) (i : S8192x2048.Idx)
    (h0 : (i 0).val = 2048 * (t.val / 8) + (64 * n + j.val)) (h1 : (i 1).val = 256 * (t.val % 8) + v.val) :
    (dats m 0 c).arrAt 11 cfg0.N i = result (proj m c) (gain m c) t.val (lt32 t) n j v := by
  obtain ⟨e0, e1⟩ := index11 t
  have hb := congrFun (Value.blocks11 m c t (flush0_11 t)) (ix2 ⟨64 * n + j.val, by omega⟩ v)
  rw [point_eq m c t n hn j _ rfl] at hb
  refine Eq.trans (congrArg ((dats m 0 c).arrAt 11 cfg0.N) (funext fun a => Fin.ext ?_)) hb
  match a with
  | ⟨0, _⟩ =>
    show (i 0).val = win0_11.index t 0 * 2048 + 1 * (64 * n + j.val)
    rw [e0, h0]
    omega
  | ⟨1, _⟩ =>
    show (i 1).val = win0_11.index t 1 * 256 + 1 * v.val
    rw [e1, h1]
    omega
end Blocks

end Cert.KernelIdeal.Ret

end
-- ==== Proof.RefPoint.lean ====
/- The reference's operands, products and trips, read element by element on extended reals. -/
module

public import proofs.«01_k».proof.Proof.Gen.ReferenceIdeal.Step
public import proofs.«01_k».proof.Proof.Spec
public import Idealize.ShloMosaic.Lib.Pointwise
public import Idealize.ShloMosaic.Lib.DynamicIndex
public import Idealize.ShloMosaic.Lib.WordCmp

@[expose] public section

set_option maxRecDepth 65536

noncomputable section

namespace Cert.ReferenceIdeal.Ret

open Cert.ReferenceIdeal Cert.ReferenceIdeal.Gen Idealize.ShloMosaic
open Cert.ReferenceIdeal.Step
open Cert.Ret (row rot state mix gated)

/-- The cosine of position `p` and pair `d`. -/
abbrev cosR (p : Fin 2048) (d : Fin 64) : EReal := K_main_v21 (F := Ideal) (ix2 p d)

/-- The sine of position `p` and pair `d`. -/
abbrev sinR (p : Fin 2048) (d : Fin 64) : EReal := K_main_v23 (F := Ideal) (ix2 p d)

/-- Head `h` of the 128-wide heads that start at column `o`, of sequence `b`. -/
def head128 (X : FVec Ideal S8192x8192 .f32) (o : ℕ) (ho : o ≤ 4096) (b : Fin 4) (h : Fin 8) (p : Fin 2048) (d : Fin 128) : EReal :=
  X (ix2 ⟨b.val * 2048 + p.val, by omega⟩ ⟨o + (h.val * 128 + d.val), by omega⟩)

/-- Head `h` of the 256-wide heads that start at column `o`, of sequence `b`. -/
def head256 (X : FVec Ideal S8192x8192 .f32) (o : ℕ) (ho : o ≤ 6144) (b : Fin 4) (h : Fin 8) (p : Fin 2048) (v : Fin 256) : EReal :=
  X (ix2 ⟨b.val * 2048 + p.val, by omega⟩ ⟨o + (h.val * 256 + v.val), by omega⟩)

/-- Below chunk 32, row `l` of chunk `n` is position `64 n + l`. -/
theorem row_eq (n : Fin 32) (l : Fin 64) : row n.val l = ⟨n.val * 64 + l.val, by omega⟩ := Fin.ext (by show (64 * n.val + l.val) % 2048 = n.val * 64 + l.val; omega)

/-- A sum of two halves of a pair's index is the index. -/
theorem half_add (d : ℕ) (h : ¬ d < 64) : 64 + (d - 64) = d := by omega

section Operands
variable (X : FVec Ideal S8192x8192 .f32) (b : Fin 4) (n : Fin 32) (j : Fin 64) (h : Fin 8)

/-- The rotated queries. -/
theorem q_apply (d : Fin 128) : A_main_v38 (F := Ideal) X (ix5 b n j h d)
    = rot (cosR (row n j)) (sinR (row n j)) (head128 X 2048 (by decide) b h (row n j)) d := by
  rw [row_eq]
  pointwise [A_main_v38, A_main_v37, A_main_v31, A_main_v36, A_main_v28, A_main_v30, A_main_v33, A_main_v35, A_main_v25, A_main_v26, A_main_v5, A_main_v1, A_main_v0,
    K_main_v27, K_main_v29, K_main_v32, K_main_v34, K_main_v22, K_main_v24]
  unfold rot head128
  split
  · simp only [Nat.add_comm 64]
  · rename_i hd
    simp only [half_add _ hd]

/-- The scaled and rotated keys. -/
theorem k_apply (d : Fin 128) : A_main_v67 (F := Ideal) X (ix5 b n j h d)
    = rot (cosR (row n j)) (sinR (row n j)) (fun e => head128 X 3072 (by decide) b h (row n j) e * Ideal.ofBits .f32 0x3DB504F3#32) d := by
  rw [row_eq]
  have hc : K_main_v50 (F := Ideal) = K_main_v21 := rfl
  have hs : K_main_v52 (F := Ideal) = K_main_v23 := rfl
  pointwise [A_main_v67, A_main_v66, A_main_v60, A_main_v65, A_main_v57, A_main_v59, A_main_v62, A_main_v64, A_main_v54, A_main_v55, A_main_v8, A_main_v6, A_main_v2, A_main_v0,
    K_main_v56, K_main_v58, K_main_v61, K_main_v63, K_main_v51, K_main_v53, K_main_v7, K_main_cst, hc, hs]
  unfold rot head128
  split
  · simp only [Nat.add_comm 64]
  · rename_i hd
    simp only [half_add _ hd]

/-- The values. -/
theorem v_apply (v : Fin 256) : A_main_v68 (F := Ideal) X (ix5 b n j h v) = head256 X 4096 (by decide) b h (row n j) v := by
  rw [row_eq]
  pointwise [A_main_v68, A_main_v9, A_main_v3, A_main_v0]
  rfl

end Operands

section Products
variable (b : Fin 4) (n : Fin 32) (j : Fin 64) (h : Fin 8)

/-- The masked products within a chunk, of any queries, keys and values. -/
theorem intra_apply (Q K : FVec Ideal S4x32x64x8x128 .f32) (V : FVec Ideal S4x32x64x8x256 .f32) (dm : FVec Ideal S8x64x64 .f32) (v : Fin 256) :
    transpose S32x4x64x8x256 [0, 1, 4, 2, 3] (Host.dotGeneral dot_S4x32x64x8x256_S4x32x8x64x64_S32x4x8x256x64_2_4_4_3_103_102 none V
      (mulf (Host.dotGeneral dot_S4x32x64x8x128_S4x32x64x8x128_S4x32x8x64x64_4_4_2_2_013_013 none Q K)
        (broadcastInDim S4x32x8x64x64 ![0, 1, 2, 3, 4] bcast_S1x1x8x64x64_S4x32x8x64x64_0_1_2_3_4
          (broadcastInDim S1x1x8x64x64 ![2, 3, 4] bcast_S8x64x64_S1x1x8x64x64_2_3_4 dm))))
      transposes_S32x4x8x256x64_S32x4x64x8x256_0_1_4_2_3 (ix5 n b j h v)
    = ∑ l : Fin 64, V (ix5 b n l h v) * ((∑ k : Fin 128, Q (ix5 b n j h k) * K (ix5 b n l h k)) * dm (ix3 h j l)) := by
  pointwise []

/-- The decayed keys' products with the values, of any keys and values. -/
theorem kv_apply (K : FVec Ideal S4x32x64x8x128 .f32) (V : FVec Ideal S4x32x64x8x256 .f32) (kd : FVec Ideal S64x8 .f32) (k : Fin 128) (v : Fin 256) :
    Host.dotGeneral dot_S4x32x64x8x128_S4x32x64x8x256_S32x4x8x128x256_2_2_4_4_103_103 none
      (mulf K (broadcastInDim S4x32x64x8x128 ![0, 1, 2, 3, 4] bcast_S1x1x64x8x1_S4x32x64x8x128_0_1_2_3_4
        (broadcastInDim S1x1x64x8x1 ![2, 3] bcast_S64x8_S1x1x64x8x1_2_3 kd))) V (ix5 n b h k v)
    = ∑ l : Fin 64, K (ix5 b n l h k) * kd (ix2 l h) * V (ix5 b n l h v) := by
  pointwise []

/-- The decayed queries, of any queries. -/
theorem qdec_apply (Q : FVec Ideal S4x32x64x8x128 .f32) (qd : FVec Ideal S64x8 .f32) (k : Fin 128) :
    transpose S32x4x64x8x128 [1, 0, 2, 3, 4] (mulf Q (broadcastInDim S4x32x64x8x128 ![0, 1, 2, 3, 4] bcast_S1x1x64x8x1_S4x32x64x8x128_0_1_2_3_4
      (broadcastInDim S1x1x64x8x1 ![2, 3] bcast_S64x8_S1x1x64x8x1_2_3 qd))) transposes_S4x32x64x8x128_S32x4x64x8x128_1_0_2_3_4 (ix5 n b j h k)
    = Q (ix5 b n j h k) * qd (ix2 j h) := by
  pointwise []

end Products

section Trips
variable (s : State Ideal) (n : Fin 32) (b : Fin 4) (h : Fin 8)

/-- A trip's five start indices: its number, and zeros. -/
theorem start_eq (a : Fin 5) : BitVec.toInt ((![constantI S_ 32 (BitVec.ofNat 32 n.val), constantI S_ 32 0#32, constantI S_ 32 0#32, constantI S_ 32 0#32,
    constantI S_ 32 0#32] : Fin 5 → IVec S_ 32) a (Shape.Idx.first h_S_)) = ((![n.val, 0, 0, 0, 0] : Fin 5 → ℕ) a : Int) := by
  match a with
  | ⟨0, _⟩ => exact toInt_ofNat_of_lt (by omega)
  | ⟨1, _⟩ | ⟨2, _⟩ | ⟨3, _⟩ | ⟨4, _⟩ => rfl

/-- A trip's slice of the products of keys and values. -/
theorem kv_slice (k : Fin 128) (v : Fin 256) : b5 n s (ix4 b h k v) = s.main_v131_0 (ix5 n b h k v) := by
  have hs : S32x4x8x128x256.Slices ![n.val, 0, 0, 0, 0] S1x4x8x128x256 := ⟨rfl, by
    intro a
    match a with
    | ⟨0, _⟩ => exact n.isLt
    | ⟨1, _⟩ | ⟨2, _⟩ | ⟨3, _⟩ | ⟨4, _⟩ => exact Nat.le_refl _⟩
  unfold b5 b4
  rw [Host.dynamicSlice_eq_extractStridedSlice _ _ _ ![n.val, 0, 0, 0, 0] _ hs (start_eq n)]
  pointwise []

/-- A trip's slice of the decayed queries. -/
theorem qd_slice (j : Fin 64) (k : Fin 128) : b11 n s (ix4 b j h k) = s.main_v131_1 (ix5 n b j h k) := by
  have hs : S32x4x64x8x128.Slices ![n.val, 0, 0, 0, 0] S1x4x64x8x128 := ⟨rfl, by
    intro a
    match a with
    | ⟨0, _⟩ => exact n.isLt
    | ⟨1, _⟩ | ⟨2, _⟩ | ⟨3, _⟩ | ⟨4, _⟩ => exact Nat.le_refl _⟩
  unfold b11 b10
  rw [Host.dynamicSlice_eq_extractStridedSlice _ _ _ ![n.val, 0, 0, 0, 0] _ hs (start_eq n)]
  pointwise []

/-- A trip's slice of the masked products. -/
theorem yi_slice (j : Fin 64) (v : Fin 256) : b17 n s (ix4 b j h v) = s.main_v131_2 (ix5 n b j h v) := by
  have hs : S32x4x64x8x256.Slices ![n.val, 0, 0, 0, 0] S1x4x64x8x256 := ⟨rfl, by
    intro a
    match a with
    | ⟨0, _⟩ => exact n.isLt
    | ⟨1, _⟩ | ⟨2, _⟩ | ⟨3, _⟩ | ⟨4, _⟩ => exact Nat.le_refl _⟩
  unfold b17 b16
  rw [Host.dynamicSlice_eq_extractStridedSlice _ _ _ ![n.val, 0, 0, 0, 0] _ hs (start_eq n)]
  pointwise []

/-- A trip's new state: the old one decayed, and the chunk's products added. -/
theorem state_step (k : Fin 128) (v : Fin 256) : (step n s).main_v131_5 (ix4 b h k v)
    = s.main_v131_5 (ix4 b h k v) * K_main_v115 (ix1 h) + s.main_v131_0 (ix5 n b h k v) := by
  rw [step_main_v131_5, ← kv_slice s n b h k v]
  pointwise [b22, b21, b20, K_main_v116]

/-- A trip's output rows: the masked products, and the decayed queries against the state. -/
theorem out_step (j : Fin 64) (v : Fin 256) : b23 n s (ix4 b j h v)
    = s.main_v131_2 (ix5 n b j h v) + ∑ k : Fin 128, s.main_v131_5 (ix4 b h k v) * s.main_v131_1 (ix5 n b j h k) := by
  rw [← yi_slice s n b h j v]
  simp only [← qd_slice s n b h j]
  pointwise [b23, b19, b18]

/-- A trip writes its output rows at its own chunk. -/
theorem write_same (j : Fin 64) (v : Fin 256) : (step n s).main_v131_6 (ix5 n b j h v) = b23 n s (ix4 b j h v) := by
  have hs : S32x4x64x8x256.Slices ![n.val, 0, 0, 0, 0] S1x4x64x8x256 := ⟨rfl, by
    intro a
    match a with
    | ⟨0, _⟩ => exact n.isLt
    | ⟨1, _⟩ | ⟨2, _⟩ | ⟨3, _⟩ | ⟨4, _⟩ => exact Nat.le_refl _⟩
  rw [step_main_v131_6]
  unfold b29 b28 b27 b26 b25 b24
  rw [WordCmp.dynamicUpdateSlice_eq_update _ _ _ _ _ hs (start_eq n)]
  pointwise []
  exact dif_pos ⟨Nat.le_refl _, Nat.lt_succ_self _⟩

/-- A trip leaves other chunks' rows. -/
theorem write_other (n' : Fin 32) (hne : n' ≠ n) (j : Fin 64) (v : Fin 256) :
    (step n s).main_v131_6 (ix5 n' b j h v) = s.main_v131_6 (ix5 n' b j h v) := by
  have hs : S32x4x64x8x256.Slices ![n.val, 0, 0, 0, 0] S1x4x64x8x256 := ⟨rfl, by
    intro a
    match a with
    | ⟨0, _⟩ => exact n.isLt
    | ⟨1, _⟩ | ⟨2, _⟩ | ⟨3, _⟩ | ⟨4, _⟩ => exact Nat.le_refl _⟩
  rw [step_main_v131_6]
  unfold b29 b28 b27 b26 b25 b24
  rw [WordCmp.dynamicUpdateSlice_eq_update _ _ _ _ _ hs (start_eq n)]
  pointwise []
  exact dif_neg fun hc => hne (Fin.ext (by omega))

end Trips

/-- The result's element in row `2048 b + 64 n + j`, column `256 h + v`, from the last state. -/
theorem res_apply (s : State Ideal) (X : FVec Ideal S8192x8192 .f32) (g : FVec Ideal S1x8x256 .f32) (i : Fin 8192) (w : Fin 2048)
    (b : Fin 4) (n : Fin 32) (j : Fin 64) (h : Fin 8) (v : Fin 256) (hi : i.val = b.val * 2048 + (n.val * 64 + j.val)) (hw : w.val = h.val * 256 + v.val) :
    R_main_v157 s X g (ix2 i w) = gated (head256 X 6144 (by decide) b h (row n j) v) (fun u => s.main_v131_6 (ix5 n b j h u)) (g (ix3 0 h v)) v := by
  obtain ⟨i, hi'⟩ := i
  obtain ⟨w, hw'⟩ := w
  subst hi hw
  have hr : (⟨b.val * 2048 + (b.val * 2048 + (n.val * 64 + j.val)) % 2048, by omega⟩ : Fin 8192) = ⟨b.val * 2048 + (n.val * 64 + j.val), by omega⟩ :=
    Fin.ext (by show b.val * 2048 + (b.val * 2048 + (n.val * 64 + j.val)) % 2048 = b.val * 2048 + (n.val * 64 + j.val); omega)
  pointwise [R_main_v157, hr]
  unfold gated head256
  rw [row_eq]
  rfl

end Cert.ReferenceIdeal.Ret

end
-- ==== Proof.RefLoop.lean ====
/- The reference's trips, iterated: the state before each chunk and the chunks' outputs are the retention's. -/
module

public import proofs.«01_k».proof.Proof.RefPoint

@[expose] public section

set_option maxRecDepth 65536

noncomputable section

namespace Cert.ReferenceIdeal.Ret

open Cert.ReferenceIdeal Cert.ReferenceIdeal.Gen Idealize.ShloMosaic
open Cert.ReferenceIdeal.Step
open Cert.Ret (row rot state mix gated)

/-- The states before each trip. -/
def iter (X : FVec Ideal S8192x8192 .f32) : ℕ → State Ideal
  | 0 => init X
  | n + 1 => step n (iter X n)

variable (X : FVec Ideal S8192x8192 .f32) (b : Fin 4) (h : Fin 8)

/-- The rotated queries of a head. -/
def queries (p : Fin 2048) : Fin 128 → EReal := rot (cosR p) (sinR p) (head128 X 2048 (by decide) b h p)

/-- The scaled and rotated keys of a head. -/
def keys (p : Fin 2048) : Fin 128 → EReal :=
  rot (cosR p) (sinR p) (fun e => head128 X 3072 (by decide) b h p e * Ideal.ofBits .f32 0x3DB504F3#32)

/-- The decay of a head's keys. -/
def keyDecay (l : Fin 64) : EReal := K_main_v108 (F := Ideal) (ix2 l h)

/-- The decay of a head's queries. -/
def queryDecay (j : Fin 64) : EReal := K_main_v124 (F := Ideal) (ix2 j h)

/-- The mask of a head's products within a chunk. -/
def mask (j l : Fin 64) : EReal := K_main_v94 (F := Ideal) (ix3 h j l)

/-- The trips keep the products of keys and values. -/
theorem iter_kv (N : ℕ) : (iter X N).main_v131_0 = A_main_v112 X := by
  induction N with
  | zero => rfl
  | succ N ih => exact ih

/-- The trips keep the decayed queries. -/
theorem iter_qd (N : ℕ) : (iter X N).main_v131_1 = A_main_v129 X := by
  induction N with
  | zero => rfl
  | succ N ih => exact ih

/-- The trips keep the masked products. -/
theorem iter_yi (N : ℕ) : (iter X N).main_v131_2 = A_main_v100 X := by
  induction N with
  | zero => rfl
  | succ N ih => exact ih

/-- The products of keys and values, at an index. -/
theorem kv_eq (n : Fin 32) (k : Fin 128) (v : Fin 256) : A_main_v112 (F := Ideal) X (ix5 n b h k v)
    = ∑ l : Fin 64, keys X b h (row n l) k * keyDecay h l * head256 X 4096 (by decide) b h (row n l) v := by
  refine (kv_apply b n h (A_main_v67 (F := Ideal) X) (A_main_v68 (F := Ideal) X) (K_main_v108 (F := Ideal)) k v).trans (Finset.sum_congr rfl fun l _ => ?_)
  rw [k_apply, v_apply]
  rfl

/-- The decayed queries, at an index. -/
theorem qd_eq (n : Fin 32) (j : Fin 64) (k : Fin 128) : A_main_v129 (F := Ideal) X (ix5 n b j h k)
    = queries X b h (row n j) k * queryDecay h j := by
  refine (qdec_apply b n j h (A_main_v38 (F := Ideal) X) (K_main_v124 (F := Ideal)) k).trans ?_
  rw [q_apply]
  rfl

/-- The masked products, at an index. -/
theorem yi_eq (n : Fin 32) (j : Fin 64) (v : Fin 256) : A_main_v100 (F := Ideal) X (ix5 n b j h v)
    = ∑ l : Fin 64, (∑ k : Fin 128, queries X b h (row n j) k * keys X b h (row n l) k) * mask h j l * head256 X 4096 (by decide) b h (row n l) v := by
  refine (intra_apply b n j h (A_main_v38 (F := Ideal) X) (A_main_v67 (F := Ideal) X) (A_main_v68 (F := Ideal) X) (K_main_v94 (F := Ideal)) v).trans (Finset.sum_congr rfl fun l _ => ?_)
  rw [v_apply, mul_comm]
  simp only [q_apply, k_apply]
  rfl

/-- The state before chunk `N` is the retention's. -/
theorem iter_state (N : ℕ) (hN : N ≤ 32) (k : Fin 128) (v : Fin 256) : (iter X N).main_v131_5 (ix4 b h k v)
    = state (keyDecay h) (K_main_v115 (F := Ideal) (ix1 h)) (keys X b h) (head256 X 4096 (by decide) b h) N k v := by
  induction N with
  | zero =>
    show K_main_v128 (F := Ideal) (ix4 b h k v) = 0
    pointwise [K_main_v128, K_main_cst_17]
  | succ N ih =>
    refine (state_step (iter X N) ⟨N, hN⟩ b h k v).trans ?_
    rw [ih (by omega), iter_kv, kv_eq]
    rfl

/-- A trip's outputs are the retention's of its chunk. -/
theorem iter_out (n : Fin 32) (j : Fin 64) (v : Fin 256) : b23 n (iter X n) (ix4 b j h v)
    = mix (mask h) (queryDecay h) (keyDecay h) (K_main_v115 (F := Ideal) (ix1 h)) (queries X b h) (keys X b h) (head256 X 4096 (by decide) b h) n j v := by
  rw [out_step, iter_yi, iter_qd, yi_eq]
  refine congrArg (_ + ·) (Finset.sum_congr rfl fun k _ => ?_)
  rw [iter_state X b h n (by omega), qd_eq, mul_comm]

/-- After `N` trips the rows of the chunks below `N` are written, each by its own trip. -/
theorem iter_ys (N : ℕ) (hN : N ≤ 32) (n : Fin 32) (hn : n.val < N) (j : Fin 64) (v : Fin 256) :
    (iter X N).main_v131_6 (ix5 n b j h v) = b23 n (iter X n) (ix4 b j h v) := by
  induction N with
  | zero => exact absurd hn (Nat.not_lt_zero _)
  | succ N ih =>
    by_cases e : n.val = N
    · obtain rfl : n = ⟨N, hN⟩ := Fin.ext e
      exact write_same (iter X N) ⟨N, hN⟩ b h j v
    · exact (write_other (iter X N) ⟨N, hN⟩ b h n (fun hc => e (congrArg Fin.val hc)) j v).trans (ih (by omega) (by omega))

/-- THE REFERENCE'S RESULT in row `2048 b + 64 n + j`, column `256 h + v`, is the retention of head `h` over sequence `b`. -/
theorem result_eq (g : FVec Ideal S1x8x256 .f32) (n : Fin 32) (j : Fin 64) (v : Fin 256) (i : Fin 8192) (w : Fin 2048)
    (hi : i.val = b.val * 2048 + (n.val * 64 + j.val)) (hw : w.val = h.val * 256 + v.val) :
    R_main_v157 (iter X 32) X g (ix2 i w) = gated (head256 X 6144 (by decide) b h (row n j) v)
      (mix (mask h) (queryDecay h) (keyDecay h) (K_main_v115 (F := Ideal) (ix1 h)) (queries X b h) (keys X b h) (head256 X 4096 (by decide) b h) n j)
      (g (ix3 0 h v)) v := by
  rw [res_apply (iter X 32) X g i w b n j h v hi hw]
  refine congrArg (fun y => gated _ y _ v) (funext fun u => ?_)
  rw [iter_ys X b h 32 (Nat.le_refl _) n n.isLt, iter_out]

end Cert.ReferenceIdeal.Ret

end
-- ==== Proof.RefRun.lean ====
/- The reference's run as its step iterated: the loop's carried arrays before trip `k` are state number `k` of any sequence that
   starts at the initial state and goes on by the step. -/
module

public import proofs.«01_k».proof.Proof.Gen.ReferenceIdeal.Run
public import proofs.«01_k».proof.Proof.Gen.ReferenceIdeal.Step

@[expose] public section

noncomputable section

namespace Cert.ReferenceIdeal.Ret

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]

/-- The loop's buffers hold state `s` and trip number `j`. -/
structure At (V : Valuation τ sig (Elt F)) (s : State F) (j : ℕ) : Prop where
  state : V (Proc.devRef .tc main_v131_5) = s.main_v131_5
  ys : V (Proc.devRef .tc main_v131_6) = s.main_v131_6
  kv : V (Proc.devRef .tc main_v131_0) = s.main_v131_0
  qd : V (Proc.devRef .tc main_v131_1) = s.main_v131_1
  yi : V (Proc.devRef .tc main_v131_2) = s.main_v131_2
  trip : V (Proc.devRef .tc main_v131_4) = constantI S_ 32 (BitVec.ofNat 32 j)
  decay : V (Proc.devRef .tc main_v131_3) = K_main_v116 (F := F)

section Trip
variable {V : Valuation τ sig (Elt F)} {s : State F} {j : ℕ}

/-- A trip's new recurrent state is the step's. -/
theorem trip_state (h : At V s j) : Value.step_main_v131_5 V = (step j s).main_v131_5 := by
  show Value.step_main_v131_5 V = b22 j s
  unfold Value.step_main_v131_5 b22 b21 b20 b5 b4 b3 b2 b1 b0
  rw [← h.state, ← h.kv, ← h.trip, ← h.decay]
  rfl

/-- A trip's new array of outputs is the step's. -/
theorem trip_ys (h : At V s j) : Value.step_main_v131_6 V = (step j s).main_v131_6 := by
  show Value.step_main_v131_6 V = b29 j s
  unfold Value.step_main_v131_6 b29 b28 b27 b26 b25 b24 b23 b19 b18 b17 b16 b15 b14 b13 b12 b11 b10 b9 b8 b7 b6
  rw [← h.state, ← h.ys, ← h.qd, ← h.yi, ← h.trip]
  rfl

/-- A trip's number is one more. -/
theorem trip_number (h : At V s j) : Value.step_main_v131_4 V = constantI S_ 32 (BitVec.ofNat 32 (j + 1)) := by
  unfold Value.step_main_v131_4
  rw [h.trip]
  funext i
  exact (BitVec.ofNat_add j 1).symm

/-- A trip takes buffers holding state `s` to buffers holding the step of `s`. -/
theorem At.next (h : At V s j) : At (STEP V) (step j s) (j + 1) :=
  ⟨(STEP_main_v131_5 V).trans (trip_state h), (STEP_main_v131_6 V).trans (trip_ys h),
    (STEP_main_v131_0 V).trans h.kv, (STEP_main_v131_1 V).trans h.qd, (STEP_main_v131_2 V).trans h.yi,
    (STEP_main_v131_4 V).trans (trip_number h), (STEP_main_v131_3 V).trans h.decay⟩
end Trip

variable (m : (ℓ : Loc nD τ sig) → Buf (Elt F) ℓ) (c : Dev nD)

set_option maxRecDepth 65536 in
set_option maxHeartbeats 800000 in
/-- The operations before the loop leave the initial state and number 0. -/
theorem at_entry : At (entryContents preI m c) (init (m ((c.tc : Thread nD τ).loc main_arg0))) 0 := by
  constructor <;> (simp only [entryContents, afterL_cons, afterL_nil]; after_reads_simp) <;> rfl

/-- Before trip `k` the loop's buffers hold state number `k`. -/
theorem at_trip (it : ℕ → State F) (h0 : it 0 = init (m ((c.tc : Thread nD τ).loc main_arg0)))
    (hs : ∀ n, it (n + 1) = step n (it n)) (k : ℕ) : At (STEP^[k] (entryContents preI m c)) (it k) k := by
  induction k with
  | zero => rw [h0]; exact at_entry m c
  | succ k ih =>
    rw [Function.iterate_succ_apply', hs k]
    exact ih.next

/-- THE REFERENCE'S RUN: it ends with the result at the last state's reading and the arguments unchanged. -/
theorem run_states (m : (ℓ : Loc nD τ sig) → Buf (Elt F) ℓ) (ρ : Dev nD → PrngReg) (it : Dev nD → ℕ → State F)
    (h0 : ∀ c, it c 0 = init (m ((c.tc : Thread nD τ).loc main_arg0))) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v157)
          = R_main_v157 (it c 32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2.1, (h c).2.2⟩) (Value.run m ρ)
  have hk := at_trip m c (it c) (h0 c) (hs c) 32
  unfold out_main_v157 R_main_v157
  rw [hk.ys, iter_main_arg0 m c 32, iter_main_arg1 m c 32]
  rfl

end Cert.ReferenceIdeal.Ret

end
-- ==== Proof.Retention.lean ====
/- The retention's value claim: the kernel's launch and the reference's loop end with equal results. -/
module

public import proofs.«01_k».proof.Defs
public import proofs.«01_k».proof.Proof.KArray
public import proofs.«01_k».proof.Proof.RefLoop
public import proofs.«01_k».proof.Proof.RefRun
public import proofs.«01_k».proof.Proof.Gen.Kernel.Frame
public import proofs.«01_k».proof.Proof.Gen.KernelIdeal.Frame
public import Idealize.ShloMosaic.Adequacy
public import Idealize.ShloMosaic.Init

@[expose] public section

set_option maxRecDepth 65536

noncomputable section

namespace Cert.Ret

open Idealize.ShloMosaic Idealize.ShloMosaic.TcCoe Idealize.SL.Sem
open Cert.KernelIdeal (S8192x8192 S1x8x256)
open Cert.KernelIdeal.Ret (col128 col256)
open Cert.ReferenceIdeal.Ret (head128 head256)

/-- The two layouts of a 128-wide head's columns are one. -/
theorem head128_eq (X : FVec Ideal S8192x8192 .f32) (o : ℕ) (ho : o ≤ 4096) (ho' : o ≤ 7168) (t : ℕ) (ht : t < 32) (b : Fin 4) (h : Fin 8)
    (hb : t / 8 = b.val) (hh : t % 8 = h.val) (p : Fin 2048) : col128 X o t ht ho' p = head128 X o ho b h p :=
  funext fun d => by
    unfold col128 head128
    refine congrArg X (congrArg₂ ix2 (Fin.ext ?_) (Fin.ext ?_))
    · show 2048 * (t / 8) + p.val = b.val * 2048 + p.val
      omega
    · show o + 128 * (t % 8) + d.val = o + (h.val * 128 + d.val)
      omega

/-- The two layouts of a 256-wide head's columns are one. -/
theorem head256_eq (X : FVec Ideal S8192x8192 .f32) (o : ℕ) (ho : o ≤ 6144) (t : ℕ) (ht : t < 32) (b : Fin 4) (h : Fin 8)
    (hb : t / 8 = b.val) (hh : t % 8 = h.val) (p : Fin 2048) : col256 X o t ht ho p = head256 X o ho b h p :=
  funext fun v => by
    unfold col256 head256
    refine congrArg X (congrArg₂ ix2 (Fin.ext ?_) (Fin.ext ?_))
    · show 2048 * (t / 8) + p.val = b.val * 2048 + p.val
      omega
    · show o + 256 * (t % 8) + v.val = o + (h.val * 256 + v.val)
      omega

/-- The kernel's element and the reference's are one, at every sequence, head, chunk, row and column. -/
theorem element_eq (X : FVec Ideal S8192x8192 .f32) (g : FVec Ideal S1x8x256 .f32) (t : ℕ) (ht : t < 32) (b : Fin 4) (h : Fin 8)
    (hb : t / 8 = b.val) (hh : t % 8 = h.val) (n : Fin 32) (j : Fin 64) (v : Fin 256) (i : Fin 8192) (w : Fin 2048)
    (hi : i.val = b.val * 2048 + (n.val * 64 + j.val)) (hw : w.val = h.val * 256 + v.val) :
    Cert.ReferenceIdeal.Step.R_main_v157 (Cert.ReferenceIdeal.Ret.iter X 32) X g (ix2 i w) = Cert.KernelIdeal.Ret.result X g t ht n j v := by
  have e : (⟨t % 8, Nat.mod_lt _ (by decide)⟩ : Fin 8) = h := Fin.ext hh
  rw [Cert.ReferenceIdeal.Ret.result_eq X b h g n j v i w hi hw]
  unfold Cert.KernelIdeal.Ret.result
  rw [head256_eq X 6144 (by decide) t ht b h hb hh, funext (head256_eq X 4096 (by decide) t ht b h hb hh),
    funext (head128_eq X 2048 (by decide) (by decide) t ht b h hb hh), funext (head128_eq X 3072 (by decide) (by decide) t ht b h hb hh), e]
  rfl

/-- The two runs' result arrays are one. -/
theorem arrays_eq (m : (ℓ : Loc Cert.KernelIdeal.nD Cert.KernelIdeal.τ Cert.KernelIdeal.sig) → Buf (Elt Ideal) ℓ) (c : Dev Cert.KernelIdeal.nD) :
    Cert.ReferenceIdeal.Step.R_main_v157 (F := Ideal) (Cert.ReferenceIdeal.Ret.iter (Cert.KernelIdeal.Ret.proj m c) 32) (Cert.KernelIdeal.Ret.proj m c) (Cert.KernelIdeal.Ret.gain m c)
      = (Cert.KernelIdeal.Gen.dats m 0 c).arrAt 11 Cert.KernelIdeal.cfg0.N := by
  funext i
  have hi : (i 0).val < 8192 := (i 0).isLt
  have hw : (i 1).val < 2048 := (i 1).isLt
  have ht : (i 0).val / 2048 * 8 + (i 1).val / 256 < 32 := by omega
  refine Eq.trans (congrArg _ (ix2_eta i).symm) ((element_eq _ _ ((i 0).val / 2048 * 8 + (i 1).val / 256) ht
    ⟨(i 0).val / 2048, by omega⟩ ⟨(i 1).val / 256, by omega⟩ (by show _ = (i 0).val / 2048; omega) (by show _ = (i 1).val / 256; omega)
    ⟨(i 0).val % 2048 / 64, by omega⟩ ⟨(i 0).val % 64, by omega⟩ ⟨(i 1).val % 256, by omega⟩ (i 0) (i 1)
    (by show (i 0).val = (i 0).val / 2048 * 2048 + ((i 0).val % 2048 / 64 * 64 + (i 0).val % 64); omega)
    (by show (i 1).val = (i 1).val / 256 * 256 + (i 1).val % 256; omega)).trans ?_)
  refine (Cert.KernelIdeal.Ret.array_eq m c ⟨(i 0).val / 2048 * 8 + (i 1).val / 256, Nat.lt_of_lt_of_eq ht Cert.KernelIdeal.Gen.N_0.symm⟩
    ((i 0).val % 2048 / 64) (by omega) ⟨(i 0).val % 64, by omega⟩ ⟨(i 1).val % 256, by omega⟩ i ?_ ?_).symm
  · show (i 0).val = 2048 * (((i 0).val / 2048 * 8 + (i 1).val / 256) / 8) + (64 * ((i 0).val % 2048 / 64) + (i 0).val % 64)
    omega
  · show (i 1).val = 256 * (((i 0).val / 2048 * 8 + (i 1).val / 256) % 8) + (i 1).val % 256
    omega

/-- The retention's value claim. -/
theorem algebraic : Cert.algebraic_KernelIdeal_ReferenceIdeal := by
  intro m ρ m' ρ' _ hagree
  refine ⟨fun c => (Cert.KernelIdeal.Gen.dats m 0 c).arrAt 11 Cert.KernelIdeal.cfg0.N, Cert.KernelIdeal.Value.run_blocks (F := Ideal) m ρ, ?_⟩
  refine (θ_run _ _ _).mono (fun _ h c => ⟨(h c).1.trans ?_, (h c).2⟩)
    (Cert.ReferenceIdeal.Ret.run_states (F := Ideal) m' ρ'
      (fun c => Cert.ReferenceIdeal.Ret.iter (m' ((c.tc : Thread Cert.ReferenceIdeal.nD Cert.ReferenceIdeal.τ).loc Cert.ReferenceIdeal.main_arg0))) (fun _ => rfl) (fun _ _ => rfl))
  rw [(hagree c).1, (hagree c).2]
  exact arrays_eq m c

/-- The reference's frame. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Ret

end
-- ==== Proof.Sigmoid.lean ====
/- The logistic function by the hyperbolic tangent, over the extended reals. -/
module

public import Idealize.ShloMosaic.Lib.Pointwise
public import Idealize.ShloMosaic.Lib.IdealHost
public import Idealize.ShloMosaic.PureOps.Ideal

@[expose] public section

noncomputable section

namespace Cert.Gates

open Idealize.ShloMosaic

/-- The constant one half. -/
theorem half_eq : Ideal.ofBits .f32 0x3F000000#32 = ((1 / 2 : ℝ) : EReal) := by
  simp [Ideal.ofBits, Ideal.ieee, -EReal.coe_mul]
  norm_num

/-- A real's logistic by its half's hyperbolic tangent. -/
theorem real_logistic (r : ℝ) : (1 / 2 : ℝ) * (1 + Real.tanh (1 / 2 * r)) = (1 + Real.exp (-r))⁻¹ := by
  have hp : (0 : ℝ) < Real.exp (1 / 2 * r) := Real.exp_pos _
  have hn : Real.exp (-r) = (Real.exp (1 / 2 * r) * Real.exp (1 / 2 * r))⁻¹ := by
    rw [← Real.exp_add, ← Real.exp_neg]
    congr 1
    ring
  rw [Real.tanh_eq_sinh_div_cosh, Real.sinh_eq, Real.cosh_eq, hn, Real.exp_neg]
  field_simp
  ring

/-- HALF OF ONE PLUS THE TANGENT OF THE HALF IS THE LOGISTIC, at the infinities too. -/
theorem tanh_logistic (x : EReal) :
    Ideal.ofBits .f32 0x3F000000#32 * (Ideal.ofBits .f32 0x3F800000#32 + Ideal.tanh (Ideal.ofBits .f32 0x3F000000#32 * x)) = Ideal.logistic x := by
  rw [half_eq, Ideal.ofBits_one_f32]
  induction x with
  | bot =>
    rw [EReal.coe_mul_bot_of_pos (by norm_num), Ideal.logistic_bot]
    show ((1 / 2 : ℝ) : EReal) * (1 + -1) = 0
    rw [show (1 : EReal) + -1 = ((1 + -1 : ℝ) : EReal) from rfl, ← EReal.coe_mul]
    norm_num
  | top =>
    rw [EReal.coe_mul_top_of_pos (by norm_num), Ideal.logistic_top]
    show ((1 / 2 : ℝ) : EReal) * (1 + 1) = 1
    rw [show (1 : EReal) + 1 = ((1 + 1 : ℝ) : EReal) from rfl, ← EReal.coe_mul]
    norm_num
  | coe r =>
    rw [Ideal.logistic_coe, ← real_logistic r, ← EReal.coe_mul]
    show ((1 / 2 : ℝ) : EReal) * (((1 : ℝ) : EReal) + ((Real.tanh (1 / 2 * r) : ℝ) : EReal)) = _
    rw [← EReal.coe_add, ← EReal.coe_mul]

end Cert.Gates

end
-- ==== Proof.Gates.lean ====
/- The gates: each block of the product with the rounded weights kept between points, its bias and its logistic; and the
   experts' first weights rounded on the way. -/
module

public import proofs.«01_k».proof.Defs
public import proofs.«01_k».proof.Proof.Sigmoid
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import Idealize.ShloMosaic.Lib.Claim
public import Idealize.ShloMosaic.Adequacy
public import Idealize.ShloMosaic.Init

@[expose] public section

set_option maxRecDepth 65536

noncomputable section

namespace Cert.Gates

open Idealize.ShloMosaic Idealize.ShloMosaic.TcCoe Idealize.SL.Sem

section Kernel
open Cert.Kernel2Ideal Cert.Kernel2Ideal.Gen

/-- A block of gates at an index. -/
theorem block_apply (x : FVec Ideal S1024x4096 .bf16) (w : FVec Ideal S4096x512 .bf16) (b : FVec Ideal S1x512 .f32) (i : Fin 1024) (j : Fin 512) :
    k0_pay3 (F := Ideal) x w b (ix2 i j) = Ideal.logistic ((∑ k : Fin 4096, x (ix2 i k) * w (ix2 k j)) + b (ix2 0 j)) := by
  rw [← tanh_logistic]
  pointwise [k0_pay3]

/-- The rounded weights at an index. -/
theorem round_apply (w : FVec Ideal S4096x512 .f32) (k : Fin 4096) (j : Fin 512) : k0_pay2 (F := Ideal) w (ix2 k j) = w (ix2 k j) := by
  pointwise [k0_pay2]

/-- The rounded experts' weights at an index. -/
theorem side_apply (w : FVec Ideal S128x4096 .f32) (k : Fin 128) (j : Fin 4096) : k0_pay1 (F := Ideal) w (ix2 k j) = w (ix2 k j) := by
  pointwise [k0_pay1]

section Terms
variable (c : Dev nD) (i : grid0.Coords) (a2 : Memref sig .tc .vmem S1024x4096 .bf16) (h2 : a2.IsWhole) (a3 : Memref sig .tc .vmem S4096x512 .f32) (h3 : a3.IsWhole)
  (a4 : Memref sig .tc .vmem S1x512 .f32) (h4 : a4.IsWhole) (a5 : Memref sig .tc .vmem S128x4096 .f32) (h5 : a5.IsWhole) (a6 : Memref sig .tc .vmem S1024x512 .bf16) (h6 : a6.IsWhole)
  (a7 : Memref sig .tc .vmem S128x4096 .bf16) (h7 : a7.IsWhole) (a8 : Memref sig .tc .vmem S4096x512 .bf16) (h8 : a8.IsWhole)
  (x0 : Vec Ideal S1024x4096 .bf16) (x1 : Vec Ideal S4096x512 .f32) (x2 : Vec Ideal S1x512 .f32) (x3 : Vec Ideal S128x4096 .f32) (xs : Vec Ideal S4096x512 .bf16)

/-- What a column's first point leaves in the kept weights: the block, rounded. -/
theorem kept_first (hc : cond0_0 i) : sout0_A_0 c i a2 h2 a3 h3 a4 h4 a5 h5 a6 h6 a7 h7 a8 h8 hc x0 x1 x2 x3 = k0_pay2 x1 := by
  unfold sout0_A_0
  rw [View.read_writes_junk_eq_canon]
  unfold kernelRun0_A
  dsimp only
  sl_unfold_words
  simp only [View.readAt_eq_ld, h2.read_unread, h3.read_unread, h4.read_unread, h5.read_unread]
  rw [View.canon_unit_zero (by decide), View.ld_unit_zero (by decide)]

/-- A column's first point's gates. -/
theorem gates_first (hc : cond0_0 i) : out0_A_4 c i a2 h2 a3 h3 a4 h4 a5 h5 a6 h6 a7 h7 a8 h8 hc x0 x1 x2 x3 = k0_pay3 x0 (k0_pay2 x1) x2 := by
  unfold out0_A_4
  rw [View.read_writes_junk_eq_canon]
  unfold kernelRun0_A
  dsimp only
  sl_unfold_words
  simp only [View.readAt_eq_ld, h2.read_unread, h3.read_unread, h4.read_unread, h5.read_unread]
  rw [View.canon_unit_zero (by decide), View.readCov_cons_toLoadRect, View.ld_unit_zero (by decide), View.ld_unit_zero (by decide), View.ld_unit_zero (by decide)]

/-- A later point's gates, over the weights kept. -/
theorem gates_later (hc : ¬cond0_0 i) : out0_B_4 c i a2 h2 a3 h3 a4 h4 a5 h5 a6 h6 a7 h7 a8 h8 hc x0 x1 x2 x3 xs = k0_pay3 x0 xs x2 := by
  unfold out0_B_4
  rw [View.read_writes_junk_eq_canon]
  unfold kernelRun0_B
  dsimp only
  sl_unfold_words
  simp only [View.readAt_eq_ld, h2.read_unread, h3.read_unread, h4.read_unread, h5.read_unread, h8.read_unread]
  rw [View.canon_unit_zero (by decide), View.ld_unit_zero (by decide), View.ld_unit_zero (by decide), View.ld_unit_zero (by decide)]

/-- A column's first point's rounded experts. -/
theorem side_first (hc : cond0_0 i) : out0_A_5 c i a2 h2 a3 h3 a4 h4 a5 h5 a6 h6 a7 h7 a8 h8 hc x0 x1 x2 x3 = k0_pay1 x3 := by
  unfold out0_A_5
  rw [View.read_writes_junk_eq_canon]
  unfold kernelRun0_A
  dsimp only
  sl_unfold_words
  simp only [View.readAt_eq_ld, h2.read_unread, h3.read_unread, h4.read_unread, h5.read_unread]
  rw [View.canon_unit_zero (by decide), View.ld_unit_zero (by decide)]

/-- A later point's rounded experts. -/
theorem side_later (hc : ¬cond0_0 i) : out0_B_5 c i a2 h2 a3 h3 a4 h4 a5 h5 a6 h6 a7 h7 a8 h8 hc x0 x1 x2 x3 xs = k0_pay1 x3 := by
  unfold out0_B_5
  rw [View.read_writes_junk_eq_canon]
  unfold kernelRun0_B
  dsimp only
  sl_unfold_words
  simp only [View.readAt_eq_ld, h2.read_unread, h3.read_unread, h4.read_unread, h5.read_unread]
  rw [View.canon_unit_zero (by decide), View.ld_unit_zero (by decide)]

end Terms

/-- The launch has 128 points: 8 row blocks for each of 16 column blocks. -/
theorem lt128 (t : Fin cfg0.N) : t.val < 128 := Nat.lt_of_lt_of_eq t.isLt N_0

/-- Where the rows' window lies at point `t`. -/
theorem index0 : ∀ t : Fin cfg0.N, win0_0.index t 0 = t.val % 8 ∧ win0_0.index t 1 = 0 :=
  (by decide +kernel : ∀ t : Fin grid0.N, win0_0.index t 0 = t.val % 8 ∧ win0_0.index t 1 = 0)
/-- Where the weights' window lies at point `t`. -/
theorem index1 : ∀ t : Fin cfg0.N, win0_1.index t 0 = 0 ∧ win0_1.index t 1 = t.val / 8 :=
  (by decide +kernel : ∀ t : Fin grid0.N, win0_1.index t 0 = 0 ∧ win0_1.index t 1 = t.val / 8)
/-- Where the bias's window lies at point `t`. -/
theorem index2 : ∀ t : Fin cfg0.N, win0_2.index t 0 = 0 ∧ win0_2.index t 1 = t.val / 8 :=
  (by decide +kernel : ∀ t : Fin grid0.N, win0_2.index t 0 = 0 ∧ win0_2.index t 1 = t.val / 8)
/-- Where the experts' window lies at point `t`. -/
theorem index3 : ∀ t : Fin cfg0.N, win0_3.index t 0 = t.val ∧ win0_3.index t 1 = 0 :=
  (by decide +kernel : ∀ t : Fin grid0.N, win0_3.index t 0 = t.val ∧ win0_3.index t 1 = 0)
/-- Where the gates' window lies at point `t`. -/
theorem index4 : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)
/-- Where the rounded experts' window lies at point `t`. -/
theorem index5 : ∀ t : Fin cfg0.N, win0_5.index t 0 = t.val ∧ win0_5.index t 1 = 0 :=
  (by decide +kernel : ∀ t : Fin grid0.N, win0_5.index t 0 = t.val ∧ win0_5.index t 1 = 0)

variable (m : (ℓ : Loc nD τ sig) → Buf (Elt Ideal) ℓ) (c : Dev nD)

/-- The normalised rows. -/
abbrev rows : FVec Ideal S8192x4096 .bf16 := m ((c.tc : Thread nD τ).loc main_arg0)
/-- The gates' weights. -/
abbrev weights : FVec Ideal S1x4096x8192 .f32 := m ((c.tc : Thread nD τ).loc main_arg1)
/-- The gates' bias. -/
abbrev bias : FVec Ideal S1x8192 .f32 := m ((c.tc : Thread nD τ).loc main_arg2)
/-- The experts' first weights. -/
abbrev experts : FVec Ideal S1x16384x4096 .f32 := m ((c.tc : Thread nD τ).loc main_arg3)

/-- The gates' weights the launch finds. -/
theorem weights_apply (k : Fin 4096) (j : Fin 8192) : V m c main_v0 (ix2 k j) = weights m c (ix3 0 k j) := by
  have e : V m c main_v0 = shapeCast S4096x8192 (weights m c) shapeCasts_S1x4096x8192_S4096x8192 := by
    entry_read
    rfl
  rw [e]
  generalize weights m c = X
  pointwise

/-- The bias the launch finds. -/
theorem bias_apply (j : Fin 8192) : V m c main_v2 (ix2 0 j) = bias m c (ix2 0 j) := by
  have e : V m c main_v2 = shapeCast S1x8192 (shapeCast S8192 (bias m c) shapeCasts_S1x8192_S8192) shapeCasts_S8192_S1x8192 := by
    entry_read
    rfl
  rw [e]
  generalize bias m c = X
  pointwise

/-- The experts' weights the launch finds. -/
theorem experts_apply (r : Fin 16384) (d : Fin 4096) : V m c main_v3 (ix2 r d) = experts m c (ix3 0 r d) := by
  have e : V m c main_v3 = shapeCast S16384x4096 (experts m c) shapeCasts_S1x16384x4096_S16384x4096 := by
    entry_read
    rfl
  rw [e]
  generalize experts m c = X
  pointwise

/-- The rows' block at a point. -/
theorem blk0 (t : Fin cfg0.N) (p : Fin 1024) (k : Fin 4096) (i : Fin 8192) (hi : i.val = 1024 * (t.val % 8) + p.val) :
    iblk m c 0 t (ix2 p k) = rows m c (ix2 i k) := by
  obtain ⟨e0, e1⟩ := index0 t
  show V m c main_arg0 _ = _
  rw [V_main_arg0]
  refine congrArg (rows m c) (funext fun a => Fin.ext ?_)
  match a with
  | ⟨0, _⟩ =>
    show win0_0.index t 0 * 1024 + 1 * p.val = i.val
    rw [e0, hi]
    omega
  | ⟨1, _⟩ =>
    show win0_0.index t 1 * 4096 + 1 * k.val = k.val
    rw [e1]
    omega

/-- The weights' block at a point. -/
theorem blk1 (t : Fin cfg0.N) (k : Fin 4096) (q : Fin 512) (j : Fin 8192) (hj : j.val = 512 * (t.val / 8) + q.val) :
    iblk m c 1 t (ix2 k q) = weights m c (ix3 0 k j) := by
  obtain ⟨e0, e1⟩ := index1 t
  refine Eq.trans ?_ (weights_apply m c k j)
  show V m c main_v0 _ = _
  refine congrArg (V m c main_v0) (funext fun a => Fin.ext ?_)
  match a with
  | ⟨0, _⟩ =>
    show win0_1.index t 0 * 4096 + 1 * k.val = k.val
    rw [e0]
    omega
  | ⟨1, _⟩ =>
    show win0_1.index t 1 * 512 + 1 * q.val = j.val
    rw [e1, hj]
    omega

/-- The bias's block at a point. -/
theorem blk2 (t : Fin cfg0.N) (q : Fin 512) (j : Fin 8192) (hj : j.val = 512 * (t.val / 8) + q.val) :
    iblk m c 2 t (ix2 0 q) = bias m c (ix2 0 j) := by
  obtain ⟨e0, e1⟩ := index2 t
  refine Eq.trans ?_ (bias_apply m c j)
  show V m c main_v2 _ = _
  refine congrArg (V m c main_v2) (funext fun a => Fin.ext ?_)
  match a with
  | ⟨0, _⟩ =>
    show win0_2.index t 0 * 1 + 1 * 0 = 0
    rw [e0]
  | ⟨1, _⟩ =>
    show win0_2.index t 1 * 512 + 1 * q.val = j.val
    rw [e1, hj]
    omega

/-- The experts' block at a point. -/
theorem blk3 (t : Fin cfg0.N) (q : Fin 128) (d : Fin 4096) (r : Fin 16384) (hr : r.val = 128 * t.val + q.val) :
    iblk m c 3 t (ix2 q d) = experts m c (ix3 0 r d) := by
  obtain ⟨e0, e1⟩ := index3 t
  refine Eq.trans ?_ (experts_apply m c r d)
  show V m c main_v3 _ = _
  refine congrArg (V m c main_v3) (funext fun a => Fin.ext ?_)
  match a with
  | ⟨0, _⟩ =>
    show win0_3.index t 0 * 128 + 1 * q.val = r.val
    rw [e0, hr]
    omega
  | ⟨1, _⟩ =>
    show win0_3.index t 1 * 4096 + 1 * d.val = d.val
    rw [e1]
    omega

/-- A point at the top of a column keeps its own block of the weights, rounded. -/
theorem kept_top (t : Fin cfg0.N) (h0 : t.val % 8 = 0) : (outsAt0 m c t.val t.isLt).2.2 = k0_pay2 (iblk m c 1 t) := by
  rw [outsAt0_A m c t h0]
  dsimp only
  rw [kept_first]

/-- A later point keeps what the point before it kept. -/
theorem kept_below (t : Fin cfg0.N) (h0 : ¬t.val % 8 = 0) :
    (outsAt0 m c t.val t.isLt).2.2 = (outsAt0 m c (t.val - 1) (Nat.lt_of_le_of_lt (Nat.sub_le _ _) t.isLt)).2.2 := by
  rw [outsAt0_B m c t h0]
  rfl

/-- THE WEIGHTS KEPT AFTER EACH POINT are its column block's. -/
theorem kept_eq (n : ℕ) : ∀ (h : n < cfg0.N) (k : Fin 4096) (q : Fin 512) (j : Fin 8192), j.val = 512 * (n / 8) + q.val →
    (outsAt0 m c n h).2.2 (ix2 k q) = weights m c (ix3 0 k j) := by
  induction n using Nat.strong_induction_on with
  | _ n ih =>
    intro h k q j hj
    by_cases h0 : n % 8 = 0
    · exact (congrFun (kept_top m c ⟨n, h⟩ h0) (ix2 k q)).trans ((round_apply _ k q).trans (blk1 m c ⟨n, h⟩ k q j hj))
    · exact (congrFun (kept_below m c ⟨n, h⟩ h0) (ix2 k q)).trans (ih (n - 1) (by omega) _ k q j (by omega))

/-- THE GATES POINT `t` WRITES BACK at row `p`, column `q` of its block. -/
theorem point_eq (t : Fin cfg0.N) (p : Fin 1024) (q : Fin 512) (i j : Fin 8192) (hi : i.val = 1024 * (t.val % 8) + p.val) (hj : j.val = 512 * (t.val / 8) + q.val) :
    (dats m 0 c).flushed 4 t (ix2 p q) = Ideal.logistic ((∑ k : Fin 4096, rows m c (ix2 i k) * weights m c (ix3 0 k j)) + bias m c (ix2 0 j)) := by
  by_cases h0 : t.val % 8 = 0
  · rw [Value.flushed4_A m c t h0, gates_first]
    refine (block_apply _ _ _ p q).trans ?_
    rw [blk2 m c t q j hj]
    refine congrArg (fun s => Ideal.logistic (s + bias m c (ix2 0 j))) (Finset.sum_congr rfl fun k _ => ?_)
    rw [blk0 m c t p k i hi]
    exact congrArg (rows m c (ix2 i k) * ·) ((round_apply _ k q).trans (blk1 m c t k q j hj))
  · rw [Value.flushed4_B m c t h0, gates_later]
    refine (block_apply _ _ _ p q).trans ?_
    rw [blk2 m c t q j hj]
    refine congrArg (fun s => Ideal.logistic (s + bias m c (ix2 0 j))) (Finset.sum_congr rfl fun k _ => ?_)
    rw [blk0 m c t p k i hi]
    exact congrArg (rows m c (ix2 i k) * ·) (kept_eq m c _ _ k q j (by omega))

/-- THE EXPERTS' WEIGHTS POINT `t` WRITES BACK at row `q`, column `d` of its block. -/
theorem side_point_eq (t : Fin cfg0.N) (q : Fin 128) (d : Fin 4096) (r : Fin 16384) (hr : r.val = 128 * t.val + q.val) :
    (dats m 0 c).flushed 5 t (ix2 q d) = experts m c (ix3 0 r d) := by
  by_cases h0 : t.val % 8 = 0
  · rw [Value.flushed5_A m c t h0, side_first]
    exact (side_apply _ q d).trans (blk3 m c t q d r hr)
  · rw [Value.flushed5_B m c t h0, side_later]
    exact (side_apply _ q d).trans (blk3 m c t q d r hr)

/-- THE KERNEL'S GATES at an index. -/
theorem array_eq (i : S8192x8192.Idx) :
    (dats m 0 c).arrAt 4 cfg0.N i = Ideal.logistic ((∑ k : Fin 4096, rows m c (ix2 (i 0) k) * weights m c (ix3 0 k (i 1))) + bias m c (ix2 0 (i 1))) := by
  have hi : (i 0).val < 8192 := (i 0).isLt
  have hj : (i 1).val < 8192 := (i 1).isLt
  have ht : (i 1).val / 512 * 8 + (i 0).val / 1024 < cfg0.N := Nat.lt_of_lt_of_eq (by omega : _ < 128) N_0.symm
  obtain ⟨e0, e1⟩ := index4 ⟨_, ht⟩
  have hb := (congrFun (Value.blocks4 m c ⟨_, ht⟩ (flush0_4 _)) (ix2 ⟨(i 0).val % 1024, by omega⟩ ⟨(i 1).val % 512, by omega⟩)).trans
    (point_eq m c ⟨_, ht⟩ _ _ (i 0) (i 1) (by show (i 0).val = 1024 * (((i 1).val / 512 * 8 + (i 0).val / 1024) % 8) + (i 0).val % 1024; omega)
      (by show (i 1).val = 512 * (((i 1).val / 512 * 8 + (i 0).val / 1024) / 8) + (i 1).val % 512; omega))
  refine Eq.trans (congrArg ((dats m 0 c).arrAt 4 cfg0.N) (funext fun a => Fin.ext ?_)) hb
  match a with
  | ⟨0, _⟩ =>
    show (i 0).val = win0_4.index ⟨_, ht⟩ 0 * 1024 + 1 * ((i 0).val % 1024)
    rw [e0]
    show (i 0).val = ((i 1).val / 512 * 8 + (i 0).val / 1024) % 8 * 1024 + 1 * ((i 0).val % 1024)
    omega
  | ⟨1, _⟩ =>
    show (i 1).val = win0_4.index ⟨_, ht⟩ 1 * 512 + 1 * ((i 1).val % 512)
    rw [e1]
    show (i 1).val = ((i 1).val / 512 * 8 + (i 0).val / 1024) / 8 * 512 + 1 * ((i 1).val % 512)
    omega

/-- THE KERNEL'S ROUNDED EXPERTS at an index. -/
theorem side_array_eq (i : S16384x4096.Idx) : (dats m 0 c).arrAt 5 cfg0.N i = experts m c (ix3 0 (i 0) (i 1)) := by
  have hi : (i 0).val < 16384 := (i 0).isLt
  have ht : (i 0).val / 128 < cfg0.N := Nat.lt_of_lt_of_eq (by omega : _ < 128) N_0.symm
  obtain ⟨e0, e1⟩ := index5 ⟨_, ht⟩
  have hb := (congrFun (Value.blocks5 m c ⟨_, ht⟩ (flush0_5 _)) (ix2 ⟨(i 0).val % 128, by omega⟩ (i 1))).trans
    (side_point_eq m c ⟨_, ht⟩ _ _ (i 0) (by show (i 0).val = 128 * ((i 0).val / 128) + (i 0).val % 128; omega))
  refine Eq.trans (congrArg ((dats m 0 c).arrAt 5 cfg0.N) (funext fun a => Fin.ext ?_)) hb
  match a with
  | ⟨0, _⟩ =>
    show (i 0).val = win0_5.index ⟨_, ht⟩ 0 * 128 + 1 * ((i 0).val % 128)
    rw [e0]
    show (i 0).val = (i 0).val / 128 * 128 + 1 * ((i 0).val % 128)
    omega
  | ⟨1, _⟩ =>
    show (i 1).val = win0_5.index ⟨_, ht⟩ 1 * 4096 + 1 * (i 1).val
    rw [e1]
    omega

end Kernel

open Cert.Reference2Ideal in
open Cert.Reference2Ideal.Gen in
/-- The reference's gates at an index. -/
theorem reference_apply (h : FVec Ideal S8192x4096 .bf16) (w : FVec Ideal S1x4096x8192 .f32) (b : FVec Ideal S1x8192 .f32) (i j : Fin 8192) :
    truncf (F := Ideal) .bf16 (Host.divf (broadcastInDim S8192x8192 ![] bcast_S_S8192x8192 (constant S_ .f32 0x3F800000#32)) (addf (broadcastInDim S8192x8192 ![] bcast_S_S8192x8192 (constant S_ .f32 0x3F800000#32)) (Host.exp (Host.negf (addf (Host.dotGeneral dot_S8192x4096_S4096x8192_S8192x8192_1_0_0_1_n_n none (extf .f32 h bitsLt_bf16_f32) (shapeCast S4096x8192 w shapeCasts_S1x4096x8192_S4096x8192)) (broadcastInDim S8192x8192 ![0, 1] bcast_S1x8192_S8192x8192_0_1 (broadcastInDim S1x8192 ![1] bcast_S8192_S1x8192_1 (shapeCast S8192 b shapeCasts_S1x8192_S8192)))))))) bitsLt_bf16_f32 (ix2 i j)
      = Ideal.logistic ((∑ k : Fin 4096, h (ix2 i k) * w (ix3 0 k j)) + b (ix2 0 j)) := by
  pointwise
  rfl

open Cert.Reference2Ideal in
open Cert.Reference2Ideal.Gen in
/-- The reference's rounded experts at an index. -/
theorem reference_side_apply (u : FVec Ideal S1x16384x4096 .f32) (r : Fin 16384) (d : Fin 4096) :
    truncf (F := Ideal) .bf16 (shapeCast S16384x4096 u shapeCasts_S1x16384x4096_S16384x4096) bitsLt_bf16_f32 (ix2 r d) = u (ix3 0 r d) := by
  pointwise

/-- The gates and the experts' rounded weights: the value claim. -/
theorem algebraic : Cert.algebraic_Kernel2Ideal_Reference2Ideal := by
  intro m ρ m' ρ' _ hagree
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N,
    Cert.Kernel2Ideal.Value.run_blocks (F := Ideal) m ρ, ?_⟩
  refine (θ_run _ _ _).mono (fun _ h c => ⟨(h c).1.trans ?_, (h c).2.1.trans ?_, (h c).2.2⟩) (Cert.Reference2Ideal.Value.run (F := Ideal) m' ρ')
  · rw [(hagree c).1, (hagree c).2.1, (hagree c).2.2.1]
    funext i
    exact (congrArg _ (ix2_eta i).symm).trans ((reference_apply _ _ _ (i 0) (i 1)).trans (array_eq m c i).symm)
  · rw [(hagree c).2.2.2]
    funext i
    exact (congrArg _ (ix2_eta i).symm).trans ((reference_side_apply _ (i 0) (i 1)).trans (side_array_eq m c i).symm)

/-- The reference's frame. -/
theorem frame_reference : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

end Cert.Gates

end
-- ==== Proof.InProj.lean ====
/- The combined input projection, block by block, beside the one product; and the experts' second weights, transposed and rounded in chunks. -/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import Idealize.ShloMosaic.Lib.Pointwise
public import Idealize.ShloMosaic.Adequacy
public import Idealize.ShloMosaic.Init

@[expose] public section

set_option maxRecDepth 65536

noncomputable section

namespace Cert.InProj

open Idealize.ShloMosaic Idealize.ShloMosaic.TcCoe Idealize.SL.Sem

section Kernel
open Cert.Kernel3Ideal Cert.Kernel3Ideal.Gen

/-- A block's product at an index: the sum over the shared axis. -/
theorem block_apply (x : FVec Ideal S1024x4096 .bf16) (w : FVec Ideal S4096x512 .bf16) (i : Fin 1024) (j : Fin 512) :
    k0_pay2 (F := Ideal) x w (ix2 i j) = ∑ k : Fin 4096, x (ix2 i k) * w (ix2 k j) := by
  pointwise [k0_pay2]

/-- Where the rows' window lies at point `t`. -/
theorem index0 : ∀ t : Fin cfg0.N, win0_0.index t 0 = t.val / 16 ∧ win0_0.index t 1 = 0 :=
  (by decide +kernel : ∀ t : Fin grid0.N, win0_0.index t 0 = t.val / 16 ∧ win0_0.index t 1 = 0)
/-- Where the weights' window lies at point `t`. -/
theorem index1 : ∀ t : Fin cfg0.N, win0_1.index t 0 = 0 ∧ win0_1.index t 1 = t.val % 16 :=
  (by decide +kernel : ∀ t : Fin grid0.N, win0_1.index t 0 = 0 ∧ win0_1.index t 1 = t.val % 16)
/-- Where the result's window lies at point `t`. -/
theorem index3 : ∀ t : Fin cfg0.N, win0_3.index t 0 = t.val / 16 ∧ win0_3.index t 1 = t.val % 16 :=
  (by decide +kernel : ∀ t : Fin grid0.N, win0_3.index t 0 = t.val / 16 ∧ win0_3.index t 1 = t.val % 16)

variable (m : (ℓ : Loc nD τ sig) → Buf (Elt Ideal) ℓ) (c : Dev nD)

/-- The normalised rows. -/
abbrev rows : FVec Ideal S8192x4096 .bf16 := m ((c.tc : Thread nD τ).loc main_arg0)
/-- The projection's weights. -/
abbrev weights : FVec Ideal S4096x8192 .bf16 := m ((c.tc : Thread nD τ).loc main_arg1)

/-- WHAT POINT `t` WRITES BACK at row `p`, column `q` of its block. -/
theorem point_eq (t : Fin cfg0.N) (p : Fin 1024) (q : Fin 512) (i : Fin 8192) (j : Fin 8192)
    (hi : i.val = 1024 * (t.val / 16) + p.val) (hj : j.val = 512 * (t.val % 16) + q.val) :
    (dats m 0 c).flushed 3 t (ix2 p q) = ∑ k : Fin 4096, rows m c (ix2 i k) * weights m c (ix2 k j) := by
  obtain ⟨e0, e1⟩ := index0 t
  obtain ⟨f0, f1⟩ := index1 t
  rw [Value.flushed3]
  show out0_3 _ _ _ (ix2 p q) = _
  unfold out0_3
  rw [View.canon_unit_zero (by decide), View.ld_unit_zero (by decide), View.ld_unit_zero (by decide)]
  refine (block_apply _ _ p q).trans (Finset.sum_congr rfl fun k _ => congrArg₂ (· * ·) ?_ ?_)
  · show V m c main_arg0 _ = _
    rw [V_main_arg0]
    refine congrArg (rows m c) (funext fun a => Fin.ext ?_)
    match a with
    | ⟨0, _⟩ =>
      show win0_0.index t 0 * 1024 + 1 * p.val = i.val
      rw [e0, hi]
      omega
    | ⟨1, _⟩ =>
      show win0_0.index t 1 * 4096 + 1 * k.val = k.val
      rw [e1]
      omega
  · show V m c main_arg1 _ = _
    rw [V_main_arg1]
    refine congrArg (weights m c) (funext fun a => Fin.ext ?_)
    match a with
    | ⟨0, _⟩ =>
      show win0_1.index t 0 * 4096 + 1 * k.val = k.val
      rw [f0]
      omega
    | ⟨1, _⟩ =>
      show win0_1.index t 1 * 512 + 1 * q.val = j.val
      rw [f1, hj]
      omega

/-- THE KERNEL'S RESULT at an index. -/
theorem array_eq (i : S8192x8192.Idx) :
    (dats m 0 c).arrAt 3 cfg0.N i = ∑ k : Fin 4096, rows m c (ix2 (i 0) k) * weights m c (ix2 k (i 1)) := by
  have hi : (i 0).val < 8192 := (i 0).isLt
  have hj : (i 1).val < 8192 := (i 1).isLt
  have ht : (i 0).val / 1024 * 16 + (i 1).val / 512 < cfg0.N := Nat.lt_of_lt_of_eq (by omega : _ < 128) N_0.symm
  obtain ⟨e0, e1⟩ := index3 ⟨_, ht⟩
  have hb := congrFun (Value.blocks3 m c ⟨_, ht⟩ (flush0_3 _)) (ix2 ⟨(i 0).val % 1024, by omega⟩ ⟨(i 1).val % 512, by omega⟩)
  rw [point_eq m c ⟨_, ht⟩ _ _ (i 0) (i 1) (by show (i 0).val = 1024 * (((i 0).val / 1024 * 16 + (i 1).val / 512) / 16) + (i 0).val % 1024; omega)
    (by show (i 1).val = 512 * (((i 0).val / 1024 * 16 + (i 1).val / 512) % 16) + (i 1).val % 512; omega)] at hb
  refine Eq.trans (congrArg ((dats m 0 c).arrAt 3 cfg0.N) (funext fun a => Fin.ext ?_)) hb
  match a with
  | ⟨0, _⟩ =>
    show (i 0).val = win0_3.index ⟨_, ht⟩ 0 * 1024 + 1 * ((i 0).val % 1024)
    rw [e0]
    show (i 0).val = ((i 0).val / 1024 * 16 + (i 1).val / 512) / 16 * 1024 + 1 * ((i 0).val % 1024)
    omega
  | ⟨1, _⟩ =>
    show (i 1).val = win0_3.index ⟨_, ht⟩ 1 * 512 + 1 * ((i 1).val % 512)
    rw [e1]
    show (i 1).val = ((i 0).val / 1024 * 16 + (i 1).val / 512) % 16 * 512 + 1 * ((i 1).val % 512)
    omega

/-- Where the experts' window lies at point `t`. -/
theorem index2 : ∀ t : Fin cfg0.N, win0_2.index t 0 = t.val ∧ win0_2.index t 1 = 0 :=
  (by decide +kernel : ∀ t : Fin grid0.N, win0_2.index t 0 = t.val ∧ win0_2.index t 1 = 0)
/-- Where the transposed weights' window lies at point `t`. -/
theorem index4 : ∀ t : Fin cfg0.N, win0_4.index t 0 = t.val / 4 ∧ win0_4.index t 1 = 0 ∧ win0_4.index t 2 = t.val % 4 :=
  (by decide +kernel : ∀ t : Fin grid0.N, win0_4.index t 0 = t.val / 4 ∧ win0_4.index t 1 = 0 ∧ win0_4.index t 2 = t.val % 4)

/-- The experts' second weights. -/
abbrev experts : FVec Ideal S1x16384x4096 .f32 := m ((c.tc : Thread nD τ).loc main_arg2)

/-- The weights the launch finds: the argument without its leading axis. -/
theorem experts_apply (r : Fin 16384) (d : Fin 4096) : V m c main_v0 (ix2 r d) = experts m c (ix3 0 r d) := by
  have e : V m c main_v0 = shapeCast S16384x4096 (experts m c) shapeCasts_S1x16384x4096_S16384x4096 := by
    entry_read
    rfl
  rw [e]
  generalize experts m c = X
  pointwise

/-- WHAT POINT `t` WRITES BACK to the transposed weights at column `d`, row `q` of its block. -/
theorem side_point_eq (t : Fin cfg0.N) (d : Fin 4096) (q : Fin 128) (r : Fin 16384) (hr : r.val = 128 * t.val + q.val) :
    (dats m 0 c).flushed 4 t (ix3 0 d q) = experts m c (ix3 0 r d) := by
  obtain ⟨e0, e1⟩ := index2 t
  rw [Value.flushed4]
  show out0_4 _ _ _ (ix3 0 d q) = _
  unfold out0_4
  refine (Value.canon4_eq _ _).trans ?_
  rw [View.ld_unit_zero (by decide)]
  refine Eq.trans ?_ (experts_apply m c r d)
  show V m c main_v0 _ = _
  refine congrArg (V m c main_v0) (funext fun a => Fin.ext ?_)
  match a with
  | ⟨0, _⟩ =>
    show win0_2.index t 0 * 128 + 1 * q.val = r.val
    rw [e0, hr]
    omega
  | ⟨1, _⟩ =>
    show win0_2.index t 1 * 4096 + 1 * d.val = d.val
    rw [e1]
    omega

/-- THE KERNEL'S TRANSPOSED WEIGHTS at an index. -/
theorem side_array_eq (i : S32x4096x512.Idx) (r : Fin 16384) (hr : r.val = 512 * (i 0).val + (i 2).val) :
    (dats m 0 c).arrAt 4 cfg0.N i = experts m c (ix3 0 r (i 1)) := by
  have hi : (i 0).val < 32 := (i 0).isLt
  have hj : (i 2).val < 512 := (i 2).isLt
  have ht : (i 0).val * 4 + (i 2).val / 128 < cfg0.N := Nat.lt_of_lt_of_eq (by omega : _ < 128) N_0.symm
  obtain ⟨e0, e1, e2⟩ := index4 ⟨_, ht⟩
  have hb := (congrFun (Value.blocks4 m c ⟨_, ht⟩ (flush0_4 _)) (ix3 0 (i 1) ⟨(i 2).val % 128, by omega⟩)).trans
    (side_point_eq m c ⟨_, ht⟩ _ _ r (by show r.val = 128 * ((i 0).val * 4 + (i 2).val / 128) + (i 2).val % 128; omega))
  refine Eq.trans (congrArg ((dats m 0 c).arrAt 4 cfg0.N) (funext fun a => Fin.ext ?_)) hb
  match a with
  | ⟨0, _⟩ =>
    show (i 0).val = win0_4.index ⟨_, ht⟩ 0 * 1 + 1 * 0
    rw [e0]
    show (i 0).val = ((i 0).val * 4 + (i 2).val / 128) / 4 * 1 + 1 * 0
    omega
  | ⟨1, _⟩ =>
    show (i 1).val = win0_4.index ⟨_, ht⟩ 1 * 4096 + 1 * (i 1).val
    rw [e1]
    omega
  | ⟨2, _⟩ =>
    show (i 2).val = win0_4.index ⟨_, ht⟩ 2 * 128 + 1 * ((i 2).val % 128)
    rw [e2]
    show (i 2).val = ((i 0).val * 4 + (i 2).val / 128) % 4 * 128 + 1 * ((i 2).val % 128)
    omega

end Kernel

open Cert.Reference3Ideal in
open Cert.Reference3Ideal.Gen in
/-- The reference's product at an index. -/
theorem reference_apply (h : FVec Ideal S8192x4096 .bf16) (w : FVec Ideal S4096x8192 .bf16) (i : Fin 8192) (j : Fin 8192) :
    Host.dotGeneral (F := Ideal) dot_S8192x4096_S4096x8192_S8192x8192_1_0_0_1_n_n none (extf .f32 h bitsLt_bf16_f32) (extf .f32 w bitsLt_bf16_f32) (ix2 i j)
      = ∑ k : Fin 4096, h (ix2 i k) * w (ix2 k j) := by
  pointwise

open Cert.Reference3Ideal in
open Cert.Reference3Ideal.Gen in
/-- The reference's transposed weights at an index. -/
theorem reference_side_apply (v : FVec Ideal S1x16384x4096 .f32) (g : Fin 32) (d : Fin 4096) (e : Fin 512) (r : Fin 16384)
    (hr : r.val = 512 * g.val + e.val) :
    truncf (F := Ideal) .bf16 (transpose S32x4096x512 [0, 2, 1] (shapeCast S32x512x4096 (shapeCast S16384x4096 v shapeCasts_S1x16384x4096_S16384x4096) shapeCasts_S16384x4096_S32x512x4096) transposes_S32x512x4096_S32x4096x512_0_2_1) bitsLt_bf16_f32 (ix3 g d e)
      = v (ix3 0 r d) := by
  pointwise
  exact congrArg (fun r => v (ix3 0 r d)) (Fin.ext (by dsimp only; omega))

/-- The input projection and the experts' transposed weights: the value claim. -/
theorem algebraic : Cert.algebraic_Kernel3Ideal_Reference3Ideal := by
  intro m ρ m' ρ' _ hagree
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N,
    Cert.Kernel3Ideal.Value.run_blocks (F := Ideal) m ρ, ?_⟩
  refine (θ_run _ _ _).mono (fun _ h c => ⟨(h c).1.trans ?_, (h c).2.1.trans ?_, (h c).2.2⟩) (Cert.Reference3Ideal.Value.run (F := Ideal) m' ρ')
  · rw [(hagree c).1, (hagree c).2.1]
    funext i
    exact (congrArg _ (ix2_eta i).symm).trans ((reference_apply _ _ (i 0) (i 1)).trans (array_eq m c i).symm)
  · rw [(hagree c).2.2]
    funext i
    have hi : (i 0).val < 32 := (i 0).isLt
    have hj : (i 2).val < 512 := (i 2).isLt
    exact (congrArg _ (ix3_eta i).symm).trans ((reference_side_apply _ (i 0) (i 1) (i 2) ⟨512 * (i 0).val + (i 2).val, by omega⟩ rfl).trans
      (side_array_eq m c i _ rfl).symm)

/-- The reference's frame. -/
theorem frame_reference : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

end Cert.InProj

end
-- ==== Proof.Merge.lean ====
/- The merge: each block of the two heads' products with the rounded weights kept between points, each times its gates, added. -/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import Idealize.ShloMosaic.Lib.Claim
public import Idealize.ShloMosaic.Lib.Pointwise
public import Idealize.ShloMosaic.Adequacy
public import Idealize.ShloMosaic.Init

@[expose] public section

set_option maxRecDepth 65536

noncomputable section

namespace Cert.Merge

open Idealize.ShloMosaic Idealize.ShloMosaic.TcCoe Idealize.SL.Sem

/-- A row of the upper half of the weights. -/
def upper (k : Fin 2048) : Fin 4096 := ⟨k.val, by omega⟩
/-- A row of the lower half of the weights. -/
def lower (k : Fin 2048) : Fin 4096 := ⟨2048 + k.val, by omega⟩
/-- A column of the first half of the gates. -/
def left (j : Fin 4096) : Fin 8192 := ⟨j.val, by omega⟩
/-- A column of the second half of the gates. -/
def right (j : Fin 4096) : Fin 8192 := ⟨4096 + j.val, by omega⟩

section Kernel
open Cert.Kernel4Ideal Cert.Kernel4Ideal.Gen

/-- A block of the merge at an index. -/
theorem block_apply (x y : FVec Ideal S1024x2048 .bf16) (w u : FVec Ideal S2048x512 .bf16) (g r : FVec Ideal S1024x512 .bf16) (i : Fin 1024) (j : Fin 512) :
    k0_pay3 (F := Ideal) x w y u g r (ix2 i j) = g (ix2 i j) * (∑ k : Fin 2048, x (ix2 i k) * w (ix2 k j)) + r (ix2 i j) * (∑ k : Fin 2048, y (ix2 i k) * u (ix2 k j)) := by
  pointwise [k0_pay3]

/-- The first rounded weights at an index. -/
theorem round_apply (w : FVec Ideal S2048x512 .f32) (k : Fin 2048) (j : Fin 512) : k0_pay1 (F := Ideal) w (ix2 k j) = w (ix2 k j) := by
  pointwise [k0_pay1]

/-- The second rounded weights at an index. -/
theorem round_apply' (w : FVec Ideal S2048x512 .f32) (k : Fin 2048) (j : Fin 512) : k0_pay2 (F := Ideal) w (ix2 k j) = w (ix2 k j) := by
  pointwise [k0_pay2]

section Terms
variable (c : Dev nD) (i : grid0.Coords) (a2 : Memref sig .tc .vmem S1024x2048 .bf16) (h2 : a2.IsWhole) (a3 : Memref sig .tc .vmem S1024x2048 .bf16) (h3 : a3.IsWhole)
  (a4 : Memref sig .tc .vmem S2048x512 .f32) (h4 : a4.IsWhole) (a5 : Memref sig .tc .vmem S2048x512 .f32) (h5 : a5.IsWhole) (a6 : Memref sig .tc .vmem S1024x512 .bf16) (h6 : a6.IsWhole)
  (a7 : Memref sig .tc .vmem S1024x512 .bf16) (h7 : a7.IsWhole) (a8 : Memref sig .tc .vmem S1024x512 .bf16) (h8 : a8.IsWhole)
  (a9 : Memref sig .tc .vmem S2048x512 .bf16) (h9 : a9.IsWhole) (a10 : Memref sig .tc .vmem S2048x512 .bf16) (h10 : a10.IsWhole)
  (x0 x1 : Vec Ideal S1024x2048 .bf16) (x2 x3 : Vec Ideal S2048x512 .f32) (x4 x5 : Vec Ideal S1024x512 .bf16) (xs0 xs1 : Vec Ideal S2048x512 .bf16)

/-- What a column's first point leaves in the first kept weights: the block, rounded. -/
theorem kept_first (hc : cond0_0 i) : sout0_A_0 c i a2 h2 a3 h3 a4 h4 a5 h5 a6 h6 a7 h7 a8 h8 a9 h9 a10 h10 hc x0 x1 x2 x3 x4 x5 = k0_pay1 x2 := by
  unfold sout0_A_0
  rw [View.read_writes_junk_eq_canon]
  unfold kernelRun0_A
  dsimp only
  sl_unfold_words
  simp only [View.readAt_eq_ld, h2.read_unread, h3.read_unread, h4.read_unread, h5.read_unread, h6.read_unread, h7.read_unread]
  rw [View.canon_unit_zero (by decide), View.ld_unit_zero (by decide)]

/-- What a column's first point leaves in the second kept weights: the block, rounded. -/
theorem kept_first' (hc : cond0_0 i) : sout0_A_1 c i a2 h2 a3 h3 a4 h4 a5 h5 a6 h6 a7 h7 a8 h8 a9 h9 a10 h10 hc x0 x1 x2 x3 x4 x5 = k0_pay2 x3 := by
  unfold sout0_A_1
  rw [View.read_writes_junk_eq_canon]
  unfold kernelRun0_A
  dsimp only
  sl_unfold_words
  simp only [View.readAt_eq_ld, h2.read_unread, h3.read_unread, h4.read_unread, h5.read_unread, h6.read_unread, h7.read_unread]
  rw [View.canon_unit_zero (by decide), View.ld_unit_zero (by decide)]

/-- A column's first point's block of the merge. -/
theorem out_first (hc : cond0_0 i) : out0_A_6 c i a2 h2 a3 h3 a4 h4 a5 h5 a6 h6 a7 h7 a8 h8 a9 h9 a10 h10 hc x0 x1 x2 x3 x4 x5 = k0_pay3 x0 (k0_pay1 x2) x1 (k0_pay2 x3) x4 x5 := by
  unfold out0_A_6
  rw [View.read_writes_junk_eq_canon]
  unfold kernelRun0_A
  dsimp only
  sl_unfold_words
  simp only [View.readAt_eq_ld, h2.read_unread, h3.read_unread, h4.read_unread, h5.read_unread, h6.read_unread, h7.read_unread]
  rw [View.canon_unit_zero (by decide), View.readCov_cons_toLoadRect, View.readCov_cons_toLoadRect, View.ld_unit_zero (by decide), View.ld_unit_zero (by decide), View.ld_unit_zero (by decide), View.ld_unit_zero (by decide), View.ld_unit_zero (by decide), View.ld_unit_zero (by decide)]

/-- A later point's block of the merge, over the weights kept. -/
theorem out_later (hc : ¬cond0_0 i) : out0_B_6 c i a2 h2 a3 h3 a4 h4 a5 h5 a6 h6 a7 h7 a8 h8 a9 h9 a10 h10 hc x0 x1 x2 x3 x4 x5 xs0 xs1 = k0_pay3 x0 xs0 x1 xs1 x4 x5 := by
  unfold out0_B_6
  rw [View.read_writes_junk_eq_canon]
  unfold kernelRun0_B
  dsimp only
  sl_unfold_words
  simp only [View.readAt_eq_ld, h2.read_unread, h3.read_unread, h4.read_unread, h5.read_unread, h6.read_unread, h7.read_unread, h9.read_unread, h10.read_unread]
  rw [View.canon_unit_zero (by decide), View.ld_unit_zero (by decide), View.ld_unit_zero (by decide), View.ld_unit_zero (by decide), View.ld_unit_zero (by decide), View.ld_unit_zero (by decide), View.ld_unit_zero (by decide)]

end Terms

/-- Where the attention rows' window lies at point `t`. -/
theorem index0 : ∀ t : Fin cfg0.N, win0_0.index t 0 = t.val % 8 ∧ win0_0.index t 1 = 0 :=
  (by decide +kernel : ∀ t : Fin grid0.N, win0_0.index t 0 = t.val % 8 ∧ win0_0.index t 1 = 0)
/-- Where the retention rows' window lies at point `t`. -/
theorem index1 : ∀ t : Fin cfg0.N, win0_1.index t 0 = t.val % 8 ∧ win0_1.index t 1 = 0 :=
  (by decide +kernel : ∀ t : Fin grid0.N, win0_1.index t 0 = t.val % 8 ∧ win0_1.index t 1 = 0)
/-- Where the upper weights' window lies at point `t`. -/
theorem index2 : ∀ t : Fin cfg0.N, win0_2.index t 0 = 0 ∧ win0_2.index t 1 = t.val / 8 :=
  (by decide +kernel : ∀ t : Fin grid0.N, win0_2.index t 0 = 0 ∧ win0_2.index t 1 = t.val / 8)
/-- Where the lower weights' window lies at point `t`. -/
theorem index3 : ∀ t : Fin cfg0.N, win0_3.index t 0 = 1 ∧ win0_3.index t 1 = t.val / 8 :=
  (by decide +kernel : ∀ t : Fin grid0.N, win0_3.index t 0 = 1 ∧ win0_3.index t 1 = t.val / 8)
/-- Where the first gates' window lies at point `t`. -/
theorem index4 : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)
/-- Where the second gates' window lies at point `t`. -/
theorem index5 : ∀ t : Fin cfg0.N, win0_5.index t 0 = t.val % 8 ∧ win0_5.index t 1 = 8 + t.val / 8 :=
  (by decide +kernel : ∀ t : Fin grid0.N, win0_5.index t 0 = t.val % 8 ∧ win0_5.index t 1 = 8 + t.val / 8)
/-- Where the result's window lies at point `t`. -/
theorem index6 : ∀ t : Fin cfg0.N, win0_6.index t 0 = t.val % 8 ∧ win0_6.index t 1 = t.val / 8 :=
  (by decide +kernel : ∀ t : Fin grid0.N, win0_6.index t 0 = t.val % 8 ∧ win0_6.index t 1 = t.val / 8)

variable (m : (ℓ : Loc nD τ sig) → Buf (Elt Ideal) ℓ) (c : Dev nD)

/-- The attention's rows. -/
abbrev attn : FVec Ideal S8192x2048 .bf16 := m ((c.tc : Thread nD τ).loc main_arg0)
/-- The retention's rows. -/
abbrev ret : FVec Ideal S8192x2048 .bf16 := m ((c.tc : Thread nD τ).loc main_arg1)
/-- The merge's weights. -/
abbrev weights : FVec Ideal S1x4096x4096 .f32 := m ((c.tc : Thread nD τ).loc main_arg2)
/-- The gates. -/
abbrev gates : FVec Ideal S8192x8192 .bf16 := m ((c.tc : Thread nD τ).loc main_arg3)

/-- The weights the launch finds. -/
theorem weights_apply (k j : Fin 4096) : V m c main_v0 (ix2 k j) = weights m c (ix3 0 k j) := by
  have e : V m c main_v0 = shapeCast S4096x4096 (weights m c) shapeCasts_S1x4096x4096_S4096x4096 := by
    entry_read
    rfl
  rw [e]
  generalize weights m c = X
  pointwise

/-- The attention rows' block at a point. -/
theorem blk0 (t : Fin cfg0.N) (p : Fin 1024) (k : Fin 2048) (i : Fin 8192) (hi : i.val = 1024 * (t.val % 8) + p.val) :
    iblk m c 0 t (ix2 p k) = attn m c (ix2 i k) := by
  obtain ⟨e0, e1⟩ := index0 t
  show V m c main_arg0 _ = _
  rw [V_main_arg0]
  refine congrArg (attn m c) (funext fun a => Fin.ext ?_)
  match a with
  | ⟨0, _⟩ =>
    show win0_0.index t 0 * 1024 + 1 * p.val = i.val
    rw [e0, hi]
    omega
  | ⟨1, _⟩ =>
    show win0_0.index t 1 * 2048 + 1 * k.val = k.val
    rw [e1]
    omega

/-- The retention rows' block at a point. -/
theorem blk1 (t : Fin cfg0.N) (p : Fin 1024) (k : Fin 2048) (i : Fin 8192) (hi : i.val = 1024 * (t.val % 8) + p.val) :
    iblk m c 1 t (ix2 p k) = ret m c (ix2 i k) := by
  obtain ⟨e0, e1⟩ := index1 t
  show V m c main_arg1 _ = _
  rw [V_main_arg1]
  refine congrArg (ret m c) (funext fun a => Fin.ext ?_)
  match a with
  | ⟨0, _⟩ =>
    show win0_1.index t 0 * 1024 + 1 * p.val = i.val
    rw [e0, hi]
    omega
  | ⟨1, _⟩ =>
    show win0_1.index t 1 * 2048 + 1 * k.val = k.val
    rw [e1]
    omega

/-- The upper weights' block at a point. -/
theorem blk2 (t : Fin cfg0.N) (k : Fin 2048) (q : Fin 512) (j : Fin 4096) (hj : j.val = 512 * (t.val / 8) + q.val) :
    iblk m c 2 t (ix2 k q) = weights m c (ix3 0 (upper k) j) := by
  obtain ⟨e0, e1⟩ := index2 t
  refine Eq.trans ?_ (weights_apply m c (upper k) j)
  show V m c main_v0 _ = _
  refine congrArg (V m c main_v0) (funext fun a => Fin.ext ?_)
  match a with
  | ⟨0, _⟩ =>
    show win0_2.index t 0 * 2048 + 1 * k.val = k.val
    rw [e0]
    omega
  | ⟨1, _⟩ =>
    show win0_2.index t 1 * 512 + 1 * q.val = j.val
    rw [e1, hj]
    omega

/-- The lower weights' block at a point. -/
theorem blk3 (t : Fin cfg0.N) (k : Fin 2048) (q : Fin 512) (j : Fin 4096) (hj : j.val = 512 * (t.val / 8) + q.val) :
    iblk m c 3 t (ix2 k q) = weights m c (ix3 0 (lower k) j) := by
  obtain ⟨e0, e1⟩ := index3 t
  refine Eq.trans ?_ (weights_apply m c (lower k) j)
  show V m c main_v0 _ = _
  refine congrArg (V m c main_v0) (funext fun a => Fin.ext ?_)
  match a with
  | ⟨0, _⟩ =>
    show win0_3.index t 0 * 2048 + 1 * k.val = 2048 + k.val
    rw [e0]
    omega
  | ⟨1, _⟩ =>
    show win0_3.index t 1 * 512 + 1 * q.val = j.val
    rw [e1, hj]
    omega

/-- The first gates' block at a point. -/
theorem blk4 (t : Fin cfg0.N) (p : Fin 1024) (q : Fin 512) (i : Fin 8192) (j : Fin 4096) (hi : i.val = 1024 * (t.val % 8) + p.val) (hj : j.val = 512 * (t.val / 8) + q.val) :
    iblk m c 4 t (ix2 p q) = gates m c (ix2 i (left j)) := by
  obtain ⟨e0, e1⟩ := index4 t
  show V m c main_arg3 _ = _
  rw [V_main_arg3]
  refine congrArg (gates m c) (funext fun a => Fin.ext ?_)
  match a with
  | ⟨0, _⟩ =>
    show win0_4.index t 0 * 1024 + 1 * p.val = i.val
    rw [e0, hi]
    omega
  | ⟨1, _⟩ =>
    show win0_4.index t 1 * 512 + 1 * q.val = j.val
    rw [e1, hj]
    omega

/-- The second gates' block at a point. -/
theorem blk5 (t : Fin cfg0.N) (p : Fin 1024) (q : Fin 512) (i : Fin 8192) (j : Fin 4096) (hi : i.val = 1024 * (t.val % 8) + p.val) (hj : j.val = 512 * (t.val / 8) + q.val) :
    iblk m c 5 t (ix2 p q) = gates m c (ix2 i (right j)) := by
  obtain ⟨e0, e1⟩ := index5 t
  show V m c main_arg3 _ = _
  rw [V_main_arg3]
  refine congrArg (gates m c) (funext fun a => Fin.ext ?_)
  match a with
  | ⟨0, _⟩ =>
    show win0_5.index t 0 * 1024 + 1 * p.val = i.val
    rw [e0, hi]
    omega
  | ⟨1, _⟩ =>
    show win0_5.index t 1 * 512 + 1 * q.val = 4096 + j.val
    rw [e1, hj]
    omega

/-- A point at the top of a column keeps its own block of the upper weights, rounded. -/
theorem kept_top (t : Fin cfg0.N) (h0 : t.val % 8 = 0) : (outsAt0 m c t.val t.isLt).2.1 = k0_pay1 (iblk m c 2 t) := by
  rw [outsAt0_A m c t h0]
  dsimp only
  rw [kept_first]

/-- A later point keeps what the point before it kept of the upper weights. -/
theorem kept_below (t : Fin cfg0.N) (h0 : ¬t.val % 8 = 0) :
    (outsAt0 m c t.val t.isLt).2.1 = (outsAt0 m c (t.val - 1) (Nat.lt_of_le_of_lt (Nat.sub_le _ _) t.isLt)).2.1 := by
  rw [outsAt0_B m c t h0]
  rfl

/-- THE UPPER WEIGHTS KEPT AFTER EACH POINT are its column block's. -/
theorem kept_eq (n : ℕ) : ∀ (h : n < cfg0.N) (k : Fin 2048) (q : Fin 512) (j : Fin 4096), j.val = 512 * (n / 8) + q.val →
    (outsAt0 m c n h).2.1 (ix2 k q) = weights m c (ix3 0 (upper k) j) := by
  induction n using Nat.strong_induction_on with
  | _ n ih =>
    intro h k q j hj
    by_cases h0 : n % 8 = 0
    · exact (congrFun (kept_top m c ⟨n, h⟩ h0) (ix2 k q)).trans ((round_apply _ k q).trans (blk2 m c ⟨n, h⟩ k q j hj))
    · exact (congrFun (kept_below m c ⟨n, h⟩ h0) (ix2 k q)).trans (ih (n - 1) (by omega) _ k q j (by omega))

/-- A point at the top of a column keeps its own block of the lower weights, rounded. -/
theorem kept_top' (t : Fin cfg0.N) (h0 : t.val % 8 = 0) : (outsAt0 m c t.val t.isLt).2.2 = k0_pay2 (iblk m c 3 t) := by
  rw [outsAt0_A m c t h0]
  dsimp only
  rw [kept_first']

/-- A later point keeps what the point before it kept of the lower weights. -/
theorem kept_below' (t : Fin cfg0.N) (h0 : ¬t.val % 8 = 0) :
    (outsAt0 m c t.val t.isLt).2.2 = (outsAt0 m c (t.val - 1) (Nat.lt_of_le_of_lt (Nat.sub_le _ _) t.isLt)).2.2 := by
  rw [outsAt0_B m c t h0]
  rfl

/-- THE LOWER WEIGHTS KEPT AFTER EACH POINT are its column block's. -/
theorem kept_eq' (n : ℕ) : ∀ (h : n < cfg0.N) (k : Fin 2048) (q : Fin 512) (j : Fin 4096), j.val = 512 * (n / 8) + q.val →
    (outsAt0 m c n h).2.2 (ix2 k q) = weights m c (ix3 0 (lower k) j) := by
  induction n using Nat.strong_induction_on with
  | _ n ih =>
    intro h k q j hj
    by_cases h0 : n % 8 = 0
    · exact (congrFun (kept_top' m c ⟨n, h⟩ h0) (ix2 k q)).trans ((round_apply' _ k q).trans (blk3 m c ⟨n, h⟩ k q j hj))
    · exact (congrFun (kept_below' m c ⟨n, h⟩ h0) (ix2 k q)).trans (ih (n - 1) (by omega) _ k q j (by omega))

/-- WHAT POINT `t` WRITES BACK at row `p`, column `q` of its block. -/
theorem point_eq (t : Fin cfg0.N) (p : Fin 1024) (q : Fin 512) (i : Fin 8192) (j : Fin 4096) (hi : i.val = 1024 * (t.val % 8) + p.val) (hj : j.val = 512 * (t.val / 8) + q.val) :
    (dats m 0 c).flushed 6 t (ix2 p q) = gates m c (ix2 i (left j)) * (∑ k : Fin 2048, attn m c (ix2 i k) * weights m c (ix3 0 (upper k) j)) + gates m c (ix2 i (right j)) * (∑ k : Fin 2048, ret m c (ix2 i k) * weights m c (ix3 0 (lower k) j)) := by
  by_cases h0 : t.val % 8 = 0
  · rw [Value.flushed6_A m c t h0, out_first]
    refine (block_apply _ _ _ _ _ _ p q).trans ?_
    rw [blk4 m c t p q i j hi hj, blk5 m c t p q i j hi hj]
    refine congrArg₂ (fun s r => gates m c (ix2 i (left j)) * s + gates m c (ix2 i (right j)) * r) (Finset.sum_congr rfl fun k _ => ?_) (Finset.sum_congr rfl fun k _ => ?_)
    · rw [blk0 m c t p k i hi]
      exact congrArg (attn m c (ix2 i k) * ·) ((round_apply _ k q).trans (blk2 m c t k q j hj))
    · rw [blk1 m c t p k i hi]
      exact congrArg (ret m c (ix2 i k) * ·) ((round_apply' _ k q).trans (blk3 m c t k q j hj))
  · rw [Value.flushed6_B m c t h0, out_later]
    refine (block_apply _ _ _ _ _ _ p q).trans ?_
    rw [blk4 m c t p q i j hi hj, blk5 m c t p q i j hi hj]
    refine congrArg₂ (fun s r => gates m c (ix2 i (left j)) * s + gates m c (ix2 i (right j)) * r) (Finset.sum_congr rfl fun k _ => ?_) (Finset.sum_congr rfl fun k _ => ?_)
    · rw [blk0 m c t p k i hi]
      exact congrArg (attn m c (ix2 i k) * ·) (kept_eq m c _ _ k q j (by omega))
    · rw [blk1 m c t p k i hi]
      exact congrArg (ret m c (ix2 i k) * ·) (kept_eq' m c _ _ k q j (by omega))

/-- THE KERNEL'S RESULT at an index. -/
theorem array_eq (i : S8192x4096.Idx) :
    (dats m 0 c).arrAt 6 cfg0.N i = gates m c (ix2 (i 0) (left (i 1))) * (∑ k : Fin 2048, attn m c (ix2 (i 0) k) * weights m c (ix3 0 (upper k) (i 1))) + gates m c (ix2 (i 0) (right (i 1))) * (∑ k : Fin 2048, ret m c (ix2 (i 0) k) * weights m c (ix3 0 (lower k) (i 1))) := by
  have hi : (i 0).val < 8192 := (i 0).isLt
  have hj : (i 1).val < 4096 := (i 1).isLt
  have ht : (i 1).val / 512 * 8 + (i 0).val / 1024 < cfg0.N := Nat.lt_of_lt_of_eq (by omega : _ < 64) N_0.symm
  obtain ⟨e0, e1⟩ := index6 ⟨_, ht⟩
  have hb := (congrFun (Value.blocks6 m c ⟨_, ht⟩ (flush0_6 _)) (ix2 ⟨(i 0).val % 1024, by omega⟩ ⟨(i 1).val % 512, by omega⟩)).trans
    (point_eq m c ⟨_, ht⟩ _ _ (i 0) (i 1) (by show (i 0).val = 1024 * (((i 1).val / 512 * 8 + (i 0).val / 1024) % 8) + (i 0).val % 1024; omega)
      (by show (i 1).val = 512 * (((i 1).val / 512 * 8 + (i 0).val / 1024) / 8) + (i 1).val % 512; omega))
  refine Eq.trans (congrArg ((dats m 0 c).arrAt 6 cfg0.N) (funext fun a => Fin.ext ?_)) hb
  match a with
  | ⟨0, _⟩ =>
    show (i 0).val = win0_6.index ⟨_, ht⟩ 0 * 1024 + 1 * ((i 0).val % 1024)
    rw [e0]
    show (i 0).val = ((i 1).val / 512 * 8 + (i 0).val / 1024) % 8 * 1024 + 1 * ((i 0).val % 1024)
    omega
  | ⟨1, _⟩ =>
    show (i 1).val = win0_6.index ⟨_, ht⟩ 1 * 512 + 1 * ((i 1).val % 512)
    rw [e1]
    show (i 1).val = ((i 1).val / 512 * 8 + (i 0).val / 1024) / 8 * 512 + 1 * ((i 1).val % 512)
    omega

end Kernel

open Cert.Reference4Ideal in
open Cert.Reference4Ideal.Gen in
/-- The reference's result at an index. -/
theorem reference_apply (x y : FVec Ideal S8192x2048 .bf16) (w : FVec Ideal S1x4096x4096 .f32) (g : FVec Ideal S8192x8192 .bf16) (i : Fin 8192) (j : Fin 4096) :
    truncf (F := Ideal) .bf16 (addf (mulf (extractStridedSlice S8192x4096 ![0, 0] (extf .f32 g bitsLt_bf16_f32) slices_S8192x8192_S8192x4096_0_0) (Host.dotGeneral dot_S8192x2048_S2048x4096_S8192x4096_1_0_0_1_n_n none (extf .f32 x bitsLt_bf16_f32) (shapeCast S2048x4096 (extractStridedSlice S1x2048x4096 ![0, 0, 0] w slices_S1x4096x4096_S1x2048x4096_0_0_0) shapeCasts_S1x2048x4096_S2048x4096))) (mulf (extractStridedSlice S8192x4096 ![0, 4096] (extf .f32 g bitsLt_bf16_f32) slices_S8192x8192_S8192x4096_0_4096) (Host.dotGeneral dot_S8192x2048_S2048x4096_S8192x4096_1_0_0_1_n_n none (extf .f32 y bitsLt_bf16_f32) (shapeCast S2048x4096 (extractStridedSlice S1x2048x4096 ![0, 2048, 0] w slices_S1x4096x4096_S1x2048x4096_0_2048_0) shapeCasts_S1x2048x4096_S2048x4096)))) bitsLt_bf16_f32 (ix2 i j)
      = g (ix2 i (left j)) * (∑ k : Fin 2048, x (ix2 i k) * w (ix3 0 (upper k) j)) + g (ix2 i (right j)) * (∑ k : Fin 2048, y (ix2 i k) * w (ix3 0 (lower k) j)) := by
  pointwise
  rfl

/-- The merge: the value claim. -/
theorem algebraic : Cert.algebraic_Kernel4Ideal_Reference4Ideal := by
  intro m ρ m' ρ' _ hagree
  refine ⟨fun c => (Cert.Kernel4Ideal.Gen.dats m 0 c).arrAt 6 Cert.Kernel4Ideal.cfg0.N,
    Cert.Kernel4Ideal.Value.run_blocks (F := Ideal) m ρ, ?_⟩
  refine (θ_run _ _ _).mono (fun _ h c => ⟨(h c).1.trans ?_, (h c).2⟩) (Cert.Reference4Ideal.Value.run (F := Ideal) m' ρ')
  rw [(hagree c).1, (hagree c).2.1, (hagree c).2.2.1, (hagree c).2.2.2]
  funext i
  exact (congrArg _ (ix2_eta i).symm).trans ((reference_apply _ _ _ _ (i 0) (i 1)).trans (array_eq m c i).symm)

/-- The reference's frame. -/
theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

end Cert.Merge

end
-- ==== Proof.OutProj.lean ====
/- The output projection: each block of the product with the rounded weights kept between points, scaled by the modulation's
   residual gate and added to the input. -/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import Idealize.ShloMosaic.Lib.Claim
public import Idealize.ShloMosaic.Lib.Pointwise
public import Idealize.ShloMosaic.Adequacy
public import Idealize.ShloMosaic.Init

@[expose] public section

set_option maxRecDepth 65536

noncomputable section

namespace Cert.OutProj

open Idealize.ShloMosaic Idealize.ShloMosaic.TcCoe Idealize.SL.Sem

/-- The batch element of a row. -/
def batch (i : Fin 8192) : Fin 4 := ⟨i.val / 2048, by omega⟩
/-- The position of a row in its batch element. -/
def place (i : Fin 8192) : Fin 2048 := ⟨i.val % 2048, by omega⟩
/-- The modulation's row that holds a row's residual gate: the third of its batch element's six. -/
def gateRow (i : Fin 8192) : Fin 24 := ⟨i.val / 2048 * 6 + 2, by omega⟩

section Kernel
open Cert.Kernel5Ideal Cert.Kernel5Ideal.Gen

/-- A block of the projection at an index. -/
theorem block_apply (x : FVec Ideal S1024x4096 .bf16) (w : FVec Ideal S4096x512 .bf16) (v : FVec Ideal S1024x512 .f32) (g : FVec Ideal S1x1x512 .f32) (i : Fin 1024) (j : Fin 512) :
    k0_pay2 (F := Ideal) x w v g (ix2 i j) = v (ix2 i j) + g (ix3 0 0 j) * (∑ k : Fin 4096, x (ix2 i k) * w (ix2 k j)) := by
  pointwise [k0_pay2]

/-- The rounded weights at an index. -/
theorem round_apply (w : FVec Ideal S4096x512 .f32) (k : Fin 4096) (j : Fin 512) : k0_pay1 (F := Ideal) w (ix2 k j) = w (ix2 k j) := by
  pointwise [k0_pay1]

section Terms
variable (c : Dev nD) (i : grid0.Coords) (a2 : Memref sig .tc .vmem S1024x4096 .bf16) (h2 : a2.IsWhole) (a3 : Memref sig .tc .vmem S4096x512 .f32) (h3 : a3.IsWhole)
  (a4 : Memref sig .tc .vmem S1024x512 .f32) (h4 : a4.IsWhole) (a5 : Memref sig .tc .vmem S1x1x512 .f32) (h5 : a5.IsWhole) (a6 : Memref sig .tc .vmem S1024x512 .f32) (h6 : a6.IsWhole)
  (a7 : Memref sig .tc .vmem S4096x512 .bf16) (h7 : a7.IsWhole)
  (x0 : Vec Ideal S1024x4096 .bf16) (x1 : Vec Ideal S4096x512 .f32) (x2 : Vec Ideal S1024x512 .f32) (x3 : Vec Ideal S1x1x512 .f32) (xs : Vec Ideal S4096x512 .bf16)

/-- What a column's first point leaves in the kept weights: the block, rounded. -/
theorem kept_first (hc : cond0_0 i) : sout0_A_0 c i a2 h2 a3 h3 a4 h4 a5 h5 a6 h6 a7 h7 hc x0 x1 x2 x3 = k0_pay1 x1 := by
  unfold sout0_A_0
  rw [View.read_writes_junk_eq_canon]
  unfold kernelRun0_A
  dsimp only
  sl_unfold_words
  simp only [View.readAt_eq_ld, h2.read_unread, h3.read_unread, h4.read_unread, h5.read_unread]
  rw [View.canon_unit_zero (by decide), View.ld_unit_zero (by decide)]

/-- A column's first point's block of the projection. -/
theorem out_first (hc : cond0_0 i) : out0_A_4 c i a2 h2 a3 h3 a4 h4 a5 h5 a6 h6 a7 h7 hc x0 x1 x2 x3 = k0_pay2 x0 (k0_pay1 x1) x2 x3 := by
  unfold out0_A_4
  rw [View.read_writes_junk_eq_canon]
  unfold kernelRun0_A
  dsimp only
  sl_unfold_words
  simp only [View.readAt_eq_ld, h2.read_unread, h3.read_unread, h4.read_unread, h5.read_unread]
  rw [View.canon_unit_zero (by decide), View.readCov_cons_toLoadRect, View.ld_unit_zero (by decide), View.ld_unit_zero (by decide), View.ld_unit_zero (by decide), View.ld_unit_zero (by decide)]

/-- A later point's block of the projection, over the weights kept. -/
theorem out_later (hc : ¬cond0_0 i) : out0_B_4 c i a2 h2 a3 h3 a4 h4 a5 h5 a6 h6 a7 h7 hc x0 x1 x2 x3 xs = k0_pay2 x0 xs x2 x3 := by
  unfold out0_B_4
  rw [View.read_writes_junk_eq_canon]
  unfold kernelRun0_B
  dsimp only
  sl_unfold_words
  simp only [View.readAt_eq_ld, h2.read_unread, h3.read_unread, h4.read_unread, h5.read_unread, h7.read_unread]
  rw [View.canon_unit_zero (by decide), View.ld_unit_zero (by decide), View.ld_unit_zero (by decide), View.ld_unit_zero (by decide), View.ld_unit_zero (by decide)]

end Terms

/-- Where the rows' window lies at point `t`. -/
theorem index0 : ∀ t : Fin cfg0.N, win0_0.index t 0 = t.val % 8 ∧ win0_0.index t 1 = 0 :=
  (by decide +kernel : ∀ t : Fin grid0.N, win0_0.index t 0 = t.val % 8 ∧ win0_0.index t 1 = 0)
/-- Where the weights' window lies at point `t`. -/
theorem index1 : ∀ t : Fin cfg0.N, win0_1.index t 0 = 0 ∧ win0_1.index t 1 = t.val / 8 :=
  (by decide +kernel : ∀ t : Fin grid0.N, win0_1.index t 0 = 0 ∧ win0_1.index t 1 = t.val / 8)
/-- Where the input's window lies at point `t`. -/
theorem index2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)
/-- Where the residual gate's window lies at point `t`. -/
theorem index3 : ∀ t : Fin cfg0.N, win0_3.index t 0 = t.val % 8 / 2 * 6 + 2 ∧ win0_3.index t 1 = 0 ∧ win0_3.index t 2 = t.val / 8 :=
  (by decide +kernel : ∀ t : Fin grid0.N, win0_3.index t 0 = t.val % 8 / 2 * 6 + 2 ∧ win0_3.index t 1 = 0 ∧ win0_3.index t 2 = t.val / 8)
/-- Where the result's window lies at point `t`. -/
theorem index4 : ∀ t : Fin cfg0.N, win0_4.index t 0 = t.val % 8 ∧ win0_4.index t 1 = t.val / 8 :=
  (by decide +kernel : ∀ t : Fin grid0.N, win0_4.index t 0 = t.val % 8 ∧ win0_4.index t 1 = t.val / 8)

variable (m : (ℓ : Loc nD τ sig) → Buf (Elt Ideal) ℓ) (c : Dev nD)

/-- The merged rows. -/
abbrev rows : FVec Ideal S8192x4096 .bf16 := m ((c.tc : Thread nD τ).loc main_arg0)
/-- The projection's weights. -/
abbrev weights : FVec Ideal S1x4096x4096 .f32 := m ((c.tc : Thread nD τ).loc main_arg1)
/-- The layer's input. -/
abbrev input : FVec Ideal S4x2048x4096 .f32 := m ((c.tc : Thread nD τ).loc main_arg2)
/-- The modulation. -/
abbrev modulation : FVec Ideal S24x1x4096 .f32 := m ((c.tc : Thread nD τ).loc main_arg3)

/-- The weights the launch finds. -/
theorem weights_apply (k j : Fin 4096) : V m c main_v0 (ix2 k j) = weights m c (ix3 0 k j) := by
  have e : V m c main_v0 = shapeCast S4096x4096 (weights m c) shapeCasts_S1x4096x4096_S4096x4096 := by
    entry_read
    rfl
  rw [e]
  generalize weights m c = X
  pointwise

/-- The input the launch finds. -/
theorem input_apply (i : Fin 8192) (j : Fin 4096) : V m c main_v1 (ix2 i j) = input m c (ix3 (batch i) (place i) j) := by
  have e : V m c main_v1 = shapeCast S8192x4096 (input m c) shapeCasts_S4x2048x4096_S8192x4096 := by
    entry_read
    rfl
  rw [e]
  generalize input m c = X
  pointwise
  rfl

/-- The rows' block at a point. -/
theorem blk0 (t : Fin cfg0.N) (p : Fin 1024) (k : Fin 4096) (i : Fin 8192) (hi : i.val = 1024 * (t.val % 8) + p.val) :
    iblk m c 0 t (ix2 p k) = rows m c (ix2 i k) := by
  obtain ⟨e0, e1⟩ := index0 t
  show V m c main_arg0 _ = _
  rw [V_main_arg0]
  refine congrArg (rows m c) (funext fun a => Fin.ext ?_)
  match a with
  | ⟨0, _⟩ =>
    show win0_0.index t 0 * 1024 + 1 * p.val = i.val
    rw [e0, hi]
    omega
  | ⟨1, _⟩ =>
    show win0_0.index t 1 * 4096 + 1 * k.val = k.val
    rw [e1]
    omega

/-- The weights' block at a point. -/
theorem blk1 (t : Fin cfg0.N) (k : Fin 4096) (q : Fin 512) (j : Fin 4096) (hj : j.val = 512 * (t.val / 8) + q.val) :
    iblk m c 1 t (ix2 k q) = weights m c (ix3 0 k j) := by
  obtain ⟨e0, e1⟩ := index1 t
  refine Eq.trans ?_ (weights_apply m c k j)
  show V m c main_v0 _ = _
  refine congrArg (V m c main_v0) (funext fun a => Fin.ext ?_)
  match a with
  | ⟨0, _⟩ =>
    show win0_1.index t 0 * 4096 + 1 * k.val = k.val
    rw [e0]
    omega
  | ⟨1, _⟩ =>
    show win0_1.index t 1 * 512 + 1 * q.val = j.val
    rw [e1, hj]
    omega

/-- The input's block at a point. -/
theorem blk2 (t : Fin cfg0.N) (p : Fin 1024) (q : Fin 512) (i : Fin 8192) (j : Fin 4096) (hi : i.val = 1024 * (t.val % 8) + p.val) (hj : j.val = 512 * (t.val / 8) + q.val) :
    iblk m c 2 t (ix2 p q) = input m c (ix3 (batch i) (place i) j) := by
  obtain ⟨e0, e1⟩ := index2 t
  refine Eq.trans ?_ (input_apply m c i j)
  show V m c main_v1 _ = _
  refine congrArg (V m c main_v1) (funext fun a => Fin.ext ?_)
  match a with
  | ⟨0, _⟩ =>
    show win0_2.index t 0 * 1024 + 1 * p.val = i.val
    rw [e0, hi]
    omega
  | ⟨1, _⟩ =>
    show win0_2.index t 1 * 512 + 1 * q.val = j.val
    rw [e1, hj]
    omega

/-- The residual gate's block at a point. -/
theorem blk3 (t : Fin cfg0.N) (p : Fin 1024) (q : Fin 512) (i : Fin 8192) (j : Fin 4096) (hi : i.val = 1024 * (t.val % 8) + p.val) (hj : j.val = 512 * (t.val / 8) + q.val) :
    iblk m c 3 t (ix3 0 0 q) = modulation m c (ix3 (gateRow i) 0 j) := by
  obtain ⟨e0, e1, e2⟩ := index3 t
  show V m c main_arg3 _ = _
  rw [V_main_arg3]
  refine congrArg (modulation m c) (funext fun a => Fin.ext ?_)
  match a with
  | ⟨0, _⟩ =>
    show win0_3.index t 0 * 1 + 1 * 0 = i.val / 2048 * 6 + 2
    rw [e0, hi]
    omega
  | ⟨1, _⟩ =>
    show win0_3.index t 1 * 1 + 1 * 0 = 0
    rw [e1]
  | ⟨2, _⟩ =>
    show win0_3.index t 2 * 512 + 1 * q.val = j.val
    rw [e2, hj]
    omega

/-- A point at the top of a column keeps its own block of the weights, rounded. -/
theorem kept_top (t : Fin cfg0.N) (h0 : t.val % 8 = 0) : (outsAt0 m c t.val t.isLt).2 = k0_pay1 (iblk m c 1 t) := by
  rw [outsAt0_A m c t h0]
  dsimp only
  rw [kept_first]

/-- A later point keeps what the point before it kept. -/
theorem kept_below (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  rfl

/-- THE WEIGHTS KEPT AFTER EACH POINT are its column block's. -/
theorem kept_eq (n : ℕ) : ∀ (h : n < cfg0.N) (k : Fin 4096) (q : Fin 512) (j : Fin 4096), j.val = 512 * (n / 8) + q.val →
    (outsAt0 m c n h).2 (ix2 k q) = weights m c (ix3 0 k j) := by
  induction n using Nat.strong_induction_on with
  | _ n ih =>
    intro h k q j hj
    by_cases h0 : n % 8 = 0
    · exact (congrFun (kept_top m c ⟨n, h⟩ h0) (ix2 k q)).trans ((round_apply _ k q).trans (blk1 m c ⟨n, h⟩ k q j hj))
    · exact (congrFun (kept_below m c ⟨n, h⟩ h0) (ix2 k q)).trans (ih (n - 1) (by omega) _ k q j (by omega))

/-- WHAT POINT `t` WRITES BACK at row `p`, column `q` of its block. -/
theorem point_eq (t : Fin cfg0.N) (p : Fin 1024) (q : Fin 512) (i : Fin 8192) (j : Fin 4096) (hi : i.val = 1024 * (t.val % 8) + p.val) (hj : j.val = 512 * (t.val / 8) + q.val) :
    (dats m 0 c).flushed 4 t (ix2 p q) = input m c (ix3 (batch i) (place i) j) + modulation m c (ix3 (gateRow i) 0 j) * (∑ k : Fin 4096, rows m c (ix2 i k) * weights m c (ix3 0 k j)) := by
  by_cases h0 : t.val % 8 = 0
  · rw [Value.flushed4_A m c t h0, out_first]
    refine (block_apply _ _ _ _ p q).trans ?_
    rw [blk2 m c t p q i j hi hj, blk3 m c t p q i j hi hj]
    refine congrArg (fun s => input m c (ix3 (batch i) (place i) j) + modulation m c (ix3 (gateRow i) 0 j) * s) (Finset.sum_congr rfl fun k _ => ?_)
    rw [blk0 m c t p k i hi]
    exact congrArg (rows m c (ix2 i k) * ·) ((round_apply _ k q).trans (blk1 m c t k q j hj))
  · rw [Value.flushed4_B m c t h0, out_later]
    refine (block_apply _ _ _ _ p q).trans ?_
    rw [blk2 m c t p q i j hi hj, blk3 m c t p q i j hi hj]
    refine congrArg (fun s => input m c (ix3 (batch i) (place i) j) + modulation m c (ix3 (gateRow i) 0 j) * s) (Finset.sum_congr rfl fun k _ => ?_)
    rw [blk0 m c t p k i hi]
    exact congrArg (rows m c (ix2 i k) * ·) (kept_eq m c _ _ k q j (by omega))

/-- THE KERNEL'S RESULT at an index. -/
theorem array_eq (i : S8192x4096.Idx) :
    (dats m 0 c).arrAt 4 cfg0.N i = input m c (ix3 (batch (i 0)) (place (i 0)) (i 1)) + modulation m c (ix3 (gateRow (i 0)) 0 (i 1)) * (∑ k : Fin 4096, rows m c (ix2 (i 0) k) * weights m c (ix3 0 k (i 1))) := by
  have hi : (i 0).val < 8192 := (i 0).isLt
  have hj : (i 1).val < 4096 := (i 1).isLt
  have ht : (i 1).val / 512 * 8 + (i 0).val / 1024 < cfg0.N := Nat.lt_of_lt_of_eq (by omega : _ < 64) N_0.symm
  obtain ⟨e0, e1⟩ := index4 ⟨_, ht⟩
  have hb := (congrFun (Value.blocks4 m c ⟨_, ht⟩ (flush0_4 _)) (ix2 ⟨(i 0).val % 1024, by omega⟩ ⟨(i 1).val % 512, by omega⟩)).trans
    (point_eq m c ⟨_, ht⟩ _ _ (i 0) (i 1) (by show (i 0).val = 1024 * (((i 1).val / 512 * 8 + (i 0).val / 1024) % 8) + (i 0).val % 1024; omega)
      (by show (i 1).val = 512 * (((i 1).val / 512 * 8 + (i 0).val / 1024) / 8) + (i 1).val % 512; omega))
  refine Eq.trans (congrArg ((dats m 0 c).arrAt 4 cfg0.N) (funext fun a => Fin.ext ?_)) hb
  match a with
  | ⟨0, _⟩ =>
    show (i 0).val = win0_4.index ⟨_, ht⟩ 0 * 1024 + 1 * ((i 0).val % 1024)
    rw [e0]
    show (i 0).val = ((i 1).val / 512 * 8 + (i 0).val / 1024) % 8 * 1024 + 1 * ((i 0).val % 1024)
    omega
  | ⟨1, _⟩ =>
    show (i 1).val = win0_4.index ⟨_, ht⟩ 1 * 512 + 1 * ((i 1).val % 512)
    rw [e1]
    show (i 1).val = ((i 1).val / 512 * 8 + (i 0).val / 1024) / 8 * 512 + 1 * ((i 1).val % 512)
    omega

end Kernel

open Cert.Reference5Ideal in
open Cert.Reference5Ideal.Gen in
/-- The reference's result at an index. -/
theorem reference_apply (h : FVec Ideal S8192x4096 .bf16) (w : FVec Ideal S1x4096x4096 .f32) (x : FVec Ideal S4x2048x4096 .f32) (g : FVec Ideal S24x1x4096 .f32) (i : Fin 8192) (j : Fin 4096) :
    shapeCast S8192x4096 (addf (F := Ideal) x (mulf (broadcastInDim S4x2048x4096 ![0, 1, 2] bcast_S4x1x4096_S4x2048x4096_0_1_2 (broadcastInDim S4x1x4096 ![0, 2] bcast_S4x4096_S4x1x4096_0_2 (shapeCast S4x4096 (extractStridedSlice S4x1x4096 ![0, 2, 0] (shapeCast S4x6x4096 g shapeCasts_S24x1x4096_S4x6x4096) slices_S4x6x4096_S4x1x4096_0_2_0) shapeCasts_S4x1x4096_S4x4096))) (Host.dotGeneral dot_S4x2048x4096_S4096x4096_S4x2048x4096_2_0_01_1_n_n none (shapeCast S4x2048x4096 (extf .f32 h bitsLt_bf16_f32) shapeCasts_S8192x4096_S4x2048x4096) (shapeCast S4096x4096 w shapeCasts_S1x4096x4096_S4096x4096)))) shapeCasts_S4x2048x4096_S8192x4096 (ix2 i j)
      = x (ix3 (batch i) (place i) j) + g (ix3 (gateRow i) 0 j) * (∑ k : Fin 4096, h (ix2 i k) * w (ix3 0 k j)) := by
  pointwise
  rfl

/-- The output projection: the value claim. -/
theorem algebraic : Cert.algebraic_Kernel5Ideal_Reference5Ideal := by
  intro m ρ m' ρ' _ hagree
  refine ⟨fun c => (Cert.Kernel5Ideal.Gen.dats m 0 c).arrAt 4 Cert.Kernel5Ideal.cfg0.N,
    Cert.Kernel5Ideal.Value.run_blocks (F := Ideal) m ρ, ?_⟩
  refine (θ_run _ _ _).mono (fun _ h c => ⟨(h c).1.trans ?_, (h c).2⟩) (Cert.Reference5Ideal.Value.run (F := Ideal) m' ρ')
  rw [(hagree c).1, (hagree c).2.1, (hagree c).2.2.1, (hagree c).2.2.2]
  funext i
  exact (congrArg _ (ix2_eta i).symm).trans ((reference_apply _ _ _ _ (i 0) (i 1)).trans (array_eq m c i).symm)

/-- The reference's frame. -/
theorem frame_reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

end Cert.OutProj

end
-- ==== Proof.QUp.lean ====
/- The attention's queries and the indexer's: the product of the compressed rows and the weights, block by block, beside the one product. -/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import Idealize.ShloMosaic.Lib.Pointwise
public import Idealize.ShloMosaic.Adequacy
public import Idealize.ShloMosaic.Init

@[expose] public section

set_option maxRecDepth 65536

noncomputable section

namespace Cert.QUp

open Idealize.ShloMosaic Idealize.ShloMosaic.TcCoe Idealize.SL.Sem

section Kernel
open Cert.Kernel6Ideal Cert.Kernel6Ideal.Gen

/-- A block's product at an index: the sum over the shared axis. -/
theorem block_apply (x : FVec Ideal S2048x1024 .bf16) (w : FVec Ideal S1024x1024 .bf16) (i : Fin 2048) (j : Fin 1024) :
    k0_pay1 (F := Ideal) x w (ix2 i j) = ∑ k : Fin 1024, x (ix2 i k) * w (ix2 k j) := by
  pointwise [k0_pay1]

/-- Where the rows' window lies at point `t`. -/
theorem index0 : ∀ t : Fin cfg0.N, win0_0.index t 0 = t.val / 10 ∧ win0_0.index t 1 = 0 :=
  (by decide +kernel : ∀ t : Fin grid0.N, win0_0.index t 0 = t.val / 10 ∧ win0_0.index t 1 = 0)
/-- Where the weights' window lies at point `t`. -/
theorem index1 : ∀ t : Fin cfg0.N, win0_1.index t 0 = 0 ∧ win0_1.index t 1 = t.val % 10 :=
  (by decide +kernel : ∀ t : Fin grid0.N, win0_1.index t 0 = 0 ∧ win0_1.index t 1 = t.val % 10)
/-- Where the result's window lies at point `t`. -/
theorem index2 : ∀ t : Fin cfg0.N, win0_2.index t 0 = t.val / 10 ∧ win0_2.index t 1 = t.val % 10 :=
  (by decide +kernel : ∀ t : Fin grid0.N, win0_2.index t 0 = t.val / 10 ∧ win0_2.index t 1 = t.val % 10)

variable (m : (ℓ : Loc nD τ sig) → Buf (Elt Ideal) ℓ) (c : Dev nD)

/-- The compressed rows. -/
abbrev rows : FVec Ideal S8192x1024 .bf16 := m ((c.tc : Thread nD τ).loc main_arg0)
/-- The weights. -/
abbrev weights : FVec Ideal S1024x10240 .bf16 := m ((c.tc : Thread nD τ).loc main_arg1)

/-- WHAT POINT `t` WRITES BACK at row `p`, column `q` of its block. -/
theorem point_eq (t : Fin cfg0.N) (p : Fin 2048) (q : Fin 1024) (i : Fin 8192) (j : Fin 10240)
    (hi : i.val = 2048 * (t.val / 10) + p.val) (hj : j.val = 1024 * (t.val % 10) + q.val) :
    (dats m 0 c).flushed 2 t (ix2 p q) = ∑ k : Fin 1024, rows m c (ix2 i k) * weights m c (ix2 k j) := by
  obtain ⟨e0, e1⟩ := index0 t
  obtain ⟨f0, f1⟩ := index1 t
  rw [Value.flushed2]
  show out0_2 _ _ (ix2 p q) = _
  unfold out0_2
  rw [View.canon_unit_zero (by decide), View.ld_unit_zero (by decide), View.ld_unit_zero (by decide)]
  refine (block_apply _ _ p q).trans (Finset.sum_congr rfl fun k _ => congrArg₂ (· * ·) ?_ ?_)
  · show V m c main_arg0 _ = _
    rw [V_main_arg0]
    refine congrArg (rows m c) (funext fun a => Fin.ext ?_)
    match a with
    | ⟨0, _⟩ =>
      show win0_0.index t 0 * 2048 + 1 * p.val = i.val
      rw [e0, hi]
      omega
    | ⟨1, _⟩ =>
      show win0_0.index t 1 * 1024 + 1 * k.val = k.val
      rw [e1]
      omega
  · show V m c main_arg1 _ = _
    rw [V_main_arg1]
    refine congrArg (weights m c) (funext fun a => Fin.ext ?_)
    match a with
    | ⟨0, _⟩ =>
      show win0_1.index t 0 * 1024 + 1 * k.val = k.val
      rw [f0]
      omega
    | ⟨1, _⟩ =>
      show win0_1.index t 1 * 1024 + 1 * q.val = j.val
      rw [f1, hj]
      omega

/-- THE KERNEL'S RESULT at an index. -/
theorem array_eq (i : S8192x10240.Idx) :
    (dats m 0 c).arrAt 2 cfg0.N i = ∑ k : Fin 1024, rows m c (ix2 (i 0) k) * weights m c (ix2 k (i 1)) := by
  have hi : (i 0).val < 8192 := (i 0).isLt
  have hj : (i 1).val < 10240 := (i 1).isLt
  have ht : (i 0).val / 2048 * 10 + (i 1).val / 1024 < cfg0.N := Nat.lt_of_lt_of_eq (by omega : _ < 40) N_0.symm
  obtain ⟨e0, e1⟩ := index2 ⟨_, ht⟩
  have hb := congrFun (Value.blocks2 m c ⟨_, ht⟩ (flush0_2 _)) (ix2 ⟨(i 0).val % 2048, by omega⟩ ⟨(i 1).val % 1024, by omega⟩)
  rw [point_eq m c ⟨_, ht⟩ _ _ (i 0) (i 1) (by show (i 0).val = 2048 * (((i 0).val / 2048 * 10 + (i 1).val / 1024) / 10) + (i 0).val % 2048; omega)
    (by show (i 1).val = 1024 * (((i 0).val / 2048 * 10 + (i 1).val / 1024) % 10) + (i 1).val % 1024; omega)] at hb
  refine Eq.trans (congrArg ((dats m 0 c).arrAt 2 cfg0.N) (funext fun a => Fin.ext ?_)) hb
  match a with
  | ⟨0, _⟩ =>
    show (i 0).val = win0_2.index ⟨_, ht⟩ 0 * 2048 + 1 * ((i 0).val % 2048)
    rw [e0]
    show (i 0).val = ((i 0).val / 2048 * 10 + (i 1).val / 1024) / 10 * 2048 + 1 * ((i 0).val % 2048)
    omega
  | ⟨1, _⟩ =>
    show (i 1).val = win0_2.index ⟨_, ht⟩ 1 * 1024 + 1 * ((i 1).val % 1024)
    rw [e1]
    show (i 1).val = ((i 0).val / 2048 * 10 + (i 1).val / 1024) % 10 * 1024 + 1 * ((i 1).val % 1024)
    omega

end Kernel

open Cert.Reference6Ideal in
open Cert.Reference6Ideal.Gen in
/-- The reference's product at an index. -/
theorem reference_apply (h : FVec Ideal S8192x1024 .bf16) (w : FVec Ideal S1024x10240 .bf16) (i : Fin 8192) (j : Fin 10240) :
    truncf (F := Ideal) .bf16 (Host.dotGeneral (F := Ideal) dot_S8192x1024_S1024x10240_S8192x10240_1_0_0_1_n_n none (extf .f32 h bitsLt_bf16_f32) (extf .f32 w bitsLt_bf16_f32)) bitsLt_bf16_f32 (ix2 i j)
      = ∑ k : Fin 1024, h (ix2 i k) * w (ix2 k j) := by
  pointwise

/-- The attention's queries and the indexer's: the value claim. -/
theorem algebraic : Cert.algebraic_Kernel6Ideal_Reference6Ideal := by
  intro m ρ m' ρ' _ hagree
  refine ⟨fun c => (Cert.Kernel6Ideal.Gen.dats m 0 c).arrAt 2 Cert.Kernel6Ideal.cfg0.N, Cert.Kernel6Ideal.Value.run_blocks (F := Ideal) m ρ, ?_⟩
  refine (θ_run _ _ _).mono (fun _ h c => ⟨(h c).1.trans ?_, (h c).2⟩) (Cert.Reference6Ideal.Value.run (F := Ideal) m' ρ')
  rw [(hagree c).1, (hagree c).2]
  funext i
  exact (congrArg _ (ix2_eta i).symm).trans ((reference_apply _ _ (i 0) (i 1)).trans (array_eq m c i).symm)

/-- The reference's frame. -/
theorem frame_reference : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

end Cert.QUp

end
-- ==== Proof.PeerQ.lean ====
/- The experts' queries: the product of the rounded query weights and the transposed rows, block by block, beside the one product. -/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import Idealize.ShloMosaic.Lib.Pointwise
public import Idealize.ShloMosaic.Adequacy
public import Idealize.ShloMosaic.Init

@[expose] public section

set_option maxRecDepth 65536

noncomputable section

namespace Cert.PeerQ

open Idealize.ShloMosaic Idealize.ShloMosaic.TcCoe Idealize.SL.Sem

section Kernel
open Cert.Kernel7Ideal Cert.Kernel7Ideal.Gen

/-- A block's product at an index: the sum over the shared axis. -/
theorem block_apply (x : FVec Ideal S1024x4096 .bf16) (w : FVec Ideal S4096x512 .bf16) (i : Fin 1024) (j : Fin 512) :
    k0_pay1 (F := Ideal) x w (ix2 i j) = ∑ k : Fin 4096, x (ix2 i k) * w (ix2 k j) := by
  pointwise [k0_pay1]

/-- Where the weights' window lies at point `t`. -/
theorem index0 : ∀ t : Fin cfg0.N, win0_0.index t 0 = t.val / 16 ∧ win0_0.index t 1 = 0 :=
  (by decide +kernel : ∀ t : Fin grid0.N, win0_0.index t 0 = t.val / 16 ∧ win0_0.index t 1 = 0)
/-- Where the rows' window lies at point `t`. -/
theorem index1 : ∀ t : Fin cfg0.N, win0_1.index t 0 = 0 ∧ win0_1.index t 1 = t.val % 16 :=
  (by decide +kernel : ∀ t : Fin grid0.N, win0_1.index t 0 = 0 ∧ win0_1.index t 1 = t.val % 16)
/-- Where the result's window lies at point `t`. -/
theorem index2 : ∀ t : Fin cfg0.N, win0_2.index t 0 = t.val / 16 ∧ win0_2.index t 1 = t.val % 16 :=
  (by decide +kernel : ∀ t : Fin grid0.N, win0_2.index t 0 = t.val / 16 ∧ win0_2.index t 1 = t.val % 16)

variable (m : (ℓ : Loc nD τ sig) → Buf (Elt Ideal) ℓ) (c : Dev nD)

/-- The query weights. -/
abbrev weights : FVec Ideal S2048x4096 .bf16 := m ((c.tc : Thread nD τ).loc main_arg0)
/-- The transposed rows. -/
abbrev rows : FVec Ideal S4096x8192 .bf16 := m ((c.tc : Thread nD τ).loc main_arg1)

/-- WHAT POINT `t` WRITES BACK at row `p`, column `q` of its block. -/
theorem point_eq (t : Fin cfg0.N) (p : Fin 1024) (q : Fin 512) (i : Fin 2048) (j : Fin 8192)
    (hi : i.val = 1024 * (t.val / 16) + p.val) (hj : j.val = 512 * (t.val % 16) + q.val) :
    (dats m 0 c).flushed 2 t (ix2 p q) = ∑ k : Fin 4096, weights m c (ix2 i k) * rows m c (ix2 k j) := by
  obtain ⟨e0, e1⟩ := index0 t
  obtain ⟨f0, f1⟩ := index1 t
  rw [Value.flushed2]
  show out0_2 _ _ (ix2 p q) = _
  unfold out0_2
  rw [View.canon_unit_zero (by decide), View.ld_unit_zero (by decide), View.ld_unit_zero (by decide)]
  refine (block_apply _ _ p q).trans (Finset.sum_congr rfl fun k _ => congrArg₂ (· * ·) ?_ ?_)
  · show V m c main_arg0 _ = _
    rw [V_main_arg0]
    refine congrArg (weights m c) (funext fun a => Fin.ext ?_)
    match a with
    | ⟨0, _⟩ =>
      show win0_0.index t 0 * 1024 + 1 * p.val = i.val
      rw [e0, hi]
      omega
    | ⟨1, _⟩ =>
      show win0_0.index t 1 * 4096 + 1 * k.val = k.val
      rw [e1]
      omega
  · show V m c main_arg1 _ = _
    rw [V_main_arg1]
    refine congrArg (rows m c) (funext fun a => Fin.ext ?_)
    match a with
    | ⟨0, _⟩ =>
      show win0_1.index t 0 * 4096 + 1 * k.val = k.val
      rw [f0]
      omega
    | ⟨1, _⟩ =>
      show win0_1.index t 1 * 512 + 1 * q.val = j.val
      rw [f1, hj]
      omega

/-- THE KERNEL'S RESULT at an index. -/
theorem array_eq (i : S2048x8192.Idx) :
    (dats m 0 c).arrAt 2 cfg0.N i = ∑ k : Fin 4096, weights m c (ix2 (i 0) k) * rows m c (ix2 k (i 1)) := by
  have hi : (i 0).val < 2048 := (i 0).isLt
  have hj : (i 1).val < 8192 := (i 1).isLt
  have ht : (i 0).val / 1024 * 16 + (i 1).val / 512 < cfg0.N := Nat.lt_of_lt_of_eq (by omega : _ < 32) N_0.symm
  obtain ⟨e0, e1⟩ := index2 ⟨_, ht⟩
  have hb := congrFun (Value.blocks2 m c ⟨_, ht⟩ (flush0_2 _)) (ix2 ⟨(i 0).val % 1024, by omega⟩ ⟨(i 1).val % 512, by omega⟩)
  rw [point_eq m c ⟨_, ht⟩ _ _ (i 0) (i 1) (by show (i 0).val = 1024 * (((i 0).val / 1024 * 16 + (i 1).val / 512) / 16) + (i 0).val % 1024; omega)
    (by show (i 1).val = 512 * (((i 0).val / 1024 * 16 + (i 1).val / 512) % 16) + (i 1).val % 512; omega)] at hb
  refine Eq.trans (congrArg ((dats m 0 c).arrAt 2 cfg0.N) (funext fun a => Fin.ext ?_)) hb
  match a with
  | ⟨0, _⟩ =>
    show (i 0).val = win0_2.index ⟨_, ht⟩ 0 * 1024 + 1 * ((i 0).val % 1024)
    rw [e0]
    show (i 0).val = ((i 0).val / 1024 * 16 + (i 1).val / 512) / 16 * 1024 + 1 * ((i 0).val % 1024)
    omega
  | ⟨1, _⟩ =>
    show (i 1).val = win0_2.index ⟨_, ht⟩ 1 * 512 + 1 * ((i 1).val % 512)
    rw [e1]
    show (i 1).val = ((i 0).val / 1024 * 16 + (i 1).val / 512) % 16 * 512 + 1 * ((i 1).val % 512)
    omega

end Kernel

open Cert.Reference7Ideal in
open Cert.Reference7Ideal.Gen in
/-- The reference's product at an index. -/
theorem reference_apply (w : FVec Ideal S2048x4096 .bf16) (h : FVec Ideal S4096x8192 .bf16) (i : Fin 2048) (j : Fin 8192) :
    Host.dotGeneral (F := Ideal) dot_S4096x2048_S8192x4096_S2048x8192_0_1_1_0_n_n none (extf .f32 (transpose S4096x2048 [1, 0] w transposes_S2048x4096_S4096x2048_1_0) bitsLt_bf16_f32) (extf .f32 (transpose S8192x4096 [1, 0] h transposes_S4096x8192_S8192x4096_1_0) bitsLt_bf16_f32) (ix2 i j)
      = ∑ k : Fin 4096, w (ix2 i k) * h (ix2 k j) := by
  pointwise

/-- The experts' queries: the value claim. -/
theorem algebraic : Cert.algebraic_Kernel7Ideal_Reference7Ideal := by
  intro m ρ m' ρ' _ hagree
  refine ⟨fun c => (Cert.Kernel7Ideal.Gen.dats m 0 c).arrAt 2 Cert.Kernel7Ideal.cfg0.N, Cert.Kernel7Ideal.Value.run_blocks (F := Ideal) m ρ, ?_⟩
  refine (θ_run _ _ _).mono (fun _ h c => ⟨(h c).1.trans ?_, (h c).2⟩) (Cert.Reference7Ideal.Value.run (F := Ideal) m' ρ')
  rw [(hagree c).1, (hagree c).2]
  funext i
  exact (congrArg _ (ix2_eta i).symm).trans ((reference_apply _ _ (i 0) (i 1)).trans (array_eq m c i).symm)

/-- The reference's frame. -/
theorem frame_reference : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

end Cert.PeerQ

end
-- ==== Proof.QLat.lean ====
/- The latent queries: each head's product with its own weights, kept in one store per head. -/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Claim
public import Idealize.ShloMosaic.Lib.Pointwise
public import Idealize.ShloMosaic.Adequacy
public import Idealize.ShloMosaic.Init

@[expose] public section

set_option maxRecDepth 65536

noncomputable section

namespace Cert.QLat

open Idealize.ShloMosaic Idealize.ShloMosaic.TcCoe Idealize.SL.Sem

/-- The row of the queries that position `j` of block `b` takes. -/
def row (b : Fin 64) (j : Fin 128) : Fin 8192 := ⟨b.val * 128 + j.val, by omega⟩
/-- The column of the queries that holds entry `d` of head `h`. -/
def column (h : Fin 16) (d : Fin 128) : Fin 10240 := ⟨8192 + (h.val * 128 + d.val), by omega⟩

section Kernel
open Cert.Kernel8Ideal Cert.Kernel8Ideal.Gen

/-- A head's product at an index: the sum over the head's width. -/
theorem head_apply (x : FVec Ideal S512x128 .bf16) (w : FVec Ideal S1x128x512 .bf16) (a : Fin 4) (j : Fin 128) (k : Fin 512) :
    k0_pay1 (F := Ideal) x w (ix4 a 0 j k) = ∑ d : Fin 128, x (ix2 ⟨a.val * 128 + j.val, by omega⟩ d) * w (ix3 0 d k) := by
  pointwise [k0_pay1]

/-- A point's block at an index: the product of the index's own head. -/
def block (x : FVec Ideal S512x2048 .bf16) (w : FVec Ideal S16x128x512 .bf16) (a : Fin 4) (h : Fin 16) (j : Fin 128) (k : Fin 512) : EReal :=
  ∑ d : Fin 128, x (ix2 ⟨a.val * 128 + j.val, by omega⟩ ⟨128 * h.val + d.val, by omega⟩) * w (ix3 h d k)

/-- EVERY HEAD'S STORE is the block at the store's own place, whichever the head. -/
theorem piece_apply (x : FVec Ideal S512x2048 .bf16) (w : FVec Ideal S16x128x512 .bf16) (h : ℕ) (hh : h < 16)
    (ix : ∀ a, (![0, 128 * h] : Fin 2 → ℕ) a + S512x128.size a ≤ S512x2048.size a) (iw : ∀ a, (![h, 0, 0] : Fin 3 → ℕ) a + S1x128x512.size a ≤ S16x128x512.size a)
    (io : ∀ a, (![0, h, 0, 0] : Fin 4 → ℕ) a + S4x1x128x512.size a ≤ S4x16x128x512.size a) (y : S4x1x128x512.Idx) :
    k0_pay1 (F := Ideal) (View.ld x (Rect.unit (s := S512x2048) ![0, 128 * h] S512x128.size ix)) (View.ld w (Rect.unit (s := S16x128x512) ![h, 0, 0] S1x128x512.size iw)) y
      = (fun z : S4x16x128x512.Idx => block x w (z 0) (z 1) (z 2) (z 3)) ((Rect.unit (s := S4x16x128x512) ![0, h, 0, 0] S4x1x128x512.size io).emb y) := by
  have ey : y = ix4 (y 0) 0 (y 2) (y 3) := (ix4_eta y).symm.trans (congrArg (fun b => ix4 (y 0) b (y 2) (y 3)) (Subsingleton.elim (α := Fin 1) (y 1) 0))
  refine (congrArg (k0_pay1 (F := Ideal) _ _) ey).trans ((head_apply _ _ (y 0) (y 2) (y 3)).trans (Finset.sum_congr rfl fun d _ => congrArg₂ (· * ·) ?_ ?_))
  · refine congrArg x (funext fun a => Fin.ext ?_)
    match a with
    | ⟨0, _⟩ =>
      show 0 + 1 * ((y 0).val * 128 + (y 2).val) = (0 + 1 * (y 0).val) * 128 + (0 + 1 * (y 2).val)
      omega
    | ⟨1, _⟩ =>
      show 128 * h + 1 * d.val = 128 * (h + 1 * (y 1).val) + d.val
      have h1 : (y 1).val < 1 := (y 1).isLt
      omega
  · refine congrArg w (funext fun a => Fin.ext ?_)
    match a with
    | ⟨0, _⟩ =>
      show h + 1 * 0 = h + 1 * (y 1).val
      have h1 : (y 1).val < 1 := (y 1).isLt
      omega
    | ⟨1, _⟩ =>
      show 0 + 1 * d.val = d.val
      omega
    | ⟨2, _⟩ =>
      show 0 + 1 * (y 3).val = 0 + 1 * (y 3).val
      rfl

/-- THE SIXTEEN STORES TOGETHER leave the block. -/
theorem out_apply (x : FVec Ideal S512x2048 .bf16) (w : FVec Ideal S16x128x512 .bf16) (a : Fin 4) (h : Fin 16) (j : Fin 128) (k : Fin 512) :
    out0_2 (F := Ideal) x w (ix4 a h j k) = block x w a h j k := by
  unfold out0_2
  refine View.canon_apply_of_pieces (Val := Elt Ideal) (e := .bf16) (fun z : S4x16x128x512.Idx => block x w (z 0) (z 1) (z 2) (z 3)) _ ?_ (ix4 a h j k) (cover0_2 _ _ _ _ _ _ _ _ _ _ _ _ _ _ _ _ (ix4 a h j k))
  refine List.forall_mem_cons.2 ⟨fun y => piece_apply x w 15 (by decide) inb_S512x2048_S512x128_0_1920 inb_S16x128x512_S1x128x512_15_0_0 inb_S4x16x128x512_S4x1x128x512_0_15_0_0 y, ?_⟩
  refine List.forall_mem_cons.2 ⟨fun y => piece_apply x w 14 (by decide) inb_S512x2048_S512x128_0_1792 inb_S16x128x512_S1x128x512_14_0_0 inb_S4x16x128x512_S4x1x128x512_0_14_0_0 y, ?_⟩
  refine List.forall_mem_cons.2 ⟨fun y => piece_apply x w 13 (by decide) inb_S512x2048_S512x128_0_1664 inb_S16x128x512_S1x128x512_13_0_0 inb_S4x16x128x512_S4x1x128x512_0_13_0_0 y, ?_⟩
  refine List.forall_mem_cons.2 ⟨fun y => piece_apply x w 12 (by decide) inb_S512x2048_S512x128_0_1536 inb_S16x128x512_S1x128x512_12_0_0 inb_S4x16x128x512_S4x1x128x512_0_12_0_0 y, ?_⟩
  refine List.forall_mem_cons.2 ⟨fun y => piece_apply x w 11 (by decide) inb_S512x2048_S512x128_0_1408 inb_S16x128x512_S1x128x512_11_0_0 inb_S4x16x128x512_S4x1x128x512_0_11_0_0 y, ?_⟩
  refine List.forall_mem_cons.2 ⟨fun y => piece_apply x w 10 (by decide) inb_S512x2048_S512x128_0_1280 inb_S16x128x512_S1x128x512_10_0_0 inb_S4x16x128x512_S4x1x128x512_0_10_0_0 y, ?_⟩
  refine List.forall_mem_cons.2 ⟨fun y => piece_apply x w 9 (by decide) inb_S512x2048_S512x128_0_1152 inb_S16x128x512_S1x128x512_9_0_0 inb_S4x16x128x512_S4x1x128x512_0_9_0_0 y, ?_⟩
  refine List.forall_mem_cons.2 ⟨fun y => piece_apply x w 8 (by decide) inb_S512x2048_S512x128_0_1024 inb_S16x128x512_S1x128x512_8_0_0 inb_S4x16x128x512_S4x1x128x512_0_8_0_0 y, ?_⟩
  refine List.forall_mem_cons.2 ⟨fun y => piece_apply x w 7 (by decide) inb_S512x2048_S512x128_0_896 inb_S16x128x512_S1x128x512_7_0_0 inb_S4x16x128x512_S4x1x128x512_0_7_0_0 y, ?_⟩
  refine List.forall_mem_cons.2 ⟨fun y => piece_apply x w 6 (by decide) inb_S512x2048_S512x128_0_768 inb_S16x128x512_S1x128x512_6_0_0 inb_S4x16x128x512_S4x1x128x512_0_6_0_0 y, ?_⟩
  refine List.forall_mem_cons.2 ⟨fun y => piece_apply x w 5 (by decide) inb_S512x2048_S512x128_0_640 inb_S16x128x512_S1x128x512_5_0_0 inb_S4x16x128x512_S4x1x128x512_0_5_0_0 y, ?_⟩
  refine List.forall_mem_cons.2 ⟨fun y => piece_apply x w 4 (by decide) inb_S512x2048_S512x128_0_512 inb_S16x128x512_S1x128x512_4_0_0 inb_S4x16x128x512_S4x1x128x512_0_4_0_0 y, ?_⟩
  refine List.forall_mem_cons.2 ⟨fun y => piece_apply x w 3 (by decide) inb_S512x2048_S512x128_0_384 inb_S16x128x512_S1x128x512_3_0_0 inb_S4x16x128x512_S4x1x128x512_0_3_0_0 y, ?_⟩
  refine List.forall_mem_cons.2 ⟨fun y => piece_apply x w 2 (by decide) inb_S512x2048_S512x128_0_256 inb_S16x128x512_S1x128x512_2_0_0 inb_S4x16x128x512_S4x1x128x512_0_2_0_0 y, ?_⟩
  refine List.forall_mem_cons.2 ⟨fun y => piece_apply x w 1 (by decide) inb_S512x2048_S512x128_0_128 inb_S16x128x512_S1x128x512_1_0_0 inb_S4x16x128x512_S4x1x128x512_0_1_0_0 y, ?_⟩
  refine List.forall_mem_cons.2 ⟨fun y => piece_apply x w 0 (by decide) inb_S512x2048_S512x128_0_0 inb_S16x128x512_S1x128x512_0_0_0 inb_S4x16x128x512_S4x1x128x512_0_0_0_0 y, ?_⟩
  exact fun _ hp => absurd hp List.not_mem_nil

/-- Where the queries' window lies at point `t`: the window's columns are the last 2048. -/
theorem index0 : ∀ t : Fin cfg0.N, win0_0.index t 0 = t.val ∧ win0_0.index t 1 = 4 :=
  (by decide +kernel : ∀ t : Fin grid0.N, win0_0.index t 0 = t.val ∧ win0_0.index t 1 = 4)
/-- Where the weights lie at point `t`. -/
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
/-- Where the result's window lies at point `t`. -/
theorem index2 : ∀ t : Fin cfg0.N, win0_2.index t 0 = t.val ∧ win0_2.index t 1 = 0 ∧ win0_2.index t 2 = 0 ∧ win0_2.index t 3 = 0 :=
  (by decide +kernel : ∀ t : Fin grid0.N, win0_2.index t 0 = t.val ∧ win0_2.index t 1 = 0 ∧ win0_2.index t 2 = 0 ∧ win0_2.index t 3 = 0)

variable (m : (ℓ : Loc nD τ sig) → Buf (Elt Ideal) ℓ) (c : Dev nD)

/-- The queries. -/
abbrev queries : FVec Ideal S8192x10240 .bf16 := m ((c.tc : Thread nD τ).loc main_arg0)
/-- The heads' weights. -/
abbrev weights : FVec Ideal S1x512x16x128 .f32 := m ((c.tc : Thread nD τ).loc main_arg1)

/-- The weights the launch finds: each head's, transposed and rounded. -/
theorem weights_apply (h : Fin 16) (d : Fin 128) (k : Fin 512) : V m c main_v2 (ix3 h d k) = weights m c (ix4 0 k h d) := by
  have e : V m c main_v2 = truncf .bf16 (transpose S16x128x512 [1, 2, 0] (shapeCast S512x16x128 (weights m c) shapeCasts_S1x512x16x128_S512x16x128) transposes_S512x16x128_S16x128x512_1_2_0) bitsLt_bf16_f32 := by
    entry_read
    rfl
  rw [e]
  generalize weights m c = X
  pointwise

/-- The queries' block at a point. -/
theorem blk0 (t : Fin cfg0.N) (p : Fin 512) (q : Fin 2048) (i : Fin 8192) (j : Fin 10240) (hi : i.val = 512 * t.val + p.val) (hj : j.val = 8192 + q.val) :
    iblk m c 0 t (ix2 p q) = queries m c (ix2 i j) := by
  obtain ⟨e0, e1⟩ := index0 t
  show V m c main_arg0 _ = _
  rw [V_main_arg0]
  refine congrArg (queries m c) (funext fun a => Fin.ext ?_)
  match a with
  | ⟨0, _⟩ =>
    show win0_0.index t 0 * 512 + 1 * p.val = i.val
    rw [e0, hi]
    omega
  | ⟨1, _⟩ =>
    show win0_0.index t 1 * 2048 + 1 * q.val = j.val
    rw [e1, hj]
    omega

/-- The weights at a point. -/
theorem blk1 (t : Fin cfg0.N) (h : Fin 16) (d : Fin 128) (k : Fin 512) :
    iblk m c 1 t (ix3 h d k) = weights m c (ix4 0 k h d) := by
  obtain ⟨e0, e1, e2⟩ := index1 t
  refine Eq.trans ?_ (weights_apply m c h d k)
  show V m c main_v2 _ = _
  refine congrArg (V m c main_v2) (funext fun a => Fin.ext ?_)
  match a with
  | ⟨0, _⟩ =>
    show win0_1.index t 0 * 16 + 1 * h.val = h.val
    rw [e0]
    omega
  | ⟨1, _⟩ =>
    show win0_1.index t 1 * 128 + 1 * d.val = d.val
    rw [e1]
    omega
  | ⟨2, _⟩ =>
    show win0_1.index t 2 * 512 + 1 * k.val = k.val
    rw [e2]
    omega

/-- WHAT POINT `t` WRITES BACK at an index of its block. -/
theorem point_eq (t : Fin cfg0.N) (a : Fin 4) (h : Fin 16) (j : Fin 128) (k : Fin 512) (b : Fin 64) (hb : b.val = 4 * t.val + a.val) :
    (dats m 0 c).flushed 2 t (ix4 a h j k) = ∑ d : Fin 128, queries m c (ix2 (row b j) (column h d)) * weights m c (ix4 0 k h d) := by
  rw [Value.flushed2]
  show out0_2 _ _ (ix4 a h j k) = _
  refine (out_apply _ _ a h j k).trans (Finset.sum_congr rfl fun d _ => congrArg₂ (· * ·) ?_ (blk1 m c t h d k))
  exact blk0 m c t _ _ _ _ (by show b.val * 128 + j.val = 512 * t.val + (a.val * 128 + j.val); omega)
    (by show 8192 + (h.val * 128 + d.val) = 8192 + (128 * h.val + d.val); omega)

/-- THE KERNEL'S RESULT at an index. -/
theorem array_eq (i : S64x16x128x512.Idx) :
    (dats m 0 c).arrAt 2 cfg0.N i = ∑ d : Fin 128, queries m c (ix2 (row (i 0) (i 2)) (column (i 1) d)) * weights m c (ix4 0 (i 3) (i 1) d) := by
  have hr : (i 0).val < 64 := (i 0).isLt
  have ht : (i 0).val / 4 < cfg0.N := Nat.lt_of_lt_of_eq (by omega : _ < 16) N_0.symm
  obtain ⟨e0, e1, e2, e3⟩ := index2 ⟨_, ht⟩
  have hb := (congrFun (Value.blocks2 m c ⟨_, ht⟩ (flush0_2 _)) (ix4 ⟨(i 0).val % 4, by omega⟩ (i 1) (i 2) (i 3))).trans
    (point_eq m c ⟨_, ht⟩ _ (i 1) (i 2) (i 3) (i 0) (by show (i 0).val = 4 * ((i 0).val / 4) + (i 0).val % 4; omega))
  refine Eq.trans (congrArg ((dats m 0 c).arrAt 2 cfg0.N) (funext fun a => Fin.ext ?_)) hb
  match a with
  | ⟨0, _⟩ =>
    show (i 0).val = win0_2.index ⟨_, ht⟩ 0 * 4 + 1 * ((i 0).val % 4)
    rw [e0]
    show (i 0).val = (i 0).val / 4 * 4 + 1 * ((i 0).val % 4)
    omega
  | ⟨1, _⟩ =>
    show (i 1).val = win0_2.index ⟨_, ht⟩ 1 * 16 + 1 * (i 1).val
    rw [e1]
    omega
  | ⟨2, _⟩ =>
    show (i 2).val = win0_2.index ⟨_, ht⟩ 2 * 128 + 1 * (i 2).val
    rw [e2]
    omega
  | ⟨3, _⟩ =>
    show (i 3).val = win0_2.index ⟨_, ht⟩ 3 * 512 + 1 * (i 3).val
    rw [e3]
    omega

end Kernel

open Cert.Reference8Ideal in
open Cert.Reference8Ideal.Gen in
/-- The reference's result at an index. -/
theorem reference_apply (x : FVec Ideal S8192x10240 .bf16) (w : FVec Ideal S1x512x16x128 .f32) (b : Fin 64) (h : Fin 16) (j : Fin 128) (k : Fin 512) :
    truncf (F := Ideal) .bf16 (transpose S64x16x128x512 [0, 2, 1, 3] (shapeCast _ (transpose S8192x16x512 [2, 0, 1] (Host.dotGeneral dot_S512x16x128_S8192x16x128_S16x512x8192_2_2_0_0_1_1 none (shapeCast _ w shapeCasts_S1x512x16x128_S512x16x128) (shapeCast _ (extractStridedSlice S8192x2048 ![0, 8192] (extf .f32 x bitsLt_bf16_f32) slices_S8192x10240_S8192x2048_0_8192) shapeCasts_S8192x2048_S8192x16x128)) transposes_S16x512x8192_S8192x16x512_2_0_1) shapeCasts_S8192x16x512_S64x128x16x512) transposes_S64x128x16x512_S64x16x128x512_0_2_1_3) bitsLt_bf16_f32 (ix4 b h j k)
      = ∑ d : Fin 128, x (ix2 (row b j) (column h d)) * w (ix4 0 k h d) := by
  refine Eq.trans ?_ (Finset.sum_congr rfl fun d _ => mul_comm (w (ix4 0 k h d)) (x (ix2 (row b j) (column h d))))
  pointwise
  rfl

/-- The latent queries: the value claim. -/
theorem algebraic : Cert.algebraic_Kernel8Ideal_Reference8Ideal := by
  intro m ρ m' ρ' _ hagree
  refine ⟨fun c => (Cert.Kernel8Ideal.Gen.dats m 0 c).arrAt 2 Cert.Kernel8Ideal.cfg0.N,
    Cert.Kernel8Ideal.Value.run_blocks (F := Ideal) m ρ, ?_⟩
  refine (θ_run _ _ _).mono (fun _ h c => ⟨(h c).1.trans ?_, (h c).2⟩) (Cert.Reference8Ideal.Value.run (F := Ideal) m' ρ')
  rw [(hagree c).1, (hagree c).2]
  funext i
  exact (congrArg _ (ix4_eta i).symm).trans ((reference_apply _ _ (i 0) (i 1) (i 2) (i 3)).trans (array_eq m c i).symm)

/-- The reference's frame. -/
theorem frame_reference : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

end Cert.QLat

end
-- ==== Proof.Norm.lean ====
/- The layer's norms on a row, over the extended reals, and where a row's batch element keeps its modulation. -/
module

public import Idealize.ShloMosaic.Lib.Pointwise

@[expose] public section

noncomputable section

namespace Cert.Norm

open Idealize.ShloMosaic

/-- The layer's epsilon: the f32 literal 1e-6. -/
abbrev eps : EReal := Ideal.ofBits .f32 0x358637BD#32

/-- A row's entry over the root of the row's mean square plus epsilon; `N` is the row's width. -/
def rms {n : ℕ} (N : EReal) (x : Fin n → EReal) (j : Fin n) : EReal :=
  x j * Ideal.rsqrt (Ideal.div (∑ k : Fin n, x k * x k) N + eps)

/-- A row's mean; `N` is the row's width. -/
def mean {n : ℕ} (N : EReal) (x : Fin n → EReal) : EReal := Ideal.div (∑ k : Fin n, x k) N

/-- A row's entry, centred, over the root of the row's variance plus epsilon: the root-mean-square norm of the row less its mean. -/
def layer {n : ℕ} (N : EReal) (x : Fin n → EReal) (j : Fin n) : EReal := rms N (fun k => x k - mean N x) j

/-- The batch element of a row. -/
def batch (i : Fin 8192) : Fin 4 := ⟨i.val / 2048, by omega⟩
/-- The position of a row in its batch element. -/
def place (i : Fin 8192) : Fin 2048 := ⟨i.val % 2048, by omega⟩
/-- The modulation's row that a row of the layer reads: row `s` of its batch element's six. -/
def slot (s : Fin 6) (i : Fin 8192) : Fin 24 := ⟨i.val / 2048 * 6 + s.val, by omega⟩

end Cert.Norm

end
-- ==== Proof.NormMix.lean ====
/- The norm before the branches, modulated. -/
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Norm
public import Idealize.ShloMosaic.Lib.Claim
public import Idealize.ShloMosaic.Lib.Pointwise
public import Idealize.ShloMosaic.Adequacy
public import Idealize.ShloMosaic.Init

@[expose] public section

set_option maxRecDepth 65536

noncomputable section

namespace Cert.NormMix

open Idealize.ShloMosaic Idealize.ShloMosaic.TcCoe Idealize.SL.Sem

open Cert.Norm

section Kernel
open Cert.Kernel9Ideal Cert.Kernel9Ideal.Gen

/-- A block's result at an index: the row's norm, scaled and shifted. -/
theorem block_apply (x : FVec Ideal S256x4096 .f32) (g : FVec Ideal S1x4096 .f32) (s b : FVec Ideal S1x1x4096 .f32) (i : Fin 256) (j : Fin 4096) :
    k0_pay1 (F := Ideal) x g s b (ix2 i j) = rms (Ideal.ofBits .f32 0x45800000#32) (fun k => x (ix2 i k)) j * g (ix2 0 j) * (1 + s (ix3 0 0 j)) + b (ix3 0 0 j) := by
  pointwise [k0_pay1]
  rfl

/-- Where the rows' window lies at point `t`. -/
theorem index0 : ∀ t : Fin cfg0.N, win0_0.index t 0 = t.val ∧ win0_0.index t 1 = 0 :=
  (by decide +kernel : ∀ t : Fin grid0.N, win0_0.index t 0 = t.val ∧ win0_0.index t 1 = 0)
/-- Where the norm's weight lies at point `t`. -/
theorem index1 : ∀ t : Fin cfg0.N, win0_1.index t 0 = 0 ∧ win0_1.index t 1 = 0 :=
  (by decide +kernel : ∀ t : Fin grid0.N, win0_1.index t 0 = 0 ∧ win0_1.index t 1 = 0)
/-- Where the shift's window lies at point `t`. -/
theorem index2 : ∀ t : Fin cfg0.N, win0_2.index t 0 = t.val / 8 * 6 + 0 ∧ win0_2.index t 1 = 0 ∧ win0_2.index t 2 = 0 :=
  (by decide +kernel : ∀ t : Fin grid0.N, win0_2.index t 0 = t.val / 8 * 6 + 0 ∧ win0_2.index t 1 = 0 ∧ win0_2.index t 2 = 0)
/-- Where the scale's window lies at point `t`. -/
theorem index3 : ∀ t : Fin cfg0.N, win0_3.index t 0 = t.val / 8 * 6 + 1 ∧ win0_3.index t 1 = 0 ∧ win0_3.index t 2 = 0 :=
  (by decide +kernel : ∀ t : Fin grid0.N, win0_3.index t 0 = t.val / 8 * 6 + 1 ∧ win0_3.index t 1 = 0 ∧ win0_3.index t 2 = 0)
/-- Where the result's window lies at point `t`. -/
theorem index4 : ∀ t : Fin cfg0.N, win0_4.index t 0 = t.val ∧ win0_4.index t 1 = 0 :=
  (by decide +kernel : ∀ t : Fin grid0.N, win0_4.index t 0 = t.val ∧ win0_4.index t 1 = 0)

variable (m : (ℓ : Loc nD τ sig) → Buf (Elt Ideal) ℓ) (c : Dev nD)

/-- The rows. -/
abbrev input : FVec Ideal S4x2048x4096 .f32 := m ((c.tc : Thread nD τ).loc main_arg0)
/-- The norm's weight. -/
abbrev weight : FVec Ideal S1x4096 .f32 := m ((c.tc : Thread nD τ).loc main_arg1)
/-- The modulation. -/
abbrev modulation : FVec Ideal S24x1x4096 .f32 := m ((c.tc : Thread nD τ).loc main_arg2)

/-- The rows the launch finds. -/
theorem input_apply (i : Fin 8192) (k : Fin 4096) : V m c main_v0 (ix2 i k) = input m c (ix3 (batch i) (place i) k) := by
  have e : V m c main_v0 = shapeCast S8192x4096 (input m c) shapeCasts_S4x2048x4096_S8192x4096 := by
    entry_read
    rfl
  rw [e]
  generalize input m c = X
  pointwise
  rfl

/-- The norm's weight the launch finds. -/
theorem weight_apply (j : Fin 4096) : V m c main_v2 (ix2 0 j) = weight m c (ix2 0 j) := by
  have e : V m c main_v2 = shapeCast S1x4096 (shapeCast S4096 (weight m c) shapeCasts_S1x4096_S4096) shapeCasts_S4096_S1x4096 := by
    entry_read
    rfl
  rw [e]
  generalize weight m c = X
  pointwise

/-- The rows' block at a point. -/
theorem blk0 (t : Fin cfg0.N) (p : Fin 256) (k : Fin 4096) (i : Fin 8192) (hi : i.val = 256 * t.val + p.val) :
    iblk m c 0 t (ix2 p k) = input m c (ix3 (batch i) (place i) k) := by
  obtain ⟨e0, e1⟩ := index0 t
  refine Eq.trans ?_ (input_apply m c i k)
  show V m c main_v0 _ = _
  refine congrArg (V m c main_v0) (funext fun a => Fin.ext ?_)
  match a with
  | ⟨0, _⟩ =>
    show win0_0.index t 0 * 256 + 1 * p.val = i.val
    rw [e0, hi]
    omega
  | ⟨1, _⟩ =>
    show win0_0.index t 1 * 4096 + 1 * k.val = k.val
    rw [e1]
    omega

/-- The norm's weight at a point. -/
theorem blk1 (t : Fin cfg0.N) (j : Fin 4096) : iblk m c 1 t (ix2 0 j) = weight m c (ix2 0 j) := by
  obtain ⟨e0, e1⟩ := index1 t
  refine Eq.trans ?_ (weight_apply m c j)
  show V m c main_v2 _ = _
  refine congrArg (V m c main_v2) (funext fun a => Fin.ext ?_)
  match a with
  | ⟨0, _⟩ =>
    show win0_1.index t 0 * 1 + 1 * 0 = 0
    rw [e0]
  | ⟨1, _⟩ =>
    show win0_1.index t 1 * 4096 + 1 * j.val = j.val
    rw [e1]
    omega

/-- The shift's block at a point. -/
theorem blk2 (t : Fin cfg0.N) (p : Fin 256) (j : Fin 4096) (i : Fin 8192) (hi : i.val = 256 * t.val + p.val) :
    iblk m c 2 t (ix3 0 0 j) = modulation m c (ix3 (slot 0 i) 0 j) := by
  obtain ⟨e0, e1, e2⟩ := index2 t
  show V m c main_arg2 _ = _
  rw [V_main_arg2]
  refine congrArg (modulation m c) (funext fun a => Fin.ext ?_)
  match a with
  | ⟨0, _⟩ =>
    show win0_2.index t 0 * 1 + 1 * 0 = i.val / 2048 * 6 + 0
    rw [e0, hi]
    omega
  | ⟨1, _⟩ =>
    show win0_2.index t 1 * 1 + 1 * 0 = 0
    rw [e1]
  | ⟨2, _⟩ =>
    show win0_2.index t 2 * 4096 + 1 * j.val = j.val
    rw [e2]
    omega

/-- The scale's block at a point. -/
theorem blk3 (t : Fin cfg0.N) (p : Fin 256) (j : Fin 4096) (i : Fin 8192) (hi : i.val = 256 * t.val + p.val) :
    iblk m c 3 t (ix3 0 0 j) = modulation m c (ix3 (slot 1 i) 0 j) := by
  obtain ⟨e0, e1, e2⟩ := index3 t
  show V m c main_arg2 _ = _
  rw [V_main_arg2]
  refine congrArg (modulation m c) (funext fun a => Fin.ext ?_)
  match a with
  | ⟨0, _⟩ =>
    show win0_3.index t 0 * 1 + 1 * 0 = i.val / 2048 * 6 + 1
    rw [e0, hi]
    omega
  | ⟨1, _⟩ =>
    show win0_3.index t 1 * 1 + 1 * 0 = 0
    rw [e1]
  | ⟨2, _⟩ =>
    show win0_3.index t 2 * 4096 + 1 * j.val = j.val
    rw [e2]
    omega

/-- WHAT POINT `t` WRITES BACK for row `p`, column `q` of its block. -/
theorem point_eq (t : Fin cfg0.N) (p : Fin 256) (q : Fin 4096) (i : Fin 8192) (hi : i.val = 256 * t.val + p.val) :
    (dats m 0 c).flushed 4 t (ix2 p q) = rms (Ideal.ofBits .f32 0x45800000#32) (fun k => input m c (ix3 (batch i) (place i) k)) q * weight m c (ix2 0 q) * (1 + modulation m c (ix3 (slot 1 i) 0 q)) + modulation m c (ix3 (slot 0 i) 0 q) := by
  rw [Value.flushed4]
  show out0_4 _ _ _ _ (ix2 p q) = _
  unfold out0_4
  rw [View.canon_unit_zero (by decide), View.ld_unit_zero (by decide), View.ld_unit_zero (by decide), View.ld_unit_zero (by decide), View.ld_unit_zero (by decide)]
  refine (block_apply _ _ _ _ p q).trans ?_
  rw [blk1 m c t q, blk2 m c t p q i hi, blk3 m c t p q i hi, show (fun k => iblk m c 0 t (ix2 p k)) = fun k => input m c (ix3 (batch i) (place i) k) from funext fun k => blk0 m c t p k i hi]

/-- THE KERNEL'S RESULT at an index. -/
theorem array_eq (i : S8192x4096.Idx) :
    (dats m 0 c).arrAt 4 cfg0.N i = rms (Ideal.ofBits .f32 0x45800000#32) (fun k => input m c (ix3 (batch (i 0)) (place (i 0)) k)) (i 1) * weight m c (ix2 0 (i 1)) * (1 + modulation m c (ix3 (slot 1 (i 0)) 0 (i 1))) + modulation m c (ix3 (slot 0 (i 0)) 0 (i 1)) := by
  have hr : (i 0).val < 8192 := (i 0).isLt
  have ht : (i 0).val / 256 < cfg0.N := Nat.lt_of_lt_of_eq (by omega : _ < 32) N_0.symm
  obtain ⟨e0, e1⟩ := index4 ⟨_, ht⟩
  have hb := (congrFun (Value.blocks4 m c ⟨_, ht⟩ (flush0_4 _)) (ix2 ⟨(i 0).val % 256, by omega⟩ (i 1))).trans
    (point_eq m c ⟨_, ht⟩ _ (i 1) (i 0) (by show (i 0).val = 256 * ((i 0).val / 256) + (i 0).val % 256; omega))
  refine Eq.trans (congrArg ((dats m 0 c).arrAt 4 cfg0.N) (funext fun a => Fin.ext ?_)) hb
  match a with
  | ⟨0, _⟩ =>
    show (i 0).val = win0_4.index ⟨_, ht⟩ 0 * 256 + 1 * ((i 0).val % 256)
    rw [e0]
    show (i 0).val = (i 0).val / 256 * 256 + 1 * ((i 0).val % 256)
    omega
  | ⟨1, _⟩ =>
    show (i 1).val = win0_4.index ⟨_, ht⟩ 1 * 4096 + 1 * (i 1).val
    rw [e1]
    omega

end Kernel

open Cert.Reference9Ideal in
open Cert.Reference9Ideal.Gen in
/-- The reference's result at an index. -/
theorem reference_apply (x : FVec Ideal S4x2048x4096 .f32) (g : FVec Ideal S1x4096 .f32) (v : FVec Ideal S24x1x4096 .f32) (i : Fin 8192) (j : Fin 4096) :
    truncf (F := Ideal) .bf16 (shapeCast _ (addf (mulf (mulf (mulf x (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf x x) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast _ g shapeCasts_S1x4096_S4096)))) (broadcastInDim S4x2048x4096 ![0, 1, 2] bcast_S4x1x4096_S4x2048x4096_0_1_2 (addf (broadcastInDim S4x1x4096 ![] bcast_S_S4x1x4096 (constant S_ .f32 0x3F800000#32)) (broadcastInDim S4x1x4096 ![0, 2] bcast_S4x4096_S4x1x4096_0_2 (shapeCast _ (extractStridedSlice S4x1x4096 ![0, 1, 0] (shapeCast _ v shapeCasts_S24x1x4096_S4x6x4096) slices_S4x6x4096_S4x1x4096_0_1_0) shapeCasts_S4x1x4096_S4x4096))))) (broadcastInDim S4x2048x4096 ![0, 1, 2] bcast_S4x1x4096_S4x2048x4096_0_1_2 (broadcastInDim S4x1x4096 ![0, 2] bcast_S4x4096_S4x1x4096_0_2 (shapeCast _ (extractStridedSlice S4x1x4096 ![0, 0, 0] (shapeCast _ v shapeCasts_S24x1x4096_S4x6x4096) slices_S4x6x4096_S4x1x4096_0_0_0) shapeCasts_S4x1x4096_S4x4096)))) shapeCasts_S4x2048x4096_S8192x4096) bitsLt_bf16_f32 (ix2 i j)
      = rms (Ideal.ofBits .f32 0x45800000#32) (fun k => x (ix3 (batch i) (place i) k)) j * g (ix2 0 j) * (1 + v (ix3 (slot 1 i) 0 j)) + v (ix3 (slot 0 i) 0 j) := by
  pointwise
  rfl

/-- The norm before the branches, modulated: the value claim. -/
theorem algebraic : Cert.algebraic_Kernel9Ideal_Reference9Ideal := by
  intro m ρ m' ρ' _ hagree
  refine ⟨fun c => (Cert.Kernel9Ideal.Gen.dats m 0 c).arrAt 4 Cert.Kernel9Ideal.cfg0.N,
    Cert.Kernel9Ideal.Value.run_blocks (F := Ideal) m ρ, ?_⟩
  refine (θ_run _ _ _).mono (fun _ h c => ⟨(h c).1.trans ?_, (h c).2⟩) (Cert.Reference9Ideal.Value.run (F := Ideal) m' ρ')
  rw [(hagree c).1, (hagree c).2.1, (hagree c).2.2]
  funext i
  exact (congrArg _ (ix2_eta i).symm).trans ((reference_apply _ _ _ (i 0) (i 1)).trans (array_eq m c i).symm)

/-- The reference's frame. -/
theorem frame_reference : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

end Cert.NormMix

end
-- ==== Proof.NormFfn.lean ====
/- The norm before the experts, modulated and transposed. -/
module

public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Norm
public import Idealize.ShloMosaic.Lib.Claim
public import Idealize.ShloMosaic.Lib.Pointwise
public import Idealize.ShloMosaic.Adequacy
public import Idealize.ShloMosaic.Init

@[expose] public section

set_option maxRecDepth 65536

noncomputable section

namespace Cert.NormFfn

open Idealize.ShloMosaic Idealize.ShloMosaic.TcCoe Idealize.SL.Sem

open Cert.Norm

section Kernel
open Cert.Kernel10Ideal Cert.Kernel10Ideal.Gen

/-- A block's result at an index: the row's norm, scaled and shifted. -/
theorem block_apply (x : FVec Ideal S256x4096 .f32) (g : FVec Ideal S1x4096 .f32) (s b : FVec Ideal S1x1x4096 .f32) (i : Fin 256) (j : Fin 4096) :
    k0_pay1 (F := Ideal) x g s b (ix2 j i) = rms (Ideal.ofBits .f32 0x45800000#32) (fun k => x (ix2 i k)) j * g (ix2 0 j) * (1 + s (ix3 0 0 j)) + b (ix3 0 0 j) := by
  pointwise [k0_pay1]
  rfl

/-- Where the rows' window lies at point `t`. -/
theorem index0 : ∀ t : Fin cfg0.N, win0_0.index t 0 = t.val ∧ win0_0.index t 1 = 0 :=
  (by decide +kernel : ∀ t : Fin grid0.N, win0_0.index t 0 = t.val ∧ win0_0.index t 1 = 0)
/-- Where the norm's weight lies at point `t`. -/
theorem index1 : ∀ t : Fin cfg0.N, win0_1.index t 0 = 0 ∧ win0_1.index t 1 = 0 :=
  (by decide +kernel : ∀ t : Fin grid0.N, win0_1.index t 0 = 0 ∧ win0_1.index t 1 = 0)
/-- Where the shift's window lies at point `t`. -/
theorem index2 : ∀ t : Fin cfg0.N, win0_2.index t 0 = t.val / 8 * 6 + 3 ∧ win0_2.index t 1 = 0 ∧ win0_2.index t 2 = 0 :=
  (by decide +kernel : ∀ t : Fin grid0.N, win0_2.index t 0 = t.val / 8 * 6 + 3 ∧ win0_2.index t 1 = 0 ∧ win0_2.index t 2 = 0)
/-- Where the scale's window lies at point `t`. -/
theorem index3 : ∀ t : Fin cfg0.N, win0_3.index t 0 = t.val / 8 * 6 + 4 ∧ win0_3.index t 1 = 0 ∧ win0_3.index t 2 = 0 :=
  (by decide +kernel : ∀ t : Fin grid0.N, win0_3.index t 0 = t.val / 8 * 6 + 4 ∧ win0_3.index t 1 = 0 ∧ win0_3.index t 2 = 0)
/-- Where the result's window lies at point `t`. -/
theorem index4 : ∀ t : Fin cfg0.N, win0_4.index t 0 = 0 ∧ win0_4.index t 1 = t.val :=
  (by decide +kernel : ∀ t : Fin grid0.N, win0_4.index t 0 = 0 ∧ win0_4.index t 1 = t.val)

variable (m : (ℓ : Loc nD τ sig) → Buf (Elt Ideal) ℓ) (c : Dev nD)

/-- The rows. -/
abbrev input : FVec Ideal S8192x4096 .f32 := m ((c.tc : Thread nD τ).loc main_arg0)
/-- The norm's weight. -/
abbrev weight : FVec Ideal S1x4096 .f32 := m ((c.tc : Thread nD τ).loc main_arg1)
/-- The modulation. -/
abbrev modulation : FVec Ideal S24x1x4096 .f32 := m ((c.tc : Thread nD τ).loc main_arg2)

/-- The norm's weight the launch finds. -/
theorem weight_apply (j : Fin 4096) : V m c main_v1 (ix2 0 j) = weight m c (ix2 0 j) := by
  have e : V m c main_v1 = shapeCast S1x4096 (shapeCast S4096 (weight m c) shapeCasts_S1x4096_S4096) shapeCasts_S4096_S1x4096 := by
    entry_read
    rfl
  rw [e]
  generalize weight m c = X
  pointwise

/-- The rows' block at a point. -/
theorem blk0 (t : Fin cfg0.N) (p : Fin 256) (k : Fin 4096) (i : Fin 8192) (hi : i.val = 256 * t.val + p.val) :
    iblk m c 0 t (ix2 p k) = input m c (ix2 i k) := by
  obtain ⟨e0, e1⟩ := index0 t
  show V m c main_arg0 _ = _
  rw [V_main_arg0]
  refine congrArg (input m c) (funext fun a => Fin.ext ?_)
  match a with
  | ⟨0, _⟩ =>
    show win0_0.index t 0 * 256 + 1 * p.val = i.val
    rw [e0, hi]
    omega
  | ⟨1, _⟩ =>
    show win0_0.index t 1 * 4096 + 1 * k.val = k.val
    rw [e1]
    omega

/-- The norm's weight at a point. -/
theorem blk1 (t : Fin cfg0.N) (j : Fin 4096) : iblk m c 1 t (ix2 0 j) = weight m c (ix2 0 j) := by
  obtain ⟨e0, e1⟩ := index1 t
  refine Eq.trans ?_ (weight_apply m c j)
  show V m c main_v1 _ = _
  refine congrArg (V m c main_v1) (funext fun a => Fin.ext ?_)
  match a with
  | ⟨0, _⟩ =>
    show win0_1.index t 0 * 1 + 1 * 0 = 0
    rw [e0]
  | ⟨1, _⟩ =>
    show win0_1.index t 1 * 4096 + 1 * j.val = j.val
    rw [e1]
    omega

/-- The shift's block at a point. -/
theorem blk2 (t : Fin cfg0.N) (p : Fin 256) (j : Fin 4096) (i : Fin 8192) (hi : i.val = 256 * t.val + p.val) :
    iblk m c 2 t (ix3 0 0 j) = modulation m c (ix3 (slot 3 i) 0 j) := by
  obtain ⟨e0, e1, e2⟩ := index2 t
  show V m c main_arg2 _ = _
  rw [V_main_arg2]
  refine congrArg (modulation m c) (funext fun a => Fin.ext ?_)
  match a with
  | ⟨0, _⟩ =>
    show win0_2.index t 0 * 1 + 1 * 0 = i.val / 2048 * 6 + 3
    rw [e0, hi]
    omega
  | ⟨1, _⟩ =>
    show win0_2.index t 1 * 1 + 1 * 0 = 0
    rw [e1]
  | ⟨2, _⟩ =>
    show win0_2.index t 2 * 4096 + 1 * j.val = j.val
    rw [e2]
    omega

/-- The scale's block at a point. -/
theorem blk3 (t : Fin cfg0.N) (p : Fin 256) (j : Fin 4096) (i : Fin 8192) (hi : i.val = 256 * t.val + p.val) :
    iblk m c 3 t (ix3 0 0 j) = modulation m c (ix3 (slot 4 i) 0 j) := by
  obtain ⟨e0, e1, e2⟩ := index3 t
  show V m c main_arg2 _ = _
  rw [V_main_arg2]
  refine congrArg (modulation m c) (funext fun a => Fin.ext ?_)
  match a with
  | ⟨0, _⟩ =>
    show win0_3.index t 0 * 1 + 1 * 0 = i.val / 2048 * 6 + 4
    rw [e0, hi]
    omega
  | ⟨1, _⟩ =>
    show win0_3.index t 1 * 1 + 1 * 0 = 0
    rw [e1]
  | ⟨2, _⟩ =>
    show win0_3.index t 2 * 4096 + 1 * j.val = j.val
    rw [e2]
    omega

/-- WHAT POINT `t` WRITES BACK for row `p`, column `q` of its block. -/
theorem point_eq (t : Fin cfg0.N) (p : Fin 256) (q : Fin 4096) (i : Fin 8192) (hi : i.val = 256 * t.val + p.val) :
    (dats m 0 c).flushed 4 t (ix2 q p) = rms (Ideal.ofBits .f32 0x45800000#32) (fun k => input m c (ix2 i k)) q * weight m c (ix2 0 q) * (1 + modulation m c (ix3 (slot 4 i) 0 q)) + modulation m c (ix3 (slot 3 i) 0 q) := by
  rw [Value.flushed4]
  show out0_4 _ _ _ _ (ix2 q p) = _
  unfold out0_4
  rw [View.canon_unit_zero (by decide), View.ld_unit_zero (by decide), View.ld_unit_zero (by decide), View.ld_unit_zero (by decide), View.ld_unit_zero (by decide)]
  refine (block_apply _ _ _ _ p q).trans ?_
  rw [blk1 m c t q, blk2 m c t p q i hi, blk3 m c t p q i hi, show (fun k => iblk m c 0 t (ix2 p k)) = fun k => input m c (ix2 i k) from funext fun k => blk0 m c t p k i hi]

/-- THE KERNEL'S RESULT at an index. -/
theorem array_eq (i : S4096x8192.Idx) :
    (dats m 0 c).arrAt 4 cfg0.N i = rms (Ideal.ofBits .f32 0x45800000#32) (fun k => input m c (ix2 (i 1) k)) (i 0) * weight m c (ix2 0 (i 0)) * (1 + modulation m c (ix3 (slot 4 (i 1)) 0 (i 0))) + modulation m c (ix3 (slot 3 (i 1)) 0 (i 0)) := by
  have hr : (i 1).val < 8192 := (i 1).isLt
  have ht : (i 1).val / 256 < cfg0.N := Nat.lt_of_lt_of_eq (by omega : _ < 32) N_0.symm
  obtain ⟨e0, e1⟩ := index4 ⟨_, ht⟩
  have hb := (congrFun (Value.blocks4 m c ⟨_, ht⟩ (flush0_4 _)) (ix2 (i 0) ⟨(i 1).val % 256, by omega⟩)).trans
    (point_eq m c ⟨_, ht⟩ _ (i 0) (i 1) (by show (i 1).val = 256 * ((i 1).val / 256) + (i 1).val % 256; omega))
  refine Eq.trans (congrArg ((dats m 0 c).arrAt 4 cfg0.N) (funext fun a => Fin.ext ?_)) hb
  match a with
  | ⟨0, _⟩ =>
    show (i 0).val = win0_4.index ⟨_, ht⟩ 0 * 4096 + 1 * (i 0).val
    rw [e0]
    omega
  | ⟨1, _⟩ =>
    show (i 1).val = win0_4.index ⟨_, ht⟩ 1 * 256 + 1 * ((i 1).val % 256)
    rw [e1]
    show (i 1).val = (i 1).val / 256 * 256 + 1 * ((i 1).val % 256)
    omega

end Kernel

open Cert.Reference10Ideal in
open Cert.Reference10Ideal.Gen in
/-- The reference's result at an index. -/
theorem reference_apply (x : FVec Ideal S8192x4096 .f32) (g : FVec Ideal S1x4096 .f32) (v : FVec Ideal S24x1x4096 .f32) (i : Fin 8192) (j : Fin 4096) :
    truncf (F := Ideal) .bf16 (transpose S4096x8192 [1, 0] (shapeCast _ (addf (mulf (mulf (mulf (shapeCast _ x shapeCasts_S8192x4096_S4x2048x4096) (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf (shapeCast _ x shapeCasts_S8192x4096_S4x2048x4096) (shapeCast _ x shapeCasts_S8192x4096_S4x2048x4096)) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 (shapeCast _ g shapeCasts_S1x4096_S4096)))) (broadcastInDim S4x2048x4096 ![0, 1, 2] bcast_S4x1x4096_S4x2048x4096_0_1_2 (addf (broadcastInDim S4x1x4096 ![] bcast_S_S4x1x4096 (constant S_ .f32 0x3F800000#32)) (broadcastInDim S4x1x4096 ![0, 2] bcast_S4x4096_S4x1x4096_0_2 (shapeCast _ (extractStridedSlice S4x1x4096 ![0, 4, 0] (shapeCast _ v shapeCasts_S24x1x4096_S4x6x4096) slices_S4x6x4096_S4x1x4096_0_4_0) shapeCasts_S4x1x4096_S4x4096))))) (broadcastInDim S4x2048x4096 ![0, 1, 2] bcast_S4x1x4096_S4x2048x4096_0_1_2 (broadcastInDim S4x1x4096 ![0, 2] bcast_S4x4096_S4x1x4096_0_2 (shapeCast _ (extractStridedSlice S4x1x4096 ![0, 3, 0] (shapeCast _ v shapeCasts_S24x1x4096_S4x6x4096) slices_S4x6x4096_S4x1x4096_0_3_0) shapeCasts_S4x1x4096_S4x4096)))) shapeCasts_S4x2048x4096_S8192x4096) transposes_S8192x4096_S4096x8192_1_0) bitsLt_bf16_f32 (ix2 j i)
      = rms (Ideal.ofBits .f32 0x45800000#32) (fun k => x (ix2 i k)) j * g (ix2 0 j) * (1 + v (ix3 (slot 4 i) 0 j)) + v (ix3 (slot 3 i) 0 j) := by
  pointwise
  rfl

/-- The norm before the experts, modulated and transposed: the value claim. -/
theorem algebraic : Cert.algebraic_Kernel10Ideal_Reference10Ideal := by
  intro m ρ m' ρ' _ hagree
  refine ⟨fun c => (Cert.Kernel10Ideal.Gen.dats m 0 c).arrAt 4 Cert.Kernel10Ideal.cfg0.N,
    Cert.Kernel10Ideal.Value.run_blocks (F := Ideal) m ρ, ?_⟩
  refine (θ_run _ _ _).mono (fun _ h c => ⟨(h c).1.trans ?_, (h c).2⟩) (Cert.Reference10Ideal.Value.run (F := Ideal) m' ρ')
  rw [(hagree c).1, (hagree c).2.1, (hagree c).2.2]
  funext i
  exact (congrArg _ (ix2_eta i).symm).trans ((reference_apply _ _ _ (i 1) (i 0)).trans (array_eq m c i).symm)

/-- The reference's frame. -/
theorem frame_reference : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

end Cert.NormFfn

end
-- ==== Proof.FinalNorm.lean ====
/- The last residual, gated, and its norm. -/
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Norm
public import Idealize.ShloMosaic.Lib.Claim
public import Idealize.ShloMosaic.Lib.Pointwise
public import Idealize.ShloMosaic.Adequacy
public import Idealize.ShloMosaic.Init

@[expose] public section

set_option maxRecDepth 65536

noncomputable section

namespace Cert.FinalNorm

open Idealize.ShloMosaic Idealize.ShloMosaic.TcCoe Idealize.SL.Sem

open Cert.Norm

section Kernel
open Cert.Kernel11Ideal Cert.Kernel11Ideal.Gen

/-- A block's result at an index: the norm of the row with its gated residual added, times the weight. -/
theorem block_apply (x : FVec Ideal S256x4096 .f32) (s : FVec Ideal S1x1x4096 .f32) (y : FVec Ideal S4096x256 .f32) (g : FVec Ideal S1x4096 .f32) (i : Fin 256) (j : Fin 4096) :
    k0_pay1 (F := Ideal) x s y g (ix2 i j) = rms (Ideal.ofBits .f32 0x45800000#32) (fun k => x (ix2 i k) + s (ix3 0 0 k) * y (ix2 k i)) j * g (ix2 0 j) := by
  pointwise [k0_pay1]
  rfl

/-- Where the rows' window lies at point `t`. -/
theorem index0 : ∀ t : Fin cfg0.N, win0_0.index t 0 = t.val ∧ win0_0.index t 1 = 0 :=
  (by decide +kernel : ∀ t : Fin grid0.N, win0_0.index t 0 = t.val ∧ win0_0.index t 1 = 0)
/-- Where the transposed residual's window lies at point `t`. -/
theorem index1 : ∀ t : Fin cfg0.N, win0_1.index t 0 = 0 ∧ win0_1.index t 1 = t.val :=
  (by decide +kernel : ∀ t : Fin grid0.N, win0_1.index t 0 = 0 ∧ win0_1.index t 1 = t.val)
/-- Where the gate's window lies at point `t`. -/
theorem index2 : ∀ t : Fin cfg0.N, win0_2.index t 0 = t.val / 8 * 6 + 5 ∧ win0_2.index t 1 = 0 ∧ win0_2.index t 2 = 0 :=
  (by decide +kernel : ∀ t : Fin grid0.N, win0_2.index t 0 = t.val / 8 * 6 + 5 ∧ win0_2.index t 1 = 0 ∧ win0_2.index t 2 = 0)
/-- Where the norm's weight lies at point `t`. -/
theorem index3 : ∀ t : Fin cfg0.N, win0_3.index t 0 = 0 ∧ win0_3.index t 1 = 0 :=
  (by decide +kernel : ∀ t : Fin grid0.N, win0_3.index t 0 = 0 ∧ win0_3.index t 1 = 0)
/-- Where the result's window lies at point `t`. -/
theorem index4 : ∀ t : Fin cfg0.N, win0_4.index t 0 = t.val ∧ win0_4.index t 1 = 0 :=
  (by decide +kernel : ∀ t : Fin grid0.N, win0_4.index t 0 = t.val ∧ win0_4.index t 1 = 0)

variable (m : (ℓ : Loc nD τ sig) → Buf (Elt Ideal) ℓ) (c : Dev nD)

/-- The rows. -/
abbrev input : FVec Ideal S8192x4096 .f32 := m ((c.tc : Thread nD τ).loc main_arg0)
/-- The experts' residual, transposed. -/
abbrev residual : FVec Ideal S4096x8192 .f32 := m ((c.tc : Thread nD τ).loc main_arg1)
/-- The modulation. -/
abbrev modulation : FVec Ideal S24x1x4096 .f32 := m ((c.tc : Thread nD τ).loc main_arg2)
/-- The norm's weight. -/
abbrev weight : FVec Ideal S4096 .f32 := m ((c.tc : Thread nD τ).loc main_arg3)

/-- The norm's weight the launch finds. -/
theorem weight_apply (j : Fin 4096) : V m c main_v0 (ix2 0 j) = weight m c (ix1 j) := by
  have e : V m c main_v0 = shapeCast S1x4096 (weight m c) shapeCasts_S4096_S1x4096 := by
    entry_read
    rfl
  rw [e]
  generalize weight m c = X
  pointwise

/-- The rows' block at a point. -/
theorem blk0 (t : Fin cfg0.N) (p : Fin 256) (k : Fin 4096) (i : Fin 8192) (hi : i.val = 256 * t.val + p.val) :
    iblk m c 0 t (ix2 p k) = input m c (ix2 i k) := by
  obtain ⟨e0, e1⟩ := index0 t
  show V m c main_arg0 _ = _
  rw [V_main_arg0]
  refine congrArg (input m c) (funext fun a => Fin.ext ?_)
  match a with
  | ⟨0, _⟩ =>
    show win0_0.index t 0 * 256 + 1 * p.val = i.val
    rw [e0, hi]
    omega
  | ⟨1, _⟩ =>
    show win0_0.index t 1 * 4096 + 1 * k.val = k.val
    rw [e1]
    omega

/-- The residual's block at a point. -/
theorem blk1 (t : Fin cfg0.N) (p : Fin 256) (k : Fin 4096) (i : Fin 8192) (hi : i.val = 256 * t.val + p.val) :
    iblk m c 1 t (ix2 k p) = residual m c (ix2 k i) := by
  obtain ⟨e0, e1⟩ := index1 t
  show V m c main_arg1 _ = _
  rw [V_main_arg1]
  refine congrArg (residual m c) (funext fun a => Fin.ext ?_)
  match a with
  | ⟨0, _⟩ =>
    show win0_1.index t 0 * 4096 + 1 * k.val = k.val
    rw [e0]
    omega
  | ⟨1, _⟩ =>
    show win0_1.index t 1 * 256 + 1 * p.val = i.val
    rw [e1, hi]
    omega

/-- The gate's block at a point. -/
theorem blk2 (t : Fin cfg0.N) (p : Fin 256) (j : Fin 4096) (i : Fin 8192) (hi : i.val = 256 * t.val + p.val) :
    iblk m c 2 t (ix3 0 0 j) = modulation m c (ix3 (slot 5 i) 0 j) := by
  obtain ⟨e0, e1, e2⟩ := index2 t
  show V m c main_arg2 _ = _
  rw [V_main_arg2]
  refine congrArg (modulation m c) (funext fun a => Fin.ext ?_)
  match a with
  | ⟨0, _⟩ =>
    show win0_2.index t 0 * 1 + 1 * 0 = i.val / 2048 * 6 + 5
    rw [e0, hi]
    omega
  | ⟨1, _⟩ =>
    show win0_2.index t 1 * 1 + 1 * 0 = 0
    rw [e1]
  | ⟨2, _⟩ =>
    show win0_2.index t 2 * 4096 + 1 * j.val = j.val
    rw [e2]
    omega

/-- The norm's weight at a point. -/
theorem blk3 (t : Fin cfg0.N) (j : Fin 4096) :
    iblk m c 3 t (ix2 0 j) = weight m c (ix1 j) := by
  obtain ⟨e0, e1⟩ := index3 t
  refine Eq.trans ?_ (weight_apply m c j)
  show V m c main_v0 _ = _
  refine congrArg (V m c main_v0) (funext fun a => Fin.ext ?_)
  match a with
  | ⟨0, _⟩ =>
    show win0_3.index t 0 * 1 + 1 * 0 = 0
    rw [e0]
  | ⟨1, _⟩ =>
    show win0_3.index t 1 * 4096 + 1 * j.val = j.val
    rw [e1]
    omega

/-- WHAT POINT `t` WRITES BACK for row `p`, column `q` of its block. -/
theorem point_eq (t : Fin cfg0.N) (p : Fin 256) (q : Fin 4096) (i : Fin 8192) (hi : i.val = 256 * t.val + p.val) :
    (dats m 0 c).flushed 4 t (ix2 p q) = rms (Ideal.ofBits .f32 0x45800000#32) (fun k => input m c (ix2 i k) + modulation m c (ix3 (slot 5 i) 0 k) * residual m c (ix2 k i)) q * weight m c (ix1 q) := by
  rw [Value.flushed4]
  show out0_4 _ _ _ _ (ix2 p q) = _
  unfold out0_4
  rw [View.canon_unit_zero (by decide), View.ld_unit_zero (by decide), View.ld_unit_zero (by decide), View.ld_unit_zero (by decide), View.ld_unit_zero (by decide)]
  refine (block_apply _ _ _ _ p q).trans ?_
  refine congrArg₂ (· * ·) (congrArg (fun f => rms (Ideal.ofBits .f32 0x45800000#32) f q) (funext fun k => ?_)) (blk3 m c t q)
  show (_ + _ * _ : EReal) = _ + _ * _
  rw [blk0 m c t p k i hi, blk1 m c t p k i hi, blk2 m c t p k i hi]

/-- THE KERNEL'S RESULT at an index. -/
theorem array_eq (i : S8192x4096.Idx) :
    (dats m 0 c).arrAt 4 cfg0.N i = rms (Ideal.ofBits .f32 0x45800000#32) (fun k => input m c (ix2 (i 0) k) + modulation m c (ix3 (slot 5 (i 0)) 0 k) * residual m c (ix2 k (i 0))) (i 1) * weight m c (ix1 (i 1)) := by
  have hr : (i 0).val < 8192 := (i 0).isLt
  have ht : (i 0).val / 256 < cfg0.N := Nat.lt_of_lt_of_eq (by omega : _ < 32) N_0.symm
  obtain ⟨e0, e1⟩ := index4 ⟨_, ht⟩
  have hb := (congrFun (Value.blocks4 m c ⟨_, ht⟩ (flush0_4 _)) (ix2 ⟨(i 0).val % 256, by omega⟩ (i 1))).trans
    (point_eq m c ⟨_, ht⟩ _ (i 1) (i 0) (by show (i 0).val = 256 * ((i 0).val / 256) + (i 0).val % 256; omega))
  refine Eq.trans (congrArg ((dats m 0 c).arrAt 4 cfg0.N) (funext fun a => Fin.ext ?_)) hb
  match a with
  | ⟨0, _⟩ =>
    show (i 0).val = win0_4.index ⟨_, ht⟩ 0 * 256 + 1 * ((i 0).val % 256)
    rw [e0]
    show (i 0).val = (i 0).val / 256 * 256 + 1 * ((i 0).val % 256)
    omega
  | ⟨1, _⟩ =>
    show (i 1).val = win0_4.index ⟨_, ht⟩ 1 * 4096 + 1 * (i 1).val
    rw [e1]
    omega

end Kernel

open Cert.Reference11Ideal in
open Cert.Reference11Ideal.Gen in
/-- The reference's result at an index. -/
theorem reference_apply (x : FVec Ideal S8192x4096 .f32) (y : FVec Ideal S4096x8192 .f32) (v : FVec Ideal S24x1x4096 .f32) (g : FVec Ideal S4096 .f32) (i : Fin 8192) (j : Fin 4096) :
    shapeCast S8192x4096 (mulf (F := Ideal) (mulf (addf (shapeCast _ x shapeCasts_S8192x4096_S4x2048x4096) (mulf (broadcastInDim S4x2048x4096 ![0, 1, 2] bcast_S4x1x4096_S4x2048x4096_0_1_2 (broadcastInDim S4x1x4096 ![0, 2] bcast_S4x4096_S4x1x4096_0_2 (shapeCast _ (extractStridedSlice S4x1x4096 ![0, 5, 0] (shapeCast _ v shapeCasts_S24x1x4096_S4x6x4096) slices_S4x6x4096_S4x1x4096_0_5_0) shapeCasts_S4x1x4096_S4x4096))) (shapeCast _ (transpose S8192x4096 [1, 0] y transposes_S4096x8192_S8192x4096_1_0) shapeCasts_S8192x4096_S4x2048x4096))) (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf (addf (shapeCast _ x shapeCasts_S8192x4096_S4x2048x4096) (mulf (broadcastInDim S4x2048x4096 ![0, 1, 2] bcast_S4x1x4096_S4x2048x4096_0_1_2 (broadcastInDim S4x1x4096 ![0, 2] bcast_S4x4096_S4x1x4096_0_2 (shapeCast _ (extractStridedSlice S4x1x4096 ![0, 5, 0] (shapeCast _ v shapeCasts_S24x1x4096_S4x6x4096) slices_S4x6x4096_S4x1x4096_0_5_0) shapeCasts_S4x1x4096_S4x4096))) (shapeCast _ (transpose S8192x4096 [1, 0] y transposes_S4096x8192_S8192x4096_1_0) shapeCasts_S8192x4096_S4x2048x4096))) (addf (shapeCast _ x shapeCasts_S8192x4096_S4x2048x4096) (mulf (broadcastInDim S4x2048x4096 ![0, 1, 2] bcast_S4x1x4096_S4x2048x4096_0_1_2 (broadcastInDim S4x1x4096 ![0, 2] bcast_S4x4096_S4x1x4096_0_2 (shapeCast _ (extractStridedSlice S4x1x4096 ![0, 5, 0] (shapeCast _ v shapeCasts_S24x1x4096_S4x6x4096) slices_S4x6x4096_S4x1x4096_0_5_0) shapeCasts_S4x1x4096_S4x4096))) (shapeCast _ (transpose S8192x4096 [1, 0] y transposes_S4096x8192_S8192x4096_1_0) shapeCasts_S8192x4096_S4x2048x4096)))) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 g))) shapeCasts_S4x2048x4096_S8192x4096 (ix2 i j)
      = rms (Ideal.ofBits .f32 0x45800000#32) (fun k => x (ix2 i k) + v (ix3 (slot 5 i) 0 k) * y (ix2 k i)) j * g (ix1 j) := by
  pointwise
  rfl

/-- The last residual and norm: the value claim. -/
theorem algebraic : Cert.algebraic_Kernel11Ideal_Reference11Ideal := by
  intro m ρ m' ρ' _ hagree
  refine ⟨fun c => (Cert.Kernel11Ideal.Gen.dats m 0 c).arrAt 4 Cert.Kernel11Ideal.cfg0.N,
    Cert.Kernel11Ideal.Value.run_blocks (F := Ideal) m ρ, ?_⟩
  refine (θ_run _ _ _).mono (fun _ h c => ⟨(h c).1.trans ?_, (h c).2⟩) (Cert.Reference11Ideal.Value.run (F := Ideal) m' ρ')
  rw [(hagree c).1, (hagree c).2.1, (hagree c).2.2.1, (hagree c).2.2.2]
  funext i
  exact (congrArg _ (ix2_eta i).symm).trans ((reference_apply _ _ _ _ (i 0) (i 1)).trans (array_eq m c i).symm)

/-- The reference's frame. -/
theorem frame_reference : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

end Cert.FinalNorm

end
-- ==== Proof.Prep.lean ====
/- The attention's operands: the norms of three bands of the projection, and a fourth band scaled. -/
module

public import proofs.«01_k».proof.Defs
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Norm
public import Idealize.ShloMosaic.Lib.Claim
public import Idealize.ShloMosaic.Lib.Pointwise
public import Idealize.ShloMosaic.Adequacy
public import Idealize.ShloMosaic.Init

@[expose] public section

set_option maxRecDepth 65536

noncomputable section

namespace Cert.Prep

open Idealize.ShloMosaic Idealize.ShloMosaic.TcCoe Idealize.SL.Sem

open Cert.Norm

section Kernel
open Cert.Kernel12Ideal Cert.Kernel12Ideal.Gen

/-- A row's entries in the projection's first band: columns 0 to 1023. -/
abbrev band0 (x : FVec Ideal S8192x8192 .f32) (i : Fin 8192) (k : Fin 1024) : EReal := x (ix2 i ⟨k.val, by omega⟩)
/-- A row's entries in the second band: 512 columns from column 1024. -/
abbrev band1 (x : FVec Ideal S8192x8192 .f32) (i : Fin 8192) (k : Fin 512) : EReal := x (ix2 i ⟨1024 + k.val, by omega⟩)
/-- A row's entries in the third band: 128 columns from column 1536. -/
abbrev band2 (x : FVec Ideal S8192x8192 .f32) (i : Fin 8192) (k : Fin 128) : EReal := x (ix2 i ⟨1536 + k.val, by omega⟩)
/-- A row's entries in the fourth band: 128 columns from column 1664. -/
abbrev band3 (x : FVec Ideal S8192x8192 .f32) (i : Fin 8192) (k : Fin 128) : EReal := x (ix2 i ⟨1664 + k.val, by omega⟩)

/-- A block's first result at an index: the row's norm, times the weight. -/
theorem block0_apply (x : FVec Ideal S512x1024 .f32) (g : FVec Ideal S1x1024 .f32) (i : Fin 512) (j : Fin 1024) :
    k0_pay3 (F := Ideal) x g (ix2 i j) = rms (Ideal.ofBits .f32 0x44800000#32) (fun k => x (ix2 i k)) j * g (ix2 0 j) := by
  pointwise [k0_pay3]
  rfl

/-- A block's second result at an index: the row's norm, times the weight. -/
theorem block1_apply (x : FVec Ideal S512x512 .f32) (g : FVec Ideal S1x512 .f32) (i j : Fin 512) :
    k0_pay4 (F := Ideal) x g (ix2 i j) = rms (Ideal.ofBits .f32 0x44000000#32) (fun k => x (ix2 i k)) j * g (ix2 0 j) := by
  pointwise [k0_pay4]
  rfl

/-- A block's third result at an index: the row's layer norm, times the weight, plus the bias. -/
theorem block2_apply (x : FVec Ideal S512x128 .f32) (g b : FVec Ideal S1x128 .f32) (i : Fin 512) (j : Fin 128) :
    k0_pay1 (F := Ideal) x (k0_pay5 (F := Ideal) x) g b (ix2 i j) = layer (Ideal.ofBits .f32 0x43000000#32) (fun k => x (ix2 i k)) j * g (ix2 0 j) + b (ix2 0 j) := by
  pointwise [k0_pay1, k0_pay5]
  rfl

/-- A block's fourth result at an index: the entry, scaled. -/
theorem block3_apply (x : FVec Ideal S512x128 .f32) (i : Fin 512) (j : Fin 128) :
    k0_pay2 (F := Ideal) x (ix2 i j) = x (ix2 i j) * (Ideal.ofBits .f32 0x3C3504F3#32) := by
  pointwise [k0_pay2]

/-- Where the projection's window lies at point `t`. -/
theorem index0 : ∀ t : Fin cfg0.N, win0_0.index t 0 = t.val ∧ win0_0.index t 1 = 0 :=
  (by decide +kernel : ∀ t : Fin grid0.N, win0_0.index t 0 = t.val ∧ win0_0.index t 1 = 0)
/-- Where the first weight lies at point `t`. -/
theorem index1 : ∀ t : Fin cfg0.N, win0_1.index t 0 = 0 ∧ win0_1.index t 1 = 0 :=
  (by decide +kernel : ∀ t : Fin grid0.N, win0_1.index t 0 = 0 ∧ win0_1.index t 1 = 0)
/-- Where the second weight lies at point `t`. -/
theorem index2 : ∀ t : Fin cfg0.N, win0_2.index t 0 = 0 ∧ win0_2.index t 1 = 0 :=
  (by decide +kernel : ∀ t : Fin grid0.N, win0_2.index t 0 = 0 ∧ win0_2.index t 1 = 0)
/-- Where the third weight lies at point `t`. -/
theorem index3 : ∀ t : Fin cfg0.N, win0_3.index t 0 = 0 ∧ win0_3.index t 1 = 0 :=
  (by decide +kernel : ∀ t : Fin grid0.N, win0_3.index t 0 = 0 ∧ win0_3.index t 1 = 0)
/-- Where the bias lies at point `t`. -/
theorem index4 : ∀ t : Fin cfg0.N, win0_4.index t 0 = 0 ∧ win0_4.index t 1 = 0 :=
  (by decide +kernel : ∀ t : Fin grid0.N, win0_4.index t 0 = 0 ∧ win0_4.index t 1 = 0)
/-- Where the first result's window lies at point `t`. -/
theorem index5 : ∀ t : Fin cfg0.N, win0_5.index t 0 = t.val ∧ win0_5.index t 1 = 0 :=
  (by decide +kernel : ∀ t : Fin grid0.N, win0_5.index t 0 = t.val ∧ win0_5.index t 1 = 0)
/-- Where the second result's window lies at point `t`. -/
theorem index6 : ∀ t : Fin cfg0.N, win0_6.index t 0 = t.val ∧ win0_6.index t 1 = 0 :=
  (by decide +kernel : ∀ t : Fin grid0.N, win0_6.index t 0 = t.val ∧ win0_6.index t 1 = 0)
/-- Where the third result's window lies at point `t`. -/
theorem index7 : ∀ t : Fin cfg0.N, win0_7.index t 0 = t.val ∧ win0_7.index t 1 = 0 :=
  (by decide +kernel : ∀ t : Fin grid0.N, win0_7.index t 0 = t.val ∧ win0_7.index t 1 = 0)
/-- Where the fourth result's window lies at point `t`. -/
theorem index8 : ∀ t : Fin cfg0.N, win0_8.index t 0 = t.val ∧ win0_8.index t 1 = 0 :=
  (by decide +kernel : ∀ t : Fin grid0.N, win0_8.index t 0 = t.val ∧ win0_8.index t 1 = 0)

variable (m : (ℓ : Loc nD τ sig) → Buf (Elt Ideal) ℓ) (c : Dev nD)

/-- The projection. -/
abbrev proj : FVec Ideal S8192x8192 .f32 := m ((c.tc : Thread nD τ).loc main_arg0)
/-- The first norm's weight. -/
abbrev weight0 : FVec Ideal S1x1024 .f32 := m ((c.tc : Thread nD τ).loc main_arg1)
/-- The second norm's weight. -/
abbrev weight1 : FVec Ideal S1x512 .f32 := m ((c.tc : Thread nD τ).loc main_arg2)
/-- The third norm's weight. -/
abbrev weight2 : FVec Ideal S1x128 .f32 := m ((c.tc : Thread nD τ).loc main_arg3)
/-- The third norm's bias. -/
abbrev bias2 : FVec Ideal S1x128 .f32 := m ((c.tc : Thread nD τ).loc main_arg4)

/-- The first norm's weight the launch finds. -/
theorem weight0_apply (j : Fin 1024) : V m c main_v1 (ix2 0 j) = weight0 m c (ix2 0 j) := by
  have e : V m c main_v1 = shapeCast S1x1024 (shapeCast S1024 (weight0 m c) shapeCasts_S1x1024_S1024) shapeCasts_S1024_S1x1024 := by
    entry_read
    rfl
  rw [e]
  generalize weight0 m c = X
  pointwise

/-- The first norm's weight at a point. -/
theorem blk1 (t : Fin cfg0.N) (j : Fin 1024) :
    iblk m c 1 t (ix2 0 j) = weight0 m c (ix2 0 j) := by
  obtain ⟨e0, e1⟩ := index1 t
  refine Eq.trans ?_ (weight0_apply m c j)
  show V m c main_v1 _ = _
  refine congrArg (V m c main_v1) (funext fun a => Fin.ext ?_)
  match a with
  | ⟨0, _⟩ =>
    show win0_1.index t 0 * 1 + 1 * 0 = 0
    rw [e0]
  | ⟨1, _⟩ =>
    show win0_1.index t 1 * 1024 + 1 * j.val = j.val
    rw [e1]
    omega

/-- The second norm's weight the launch finds. -/
theorem weight1_apply (j : Fin 512) : V m c main_v3 (ix2 0 j) = weight1 m c (ix2 0 j) := by
  have e : V m c main_v3 = shapeCast S1x512 (shapeCast S512 (weight1 m c) shapeCasts_S1x512_S512) shapeCasts_S512_S1x512 := by
    entry_read
    rfl
  rw [e]
  generalize weight1 m c = X
  pointwise

/-- The second norm's weight at a point. -/
theorem blk2 (t : Fin cfg0.N) (j : Fin 512) :
    iblk m c 2 t (ix2 0 j) = weight1 m c (ix2 0 j) := by
  obtain ⟨e0, e1⟩ := index2 t
  refine Eq.trans ?_ (weight1_apply m c j)
  show V m c main_v3 _ = _
  refine congrArg (V m c main_v3) (funext fun a => Fin.ext ?_)
  match a with
  | ⟨0, _⟩ =>
    show win0_2.index t 0 * 1 + 1 * 0 = 0
    rw [e0]
  | ⟨1, _⟩ =>
    show win0_2.index t 1 * 512 + 1 * j.val = j.val
    rw [e1]
    omega

/-- The third norm's weight the launch finds. -/
theorem weight2_apply (j : Fin 128) : V m c main_v5 (ix2 0 j) = weight2 m c (ix2 0 j) := by
  have e : V m c main_v5 = shapeCast S1x128 (shapeCast S128 (weight2 m c) shapeCasts_S1x128_S128) shapeCasts_S128_S1x128 := by
    entry_read
    rfl
  rw [e]
  generalize weight2 m c = X
  pointwise

/-- The third norm's weight at a point. -/
theorem blk3 (t : Fin cfg0.N) (j : Fin 128) :
    iblk m c 3 t (ix2 0 j) = weight2 m c (ix2 0 j) := by
  obtain ⟨e0, e1⟩ := index3 t
  refine Eq.trans ?_ (weight2_apply m c j)
  show V m c main_v5 _ = _
  refine congrArg (V m c main_v5) (funext fun a => Fin.ext ?_)
  match a with
  | ⟨0, _⟩ =>
    show win0_3.index t 0 * 1 + 1 * 0 = 0
    rw [e0]
  | ⟨1, _⟩ =>
    show win0_3.index t 1 * 128 + 1 * j.val = j.val
    rw [e1]
    omega

/-- The third norm's bias the launch finds. -/
theorem bias2_apply (j : Fin 128) : V m c main_v7 (ix2 0 j) = bias2 m c (ix2 0 j) := by
  have e : V m c main_v7 = shapeCast S1x128 (shapeCast S128 (bias2 m c) shapeCasts_S1x128_S128) shapeCasts_S128_S1x128 := by
    entry_read
    rfl
  rw [e]
  generalize bias2 m c = X
  pointwise

/-- The third norm's bias at a point. -/
theorem blk4 (t : Fin cfg0.N) (j : Fin 128) :
    iblk m c 4 t (ix2 0 j) = bias2 m c (ix2 0 j) := by
  obtain ⟨e0, e1⟩ := index4 t
  refine Eq.trans ?_ (bias2_apply m c j)
  show V m c main_v7 _ = _
  refine congrArg (V m c main_v7) (funext fun a => Fin.ext ?_)
  match a with
  | ⟨0, _⟩ =>
    show win0_4.index t 0 * 1 + 1 * 0 = 0
    rw [e0]
  | ⟨1, _⟩ =>
    show win0_4.index t 1 * 128 + 1 * j.val = j.val
    rw [e1]
    omega

/-- The first band of the projection's block at a point. -/
theorem load0 (t : Fin cfg0.N) (p : Fin 512) (k : Fin 1024) (i : Fin 8192) (hi : i.val = 512 * t.val + p.val) :
    View.ld (iblk m c 0 t) r0_0 (ix2 p k) = band0 (proj m c) i k := by
  obtain ⟨e0, e1⟩ := index0 t
  show V m c main_arg0 _ = _
  rw [V_main_arg0]
  refine congrArg (proj m c) (funext fun a => Fin.ext ?_)
  match a with
  | ⟨0, _⟩ =>
    show win0_0.index t 0 * 512 + 1 * (0 + 1 * p.val) = i.val
    rw [e0, hi]
    omega
  | ⟨1, _⟩ =>
    show win0_0.index t 1 * 2048 + 1 * (0 + 1 * k.val) = k.val
    rw [e1]
    omega

/-- The second band of the projection's block at a point. -/
theorem load1 (t : Fin cfg0.N) (p : Fin 512) (k : Fin 512) (i : Fin 8192) (hi : i.val = 512 * t.val + p.val) :
    View.ld (iblk m c 0 t) r0_3 (ix2 p k) = band1 (proj m c) i k := by
  obtain ⟨e0, e1⟩ := index0 t
  show V m c main_arg0 _ = _
  rw [V_main_arg0]
  refine congrArg (proj m c) (funext fun a => Fin.ext ?_)
  match a with
  | ⟨0, _⟩ =>
    show win0_0.index t 0 * 512 + 1 * (0 + 1 * p.val) = i.val
    rw [e0, hi]
    omega
  | ⟨1, _⟩ =>
    show win0_0.index t 1 * 2048 + 1 * (1024 + 1 * k.val) = 1024 + k.val
    rw [e1]
    omega

/-- The third band of the projection's block at a point. -/
theorem load2 (t : Fin cfg0.N) (p : Fin 512) (k : Fin 128) (i : Fin 8192) (hi : i.val = 512 * t.val + p.val) :
    View.ld (iblk m c 0 t) r0_6 (ix2 p k) = band2 (proj m c) i k := by
  obtain ⟨e0, e1⟩ := index0 t
  show V m c main_arg0 _ = _
  rw [V_main_arg0]
  refine congrArg (proj m c) (funext fun a => Fin.ext ?_)
  match a with
  | ⟨0, _⟩ =>
    show win0_0.index t 0 * 512 + 1 * (0 + 1 * p.val) = i.val
    rw [e0, hi]
    omega
  | ⟨1, _⟩ =>
    show win0_0.index t 1 * 2048 + 1 * (1536 + 1 * k.val) = 1536 + k.val
    rw [e1]
    omega

/-- The fourth band of the projection's block at a point. -/
theorem load3 (t : Fin cfg0.N) (p : Fin 512) (k : Fin 128) (i : Fin 8192) (hi : i.val = 512 * t.val + p.val) :
    View.ld (iblk m c 0 t) r0_9 (ix2 p k) = band3 (proj m c) i k := by
  obtain ⟨e0, e1⟩ := index0 t
  show V m c main_arg0 _ = _
  rw [V_main_arg0]
  refine congrArg (proj m c) (funext fun a => Fin.ext ?_)
  match a with
  | ⟨0, _⟩ =>
    show win0_0.index t 0 * 512 + 1 * (0 + 1 * p.val) = i.val
    rw [e0, hi]
    omega
  | ⟨1, _⟩ =>
    show win0_0.index t 1 * 2048 + 1 * (1664 + 1 * k.val) = 1664 + k.val
    rw [e1]
    omega

/-- WHAT POINT `t` WRITES BACK to the first result for row `p`, column `q` of its block. -/
theorem point_eq0 (t : Fin cfg0.N) (p : Fin 512) (q : Fin 1024) (i : Fin 8192) (hi : i.val = 512 * t.val + p.val) :
    (dats m 0 c).flushed 5 t (ix2 p q) = rms (Ideal.ofBits .f32 0x44800000#32) (band0 (proj m c) i) q * weight0 m c (ix2 0 q) := by
  rw [Value.flushed5]
  show out0_5 _ _ _ _ _ (ix2 p q) = _
  unfold out0_5
  rw [View.canon_unit_zero (by decide), View.ld_unit_zero (S := S1x1024) (by decide)]
  refine (block0_apply _ _ p q).trans ?_
  rw [show (fun k => View.ld (iblk m c 0 t) r0_0 (ix2 p k)) = band0 (proj m c) i from funext fun k => load0 m c t p k i hi, blk1 m c t q]

/-- THE KERNEL'S FIRST RESULT at an index. -/
theorem array_eq0 (i : S8192x1024.Idx) :
    (dats m 0 c).arrAt 5 cfg0.N i = rms (Ideal.ofBits .f32 0x44800000#32) (band0 (proj m c) (i 0)) (i 1) * weight0 m c (ix2 0 (i 1)) := by
  have hr : (i 0).val < 8192 := (i 0).isLt
  have ht : (i 0).val / 512 < cfg0.N := Nat.lt_of_lt_of_eq (by omega : _ < 16) N_0.symm
  obtain ⟨e0, e1⟩ := index5 ⟨_, ht⟩
  have hb := (congrFun (Value.blocks5 m c ⟨_, ht⟩ (flush0_5 _)) (ix2 ⟨(i 0).val % 512, by omega⟩ (i 1))).trans
    (point_eq0 m c ⟨_, ht⟩ _ (i 1) (i 0) (by show (i 0).val = 512 * ((i 0).val / 512) + (i 0).val % 512; omega))
  refine Eq.trans (congrArg ((dats m 0 c).arrAt 5 cfg0.N) (funext fun a => Fin.ext ?_)) hb
  match a with
  | ⟨0, _⟩ =>
    show (i 0).val = win0_5.index ⟨_, ht⟩ 0 * 512 + 1 * ((i 0).val % 512)
    rw [e0]
    show (i 0).val = (i 0).val / 512 * 512 + 1 * ((i 0).val % 512)
    omega
  | ⟨1, _⟩ =>
    show (i 1).val = win0_5.index ⟨_, ht⟩ 1 * 1024 + 1 * (i 1).val
    rw [e1]
    omega

/-- WHAT POINT `t` WRITES BACK to the second result for row `p`, column `q` of its block. -/
theorem point_eq1 (t : Fin cfg0.N) (p : Fin 512) (q : Fin 512) (i : Fin 8192) (hi : i.val = 512 * t.val + p.val) :
    (dats m 0 c).flushed 6 t (ix2 p q) = rms (Ideal.ofBits .f32 0x44000000#32) (band1 (proj m c) i) q * weight1 m c (ix2 0 q) := by
  rw [Value.flushed6]
  show out0_6 _ _ _ _ _ (ix2 p q) = _
  unfold out0_6
  rw [View.canon_unit_zero (by decide), View.ld_unit_zero (S := S1x512) (by decide)]
  refine (block1_apply _ _ p q).trans ?_
  rw [show (fun k => View.ld (iblk m c 0 t) r0_3 (ix2 p k)) = band1 (proj m c) i from funext fun k => load1 m c t p k i hi, blk2 m c t q]

/-- THE KERNEL'S SECOND RESULT at an index. -/
theorem array_eq1 (i : S8192x512.Idx) :
    (dats m 0 c).arrAt 6 cfg0.N i = rms (Ideal.ofBits .f32 0x44000000#32) (band1 (proj m c) (i 0)) (i 1) * weight1 m c (ix2 0 (i 1)) := by
  have hr : (i 0).val < 8192 := (i 0).isLt
  have ht : (i 0).val / 512 < cfg0.N := Nat.lt_of_lt_of_eq (by omega : _ < 16) N_0.symm
  obtain ⟨e0, e1⟩ := index6 ⟨_, ht⟩
  have hb := (congrFun (Value.blocks6 m c ⟨_, ht⟩ (flush0_6 _)) (ix2 ⟨(i 0).val % 512, by omega⟩ (i 1))).trans
    (point_eq1 m c ⟨_, ht⟩ _ (i 1) (i 0) (by show (i 0).val = 512 * ((i 0).val / 512) + (i 0).val % 512; omega))
  refine Eq.trans (congrArg ((dats m 0 c).arrAt 6 cfg0.N) (funext fun a => Fin.ext ?_)) hb
  match a with
  | ⟨0, _⟩ =>
    show (i 0).val = win0_6.index ⟨_, ht⟩ 0 * 512 + 1 * ((i 0).val % 512)
    rw [e0]
    show (i 0).val = (i 0).val / 512 * 512 + 1 * ((i 0).val % 512)
    omega
  | ⟨1, _⟩ =>
    show (i 1).val = win0_6.index ⟨_, ht⟩ 1 * 512 + 1 * (i 1).val
    rw [e1]
    omega

/-- WHAT POINT `t` WRITES BACK to the third result for row `p`, column `q` of its block. -/
theorem point_eq2 (t : Fin cfg0.N) (p : Fin 512) (q : Fin 128) (i : Fin 8192) (hi : i.val = 512 * t.val + p.val) :
    (dats m 0 c).flushed 7 t (ix2 p q) = layer (Ideal.ofBits .f32 0x43000000#32) (band2 (proj m c) i) q * weight2 m c (ix2 0 q) + bias2 m c (ix2 0 q) := by
  rw [Value.flushed7]
  show out0_7 _ _ _ _ _ (ix2 p q) = _
  unfold out0_7
  rw [View.canon_unit_zero (by decide), View.ld_unit_zero (S := S1x128) (by decide), View.ld_unit_zero (S := S1x128) (by decide)]
  refine (block2_apply _ _ _ p q).trans ?_
  rw [show (fun k => View.ld (iblk m c 0 t) r0_6 (ix2 p k)) = band2 (proj m c) i from funext fun k => load2 m c t p k i hi, blk3 m c t q, blk4 m c t q]

/-- THE KERNEL'S THIRD RESULT at an index. -/
theorem array_eq2 (i : S8192x128.Idx) :
    (dats m 0 c).arrAt 7 cfg0.N i = layer (Ideal.ofBits .f32 0x43000000#32) (band2 (proj m c) (i 0)) (i 1) * weight2 m c (ix2 0 (i 1)) + bias2 m c (ix2 0 (i 1)) := by
  have hr : (i 0).val < 8192 := (i 0).isLt
  have ht : (i 0).val / 512 < cfg0.N := Nat.lt_of_lt_of_eq (by omega : _ < 16) N_0.symm
  obtain ⟨e0, e1⟩ := index7 ⟨_, ht⟩
  have hb := (congrFun (Value.blocks7 m c ⟨_, ht⟩ (flush0_7 _)) (ix2 ⟨(i 0).val % 512, by omega⟩ (i 1))).trans
    (point_eq2 m c ⟨_, ht⟩ _ (i 1) (i 0) (by show (i 0).val = 512 * ((i 0).val / 512) + (i 0).val % 512; omega))
  refine Eq.trans (congrArg ((dats m 0 c).arrAt 7 cfg0.N) (funext fun a => Fin.ext ?_)) hb
  match a with
  | ⟨0, _⟩ =>
    show (i 0).val = win0_7.index ⟨_, ht⟩ 0 * 512 + 1 * ((i 0).val % 512)
    rw [e0]
    show (i 0).val = (i 0).val / 512 * 512 + 1 * ((i 0).val % 512)
    omega
  | ⟨1, _⟩ =>
    show (i 1).val = win0_7.index ⟨_, ht⟩ 1 * 128 + 1 * (i 1).val
    rw [e1]
    omega

/-- WHAT POINT `t` WRITES BACK to the fourth result for row `p`, column `q` of its block. -/
theorem point_eq3 (t : Fin cfg0.N) (p : Fin 512) (q : Fin 128) (i : Fin 8192) (hi : i.val = 512 * t.val + p.val) :
    (dats m 0 c).flushed 8 t (ix2 p q) = band3 (proj m c) i q * (Ideal.ofBits .f32 0x3C3504F3#32) := by
  rw [Value.flushed8]
  show out0_8 _ _ _ _ _ (ix2 p q) = _
  unfold out0_8
  rw [View.canon_unit_zero (by decide)]
  refine (block3_apply _ p q).trans ?_
  rw [load3 m c t p q i hi]

/-- THE KERNEL'S FOURTH RESULT at an index. -/
theorem array_eq3 (i : S8192x128.Idx) :
    (dats m 0 c).arrAt 8 cfg0.N i = band3 (proj m c) (i 0) (i 1) * (Ideal.ofBits .f32 0x3C3504F3#32) := by
  have hr : (i 0).val < 8192 := (i 0).isLt
  have ht : (i 0).val / 512 < cfg0.N := Nat.lt_of_lt_of_eq (by omega : _ < 16) N_0.symm
  obtain ⟨e0, e1⟩ := index8 ⟨_, ht⟩
  have hb := (congrFun (Value.blocks8 m c ⟨_, ht⟩ (flush0_8 _)) (ix2 ⟨(i 0).val % 512, by omega⟩ (i 1))).trans
    (point_eq3 m c ⟨_, ht⟩ _ (i 1) (i 0) (by show (i 0).val = 512 * ((i 0).val / 512) + (i 0).val % 512; omega))
  refine Eq.trans (congrArg ((dats m 0 c).arrAt 8 cfg0.N) (funext fun a => Fin.ext ?_)) hb
  match a with
  | ⟨0, _⟩ =>
    show (i 0).val = win0_8.index ⟨_, ht⟩ 0 * 512 + 1 * ((i 0).val % 512)
    rw [e0]
    show (i 0).val = (i 0).val / 512 * 512 + 1 * ((i 0).val % 512)
    omega
  | ⟨1, _⟩ =>
    show (i 1).val = win0_8.index ⟨_, ht⟩ 1 * 128 + 1 * (i 1).val
    rw [e1]
    omega

end Kernel

open Cert.Reference12Ideal in
open Cert.Reference12Ideal.Gen in
/-- The reference's first result at an index. -/
theorem reference_apply0 (x : FVec Ideal S8192x8192 .f32) (g : FVec Ideal S1x1024 .f32) (i : Fin 8192) (j : Fin 1024) :
    truncf (F := Ideal) .bf16 (mulf (mulf (extractStridedSlice S8192x1024 ![0, 0] x slices_S8192x8192_S8192x1024_0_0) (broadcastInDim S8192x1024 ![0, 1] bcast_S8192x1_S8192x1024_0_1 (Host.rsqrt (addf (Host.divf (broadcastInDim S8192x1 ![0] bcast_S8192_S8192x1_0 (Host.reduceAdd (mulf (extractStridedSlice S8192x1024 ![0, 0] x slices_S8192x8192_S8192x1024_0_0) (extractStridedSlice S8192x1024 ![0, 0] x slices_S8192x8192_S8192x1024_0_0)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ g shapeCasts_S1x1024_S1024)))) bitsLt_bf16_f32 (ix2 i j)
      = rms (Ideal.ofBits .f32 0x44800000#32) (band0 x i) j * g (ix2 0 j) := by
  pointwise
  rfl

open Cert.Reference12Ideal in
open Cert.Reference12Ideal.Gen in
/-- The reference's second result at an index. -/
theorem reference_apply1 (x : FVec Ideal S8192x8192 .f32) (g : FVec Ideal S1x512 .f32) (i : Fin 8192) (j : Fin 512) :
    truncf (F := Ideal) .bf16 (mulf (mulf (extractStridedSlice S8192x512 ![0, 1024] x slices_S8192x8192_S8192x512_0_1024) (broadcastInDim S8192x512 ![0, 1] bcast_S8192x1_S8192x512_0_1 (Host.rsqrt (addf (Host.divf (broadcastInDim S8192x1 ![0] bcast_S8192_S8192x1_0 (Host.reduceAdd (mulf (extractStridedSlice S8192x512 ![0, 1024] x slices_S8192x8192_S8192x512_0_1024) (extractStridedSlice S8192x512 ![0, 1024] x slices_S8192x8192_S8192x512_0_1024)) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 (shapeCast _ g shapeCasts_S1x512_S512)))) bitsLt_bf16_f32 (ix2 i j)
      = rms (Ideal.ofBits .f32 0x44000000#32) (band1 x i) j * g (ix2 0 j) := by
  pointwise
  rfl

open Cert.Reference12Ideal in
open Cert.Reference12Ideal.Gen in
/-- The reference's third result at an index. -/
theorem reference_apply2 (x : FVec Ideal S8192x8192 .f32) (g b : FVec Ideal S1x128 .f32) (i : Fin 8192) (j : Fin 128) :
    truncf (F := Ideal) .bf16 (addf (mulf (mulf (subf (extractStridedSlice S8192x128 ![0, 1536] x slices_S8192x8192_S8192x128_0_1536) (broadcastInDim S8192x128 ![0, 1] bcast_S8192x1_S8192x128_0_1 (Host.divf (broadcastInDim S8192x1 ![0] bcast_S8192_S8192x1_0 (Host.reduceAdd (extractStridedSlice S8192x128 ![0, 1536] x slices_S8192x8192_S8192x128_0_1536) (constant S_ .f32 0x00000000#32) reducesTo_S8192x128_S8192_d1 h_S_)) (broadcastInDim S8192x1 ![] bcast_S_S8192x1 (constant S_ .f32 0x43000000#32))))) (broadcastInDim S8192x128 ![0, 1] bcast_S8192x1_S8192x128_0_1 (Host.rsqrt (addf (Host.divf (broadcastInDim S8192x1 ![0] bcast_S8192_S8192x1_0 (Host.reduceAdd (mulf (subf (extractStridedSlice S8192x128 ![0, 1536] x slices_S8192x8192_S8192x128_0_1536) (broadcastInDim S8192x128 ![0, 1] bcast_S8192x1_S8192x128_0_1 (Host.divf (broadcastInDim S8192x1 ![0] bcast_S8192_S8192x1_0 (Host.reduceAdd (extractStridedSlice S8192x128 ![0, 1536] x slices_S8192x8192_S8192x128_0_1536) (constant S_ .f32 0x00000000#32) reducesTo_S8192x128_S8192_d1 h_S_)) (broadcastInDim S8192x1 ![] bcast_S_S8192x1 (constant S_ .f32 0x43000000#32))))) (subf (extractStridedSlice S8192x128 ![0, 1536] x slices_S8192x8192_S8192x128_0_1536) (broadcastInDim S8192x128 ![0, 1] bcast_S8192x1_S8192x128_0_1 (Host.divf (broadcastInDim S8192x1 ![0] bcast_S8192_S8192x1_0 (Host.reduceAdd (extractStridedSlice S8192x128 ![0, 1536] x slices_S8192x8192_S8192x128_0_1536) (constant S_ .f32 0x00000000#32) reducesTo_S8192x128_S8192_d1 h_S_)) (broadcastInDim S8192x1 ![] bcast_S_S8192x1 (constant S_ .f32 0x43000000#32)))))) (constant S_ .f32 0x00000000#32) reducesTo_S8192x128_S8192_d1 h_S_)) (broadcastInDim S8192x1 ![] bcast_S_S8192x1 (constant S_ .f32 0x43000000#32))) (broadcastInDim S8192x1 ![] bcast_S_S8192x1 (constant S_ .f32 0x358637BD#32)))))) (broadcastInDim S8192x128 ![0, 1] bcast_S1x128_S8192x128_0_1 (broadcastInDim S1x128 ![1] bcast_S128_S1x128_1 (shapeCast _ g shapeCasts_S1x128_S128)))) (broadcastInDim S8192x128 ![0, 1] bcast_S1x128_S8192x128_0_1 (broadcastInDim S1x128 ![1] bcast_S128_S1x128_1 (shapeCast _ b shapeCasts_S1x128_S128)))) bitsLt_bf16_f32 (ix2 i j)
      = layer (Ideal.ofBits .f32 0x43000000#32) (band2 x i) j * g (ix2 0 j) + b (ix2 0 j) := by
  pointwise
  rfl

open Cert.Reference12Ideal in
open Cert.Reference12Ideal.Gen in
/-- The reference's fourth result at an index. -/
theorem reference_apply3 (x : FVec Ideal S8192x8192 .f32) (i : Fin 8192) (j : Fin 128) :
    mulf (F := Ideal) (extractStridedSlice S8192x128 ![0, 1664] x slices_S8192x8192_S8192x128_0_1664) (broadcastInDim S8192x128 ![] bcast_S_S8192x128 (constant S_ .f32 0x3C3504F3#32)) (ix2 i j)
      = band3 x i j * (Ideal.ofBits .f32 0x3C3504F3#32) := by
  pointwise

/-- The attention's operands: the value claim. -/
theorem algebraic : Cert.algebraic_Kernel12Ideal_Reference12Ideal := by
  intro m ρ m' ρ' _ hagree
  refine ⟨fun c => (Cert.Kernel12Ideal.Gen.dats m 0 c).arrAt 5 Cert.Kernel12Ideal.cfg0.N, fun c => (Cert.Kernel12Ideal.Gen.dats m 0 c).arrAt 6 Cert.Kernel12Ideal.cfg0.N,
    fun c => (Cert.Kernel12Ideal.Gen.dats m 0 c).arrAt 7 Cert.Kernel12Ideal.cfg0.N, fun c => (Cert.Kernel12Ideal.Gen.dats m 0 c).arrAt 8 Cert.Kernel12Ideal.cfg0.N,
    Cert.Kernel12Ideal.Value.run_blocks (F := Ideal) m ρ, ?_⟩
  refine (θ_run _ _ _).mono (fun _ h c => ⟨(h c).1.trans ?_, (h c).2.1.trans ?_, (h c).2.2.1.trans ?_, (h c).2.2.2.1.trans ?_, (h c).2.2.2.2⟩)
    (Cert.Reference12Ideal.Value.run (F := Ideal) m' ρ')
  · rw [(hagree c).1, (hagree c).2.1]
    funext i
    exact (congrArg _ (ix2_eta i).symm).trans ((reference_apply0 _ _ (i 0) (i 1)).trans (array_eq0 m c i).symm)
  · rw [(hagree c).1, (hagree c).2.2.1]
    funext i
    exact (congrArg _ (ix2_eta i).symm).trans ((reference_apply1 _ _ (i 0) (i 1)).trans (array_eq1 m c i).symm)
  · rw [(hagree c).1, (hagree c).2.2.2.1, (hagree c).2.2.2.2]
    funext i
    exact (congrArg _ (ix2_eta i).symm).trans ((reference_apply2 _ _ _ (i 0) (i 1)).trans (array_eq2 m c i).symm)
  · rw [(hagree c).1]
    funext i
    exact (congrArg _ (ix2_eta i).symm).trans ((reference_apply3 _ (i 0) (i 1)).trans (array_eq3 m c i).symm)

/-- The reference's frame. -/
theorem frame_reference : Cert.quiescent_Reference12Ideal := fun m ρ _ =>
  (θ_run Cert.Reference12Ideal.defs _ _).mono (fun r h => ⟨fun c => (h c).2.2.2.2, Idealize.ShloMosaic.sem_eq_zero_of_no_sems (by decide) r.2⟩)
    (Cert.Reference12Ideal.Value.run (F := Ideal) m ρ)

end Cert.Prep

end
-- ==== Proof.Modulation.lean ====
/- The modulation: the activated conditioning through one product, with its bias. -/
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import Idealize.ShloMosaic.Lib.Claim
public import Idealize.ShloMosaic.Lib.Pointwise
public import Idealize.ShloMosaic.Adequacy
public import Idealize.ShloMosaic.Init

@[expose] public section

set_option maxRecDepth 65536

noncomputable section

namespace Cert.Modulation

open Idealize.ShloMosaic Idealize.ShloMosaic.TcCoe Idealize.SL.Sem

/-- An entry times its logistic. -/
def silu (x : EReal) : EReal := x * Ideal.logistic x

section Kernel
open Cert.Kernel13Ideal Cert.Kernel13Ideal.Gen

/-- A block's result at an index: the product of the activated conditioning, with the bias. -/
theorem block_apply (x : FVec Ideal S8x4096 .f32) (w : FVec Ideal S4096x1024 .f32) (b : FVec Ideal S1x1024 .f32) (i : Fin 8) (j : Fin 1024) :
    k0_pay1 (F := Ideal) x w b (ix2 i j) = (∑ k : Fin 4096, silu (x (ix2 i k)) * w (ix2 k j)) + b (ix2 0 j) := by
  pointwise [k0_pay1]
  rfl

/-- Where the conditioning's window lies at point `t`. -/
theorem index0 : ∀ t : Fin cfg0.N, win0_0.index t 0 = 0 ∧ win0_0.index t 1 = 0 :=
  (by decide +kernel : ∀ t : Fin grid0.N, win0_0.index t 0 = 0 ∧ win0_0.index t 1 = 0)
/-- Where the weights' window lies at point `t`. -/
theorem index1 : ∀ t : Fin cfg0.N, win0_1.index t 0 = 0 ∧ win0_1.index t 1 = t.val :=
  (by decide +kernel : ∀ t : Fin grid0.N, win0_1.index t 0 = 0 ∧ win0_1.index t 1 = t.val)
/-- Where the bias's window lies at point `t`. -/
theorem index2 : ∀ t : Fin cfg0.N, win0_2.index t 0 = 0 ∧ win0_2.index t 1 = t.val :=
  (by decide +kernel : ∀ t : Fin grid0.N, win0_2.index t 0 = 0 ∧ win0_2.index t 1 = t.val)
/-- Where the result's window lies at point `t`. -/
theorem index3 : ∀ t : Fin cfg0.N, win0_3.index t 0 = 0 ∧ win0_3.index t 1 = t.val :=
  (by decide +kernel : ∀ t : Fin grid0.N, win0_3.index t 0 = 0 ∧ win0_3.index t 1 = t.val)

variable (m : (ℓ : Loc nD τ sig) → Buf (Elt Ideal) ℓ) (c : Dev nD)

/-- The conditioning. -/
abbrev cond : FVec Ideal S8x4096 .f32 := m ((c.tc : Thread nD τ).loc main_arg0)
/-- The weights. -/
abbrev weights : FVec Ideal S1x4096x24576 .f32 := m ((c.tc : Thread nD τ).loc main_arg1)
/-- The bias. -/
abbrev bias : FVec Ideal S1x24576 .f32 := m ((c.tc : Thread nD τ).loc main_arg2)

/-- The weights the launch finds. -/
theorem weights_apply (k : Fin 4096) (j : Fin 24576) : V m c main_v0 (ix2 k j) = weights m c (ix3 0 k j) := by
  have e : V m c main_v0 = shapeCast S4096x24576 (weights m c) shapeCasts_S1x4096x24576_S4096x24576 := by
    entry_read
    rfl
  rw [e]
  generalize weights m c = X
  pointwise

/-- The bias the launch finds. -/
theorem bias_apply (j : Fin 24576) : V m c main_v2 (ix2 0 j) = bias m c (ix2 0 j) := by
  have e : V m c main_v2 = shapeCast S1x24576 (shapeCast S24576 (bias m c) shapeCasts_S1x24576_S24576) shapeCasts_S24576_S1x24576 := by
    entry_read
    rfl
  rw [e]
  generalize bias m c = X
  pointwise

/-- The conditioning at a point. -/
theorem blk0 (t : Fin cfg0.N) (i : Fin 8) (k : Fin 4096) :
    iblk m c 0 t (ix2 i k) = cond m c (ix2 i k) := by
  obtain ⟨e0, e1⟩ := index0 t
  show V m c main_arg0 _ = _
  rw [V_main_arg0]
  refine congrArg (cond m c) (funext fun a => Fin.ext ?_)
  match a with
  | ⟨0, _⟩ =>
    show win0_0.index t 0 * 8 + 1 * i.val = i.val
    rw [e0]
    omega
  | ⟨1, _⟩ =>
    show win0_0.index t 1 * 4096 + 1 * k.val = k.val
    rw [e1]
    omega

/-- The weights' block at a point. -/
theorem blk1 (t : Fin cfg0.N) (k : Fin 4096) (q : Fin 1024) (j : Fin 24576) (hj : j.val = 1024 * t.val + q.val) :
    iblk m c 1 t (ix2 k q) = weights m c (ix3 0 k j) := by
  obtain ⟨e0, e1⟩ := index1 t
  refine Eq.trans ?_ (weights_apply m c k j)
  show V m c main_v0 _ = _
  refine congrArg (V m c main_v0) (funext fun a => Fin.ext ?_)
  match a with
  | ⟨0, _⟩ =>
    show win0_1.index t 0 * 4096 + 1 * k.val = k.val
    rw [e0]
    omega
  | ⟨1, _⟩ =>
    show win0_1.index t 1 * 1024 + 1 * q.val = j.val
    rw [e1, hj]
    omega

/-- The bias's block at a point. -/
theorem blk2 (t : Fin cfg0.N) (q : Fin 1024) (j : Fin 24576) (hj : j.val = 1024 * t.val + q.val) :
    iblk m c 2 t (ix2 0 q) = bias m c (ix2 0 j) := by
  obtain ⟨e0, e1⟩ := index2 t
  refine Eq.trans ?_ (bias_apply m c j)
  show V m c main_v2 _ = _
  refine congrArg (V m c main_v2) (funext fun a => Fin.ext ?_)
  match a with
  | ⟨0, _⟩ =>
    show win0_2.index t 0 * 1 + 1 * 0 = 0
    rw [e0]
  | ⟨1, _⟩ =>
    show win0_2.index t 1 * 1024 + 1 * q.val = j.val
    rw [e1, hj]
    omega

/-- WHAT POINT `t` WRITES BACK for row `p`, column `q` of its block. -/
theorem point_eq (t : Fin cfg0.N) (p : Fin 8) (q : Fin 1024) (j : Fin 24576) (hj : j.val = 1024 * t.val + q.val) :
    (dats m 0 c).flushed 3 t (ix2 p q) = (∑ k : Fin 4096, silu (cond m c (ix2 p k)) * weights m c (ix3 0 k j)) + bias m c (ix2 0 j) := by
  rw [Value.flushed3]
  show out0_3 _ _ _ (ix2 p q) = _
  unfold out0_3
  rw [View.canon_unit_zero (by decide), View.ld_unit_zero (by decide), View.ld_unit_zero (by decide), View.ld_unit_zero (by decide)]
  refine (block_apply _ _ _ p q).trans ?_
  refine congrArg₂ (· + ·) (Finset.sum_congr rfl fun k _ => congrArg₂ (· * ·) (congrArg silu (blk0 m c t p k)) (blk1 m c t k q j hj)) (blk2 m c t q j hj)

/-- THE KERNEL'S RESULT at an index. -/
theorem array_eq (i : S8x24576.Idx) :
    (dats m 0 c).arrAt 3 cfg0.N i = (∑ k : Fin 4096, silu (cond m c (ix2 (i 0) k)) * weights m c (ix3 0 k (i 1))) + bias m c (ix2 0 (i 1)) := by
  have hr : (i 1).val < 24576 := (i 1).isLt
  have ht : (i 1).val / 1024 < cfg0.N := Nat.lt_of_lt_of_eq (by omega : _ < 24) N_0.symm
  obtain ⟨e0, e1⟩ := index3 ⟨_, ht⟩
  have hb := (congrFun (Value.blocks3 m c ⟨_, ht⟩ (flush0_3 _)) (ix2 (i 0) ⟨(i 1).val % 1024, by omega⟩)).trans
    (point_eq m c ⟨_, ht⟩ (i 0) _ (i 1) (by show (i 1).val = 1024 * ((i 1).val / 1024) + (i 1).val % 1024; omega))
  refine Eq.trans (congrArg ((dats m 0 c).arrAt 3 cfg0.N) (funext fun a => Fin.ext ?_)) hb
  match a with
  | ⟨0, _⟩ =>
    show (i 0).val = win0_3.index ⟨_, ht⟩ 0 * 8 + 1 * (i 0).val
    rw [e0]
    omega
  | ⟨1, _⟩ =>
    show (i 1).val = win0_3.index ⟨_, ht⟩ 1 * 1024 + 1 * ((i 1).val % 1024)
    rw [e1]
    show (i 1).val = (i 1).val / 1024 * 1024 + 1 * ((i 1).val % 1024)
    omega

end Kernel

open Cert.Reference13Ideal in
open Cert.Reference13Ideal.Gen in
/-- The reference's result at an index. -/
theorem reference_apply (x : FVec Ideal S8x4096 .f32) (w : FVec Ideal S1x4096x24576 .f32) (b : FVec Ideal S1x24576 .f32) (i : Fin 8) (j : Fin 24576) :
    addf (F := Ideal) (Host.dotGeneral dot_S8x4096_S4096x24576_S8x24576_1_0_0_1_n_n none (mulf x (Host.divf (broadcastInDim S8x4096 ![] bcast_S_S8x4096 (constant S_ .f32 0x3F800000#32)) (addf (broadcastInDim S8x4096 ![] bcast_S_S8x4096 (constant S_ .f32 0x3F800000#32)) (Host.exp (Host.negf x))))) (shapeCast _ w shapeCasts_S1x4096x24576_S4096x24576)) (broadcastInDim S8x24576 ![0, 1] bcast_S1x24576_S8x24576_0_1 (broadcastInDim S1x24576 ![1] bcast_S24576_S1x24576_1 (shapeCast _ b shapeCasts_S1x24576_S24576))) (ix2 i j)
      = (∑ k : Fin 4096, silu (x (ix2 i k)) * w (ix3 0 k j)) + b (ix2 0 j) := by
  pointwise
  rfl

/-- The modulation: the value claim. -/
theorem algebraic : Cert.algebraic_Kernel13Ideal_Reference13Ideal := by
  intro m ρ m' ρ' _ hagree
  refine ⟨fun c => (Cert.Kernel13Ideal.Gen.dats m 0 c).arrAt 3 Cert.Kernel13Ideal.cfg0.N,
    Cert.Kernel13Ideal.Value.run_blocks (F := Ideal) m ρ, ?_⟩
  refine (θ_run _ _ _).mono (fun _ h c => ⟨(h c).1.trans ?_, (h c).2⟩) (Cert.Reference13Ideal.Value.run (F := Ideal) m' ρ')
  rw [(hagree c).1, (hagree c).2.1, (hagree c).2.2]
  funext i
  exact (congrArg _ (ix2_eta i).symm).trans ((reference_apply _ _ _ (i 0) (i 1)).trans (array_eq m c i).symm)

/-- The reference's frame. -/
theorem frame_reference : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

end Cert.Modulation

end
-- ==== Proof.Layout.lean ====
/- The input projection's weights: the sections of the columns, transposed, rounded and laid out with a gap, beside the plain concatenation. -/
module

public import proofs.«01_k».proof.Defs
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import Idealize.ShloMosaic.Lib.Pointwise
public import Idealize.ShloMosaic.Adequacy
public import Idealize.ShloMosaic.Init

@[expose] public section

set_option maxRecDepth 65536

noncomputable section

namespace Cert.Layout

open Idealize.ShloMosaic Idealize.ShloMosaic.TcCoe Idealize.SL.Sem

/-- The weights' column laid at column `j` of the layout: the first 1728 stay, then 320 of zeros, then the others. -/
def spread (w : Fin 7872 → EReal) (j : Fin 8192) : EReal :=
  if h : j.val < 1728 then w ⟨j.val, by omega⟩
  else if j.val < 2048 then 0 else w ⟨j.val - 320, by omega⟩

section Kernel
open Cert.Kernel14Ideal Cert.Kernel14Ideal.Gen

/-- The choice that the layout makes at the point with the gap. -/
theorem select_gap (n : Fin 16) (a b : EReal) :
    Scalar.select (Scalar.cmpi .eq (BitVec.ofNat 32 n.val) 3#32) a b = if n.val = 3 then a else b := by
  have e : ∀ n : Fin 16, Scalar.cmpi .eq (BitVec.ofNat 32 n.val) 3#32 = if n.val = 3 then 1#1 else 0#1 := by decide
  rw [e n]
  by_cases h : n.val = 3
  · rw [if_pos h, if_pos h]
    rfl
  · rw [if_neg h, if_neg h]
    rfl

/-- A point's block at an index: the slab that the column lies in, or zero in the gap. -/
theorem block_apply (i : grid0.Coords) (X : Fin 8 → FVec Ideal S64x4096 .f32) (p : Fin 4096) (k : Fin 8) (r : Fin 64) (q : Fin 512)
    (hq : q.val = 64 * k.val + r.val) :
    k0_pay1 (F := Ideal) (k0_pay2 i (X 0) (X 1) (X 2) (X 3) (X 4) (X 5) (X 6) (X 7)) (ix2 p q)
      = if (i 0).val = 3 ∧ 3 ≤ k.val then (0 : EReal) else X k (ix2 r p) := by
  have hr := r.isLt
  have hs : ∀ a b : EReal, Scalar.select (Scalar.cmpi .eq (BitVec.ofNat 32 (i 0).val) 3#32) a b
      = if (i 0).val = 3 then a else b := fun a b => select_gap (i 0) a b
  have hf : ∀ (a : ℕ) (h : a < 64), a = r.val → (⟨a, h⟩ : Fin 64) = r := fun a h e => Fin.ext e
  pointwise [k0_pay1, k0_pay2]
  simp only [hs]
  obtain ⟨n, hn⟩ := k
  dsimp only at hq ⊢
  interval_cases n <;>
    (repeat rw [dif_neg (by omega)]) <;> (try rw [dif_pos (by omega)]) <;> rw [hf _ _ (by omega)] <;>
    first
    | exact (if_neg fun h => absurd h.2 (by decide)).symm
    | exact if_congr (by simp) rfl rfl

/-- The slab of the weights' rows that window `k` holds at point `t`. -/
def source (t k : ℕ) : ℕ := if t ≤ 3 then 8 * t + k else 8 * t + k - 5

/-- Where the weights' windows lie at point `t`. -/
theorem index : ∀ t : Fin cfg0.N,
    (win0_0.index t 0 = source t.val 0 ∧ win0_0.index t 1 = 0) ∧ (win0_1.index t 0 = source t.val 1 ∧ win0_1.index t 1 = 0) ∧
    (win0_2.index t 0 = source t.val 2 ∧ win0_2.index t 1 = 0) ∧ (win0_3.index t 0 = source t.val 3 ∧ win0_3.index t 1 = 0) ∧
    (win0_4.index t 0 = source t.val 4 ∧ win0_4.index t 1 = 0) ∧ (win0_5.index t 0 = source t.val 5 ∧ win0_5.index t 1 = 0) ∧
    (win0_6.index t 0 = source t.val 6 ∧ win0_6.index t 1 = 0) ∧ (win0_7.index t 0 = source t.val 7 ∧ win0_7.index t 1 = 0) :=
  (by decide +kernel : ∀ t : Fin grid0.N,
    (win0_0.index t 0 = source t.val 0 ∧ win0_0.index t 1 = 0) ∧ (win0_1.index t 0 = source t.val 1 ∧ win0_1.index t 1 = 0) ∧
    (win0_2.index t 0 = source t.val 2 ∧ win0_2.index t 1 = 0) ∧ (win0_3.index t 0 = source t.val 3 ∧ win0_3.index t 1 = 0) ∧
    (win0_4.index t 0 = source t.val 4 ∧ win0_4.index t 1 = 0) ∧ (win0_5.index t 0 = source t.val 5 ∧ win0_5.index t 1 = 0) ∧
    (win0_6.index t 0 = source t.val 6 ∧ win0_6.index t 1 = 0) ∧ (win0_7.index t 0 = source t.val 7 ∧ win0_7.index t 1 = 0))
/-- Where the result's window lies at point `t`, and the point's coordinate. -/
theorem index8 : ∀ t : Fin cfg0.N, win0_8.index t 0 = 0 ∧ win0_8.index t 1 = t.val ∧ (grid0.coords t 0).val = t.val :=
  (by decide +kernel : ∀ t : Fin grid0.N, win0_8.index t 0 = 0 ∧ win0_8.index t 1 = t.val ∧ (grid0.coords t 0).val = t.val)

variable (m : (ℓ : Loc nD τ sig) → Buf (Elt Ideal) ℓ) (c : Dev nD)

/-- The weights. -/
abbrev weights : FVec Ideal S1x4096x7872 .f32 := m ((c.tc : Thread nD τ).loc main_arg0)

/-- The transposed weights that the launch finds. -/
theorem weights_apply (j : Fin 7872) (p : Fin 4096) : V m c main_v1 (ix2 j p) = weights m c (ix3 0 p j) := by
  have e : V m c main_v1 = transpose S7872x4096 [1, 0] (shapeCast S4096x7872 (weights m c) shapeCasts_S1x4096x7872_S4096x7872) transposes_S4096x7872_S7872x4096_1_0 := by
    entry_read
    rfl
  rw [e]
  generalize weights m c = X
  pointwise

/-- An index of the transposed weights, by the window it lies in. -/
theorem piece (f : Fin 2 → ℕ) (s : ℕ) (hf : f 0 = s ∧ f 1 = 0) (r : Fin 64) (p : Fin 4096) (j : Fin 7872) (hj : j.val = 64 * s + r.val)
    (y : S7872x4096.Idx) (h0 : (y 0).val = f 0 * 64 + 1 * r.val) (h1 : (y 1).val = f 1 * 4096 + 1 * p.val) :
    V m c main_v1 y = weights m c (ix3 0 p j) := by
  rw [← weights_apply]
  refine congrArg (V m c main_v1) (funext fun a => Fin.ext ?_)
  match a with
  | ⟨0, _⟩ =>
    show (y 0).val = j.val
    rw [h0, hf.1, hj]
    omega
  | ⟨1, _⟩ =>
    show (y 1).val = p.val
    rw [h1, hf.2]
    omega

/-- The eight slabs that point `t` holds. -/
def slabs (t : Fin cfg0.N) : Fin 8 → FVec Ideal S64x4096 .f32 :=
  ![iblk m c 0 t, iblk m c 1 t, iblk m c 2 t, iblk m c 3 t, iblk m c 4 t, iblk m c 5 t, iblk m c 6 t, iblk m c 7 t]

/-- A slab at an index. -/
theorem slabs_apply (t : Fin cfg0.N) (k : Fin 8) (r : Fin 64) (p : Fin 4096) (j : Fin 7872)
    (hj : j.val = 64 * source t.val k.val + r.val) : slabs m c t k (ix2 r p) = weights m c (ix3 0 p j) := by
  obtain ⟨e0, e1, e2, e3, e4, e5, e6, e7⟩ := index t
  match k with
  | ⟨0, _⟩ => exact piece m c (win0_0.index t) _ e0 r p j hj _ rfl rfl
  | ⟨1, _⟩ => exact piece m c (win0_1.index t) _ e1 r p j hj _ rfl rfl
  | ⟨2, _⟩ => exact piece m c (win0_2.index t) _ e2 r p j hj _ rfl rfl
  | ⟨3, _⟩ => exact piece m c (win0_3.index t) _ e3 r p j hj _ rfl rfl
  | ⟨4, _⟩ => exact piece m c (win0_4.index t) _ e4 r p j hj _ rfl rfl
  | ⟨5, _⟩ => exact piece m c (win0_5.index t) _ e5 r p j hj _ rfl rfl
  | ⟨6, _⟩ => exact piece m c (win0_6.index t) _ e6 r p j hj _ rfl rfl
  | ⟨7, _⟩ => exact piece m c (win0_7.index t) _ e7 r p j hj _ rfl rfl

/-- WHAT POINT `t` WRITES BACK at row `p`, column `q` of its block. -/
theorem point_eq (t : Fin cfg0.N) (p : Fin 4096) (q : Fin 512) (j : Fin 8192) (hj : j.val = 512 * t.val + q.val) :
    (dats m 0 c).flushed 8 t (ix2 p q) = spread (fun n => weights m c (ix3 0 p n)) j := by
  have hq := q.isLt
  have hJ := j.isLt
  obtain ⟨_, _, hc⟩ := index8 t
  rw [Value.flushed8]
  show out0_8 _ _ _ _ _ _ _ _ _ (ix2 p q) = _
  unfold out0_8
  rw [View.canon_unit_zero (by decide)]
  repeat rw [View.ld_unit_zero (by decide)]
  refine (block_apply (grid0.coords t) (slabs m c t) p ⟨q.val / 64, by omega⟩ ⟨q.val % 64, by omega⟩ q (by dsimp only; omega)).trans ?_
  rw [hc]
  dsimp only
  unfold spread
  split_ifs with h1 h2 h3 h4 h5
  · omega
  · rfl
  · omega
  · exact slabs_apply m c t _ _ p _ (by dsimp only [source]; split_ifs <;> omega)
  · omega
  · exact slabs_apply m c t _ _ p _ (by dsimp only [source]; split_ifs <;> omega)

/-- THE KERNEL'S RESULT at an index. -/
theorem array_eq (i : S4096x8192.Idx) :
    (dats m 0 c).arrAt 8 cfg0.N i = spread (fun n => weights m c (ix3 0 (i 0) n)) (i 1) := by
  have hj : (i 1).val < 8192 := (i 1).isLt
  have ht : (i 1).val / 512 < cfg0.N := Nat.lt_of_lt_of_eq (by omega : _ < 16) N_0.symm
  obtain ⟨e0, e1, _⟩ := index8 ⟨_, ht⟩
  have hb := congrFun (Value.blocks8 m c ⟨_, ht⟩ (flush0_8 _)) (ix2 (i 0) ⟨(i 1).val % 512, by omega⟩)
  rw [point_eq m c ⟨_, ht⟩ (i 0) ⟨(i 1).val % 512, by omega⟩ (i 1) (by show (i 1).val = 512 * ((i 1).val / 512) + (i 1).val % 512; omega)] at hb
  refine Eq.trans (congrArg ((dats m 0 c).arrAt 8 cfg0.N) (funext fun a => Fin.ext ?_)) hb
  match a with
  | ⟨0, _⟩ =>
    show (i 0).val = win0_8.index ⟨_, ht⟩ 0 * 4096 + 1 * (i 0).val
    rw [e0]
    omega
  | ⟨1, _⟩ =>
    show (i 1).val = win0_8.index ⟨_, ht⟩ 1 * 512 + 1 * ((i 1).val % 512)
    rw [e1]
    show (i 1).val = (i 1).val / 512 * 512 + 1 * ((i 1).val % 512)
    omega

end Kernel

open Cert.Reference14Ideal in
open Cert.Reference14Ideal.Gen in
/-- The reference's layout at an index. -/
theorem reference_apply (w : FVec Ideal S1x4096x7872 .f32) (p : Fin 4096) (j : Fin 8192) :
    truncf (F := Ideal) .bf16 ((concatenate S4096x8192 1 [⟨S4096x1728, (extractStridedSlice S4096x1728 ![0, 0] (shapeCast _ w shapeCasts_S1x4096x7872_S4096x7872) slices_S4096x7872_S4096x1728_0_0)⟩, ⟨S4096x320, (broadcastInDim S4096x320 ![] bcast_S_S4096x320 (constant S_ .f32 0x00000000#32))⟩, ⟨S4096x6144, (extractStridedSlice S4096x6144 ![0, 1728] (shapeCast _ w shapeCasts_S1x4096x7872_S4096x7872) slices_S4096x7872_S4096x6144_0_1728)⟩] concatenates_S4096x1728_S4096x320_S4096x6144_S4096x8192_d1)) bitsLt_bf16_f32 (ix2 p j)
      = spread (fun q => w (ix3 0 p q)) j := by
  unfold spread
  pointwise
  split_ifs <;> first | omega | rfl | skip
  refine Eq.trans ?_ (if_neg (by omega)).symm
  exact congrArg w (congrArg (ix3 0 p) (Fin.ext (by show 1728 + (j.val - 1728 - 320) = j.val - 320; omega)))

/-- The layout of the projection's weights: the value claim. -/
theorem algebraic : Cert.algebraic_Kernel14Ideal_Reference14Ideal := by
  intro m ρ m' ρ' _ hagree
  refine ⟨fun c => (Cert.Kernel14Ideal.Gen.dats m 0 c).arrAt 8 Cert.Kernel14Ideal.cfg0.N, Cert.Kernel14Ideal.Value.run_blocks (F := Ideal) m ρ, ?_⟩
  refine (θ_run _ _ _).mono (fun _ h c => ⟨(h c).1.trans ?_, (h c).2⟩) (Cert.Reference14Ideal.Value.run (F := Ideal) m' ρ')
  rw [hagree c]
  funext i
  exact (congrArg _ (ix2_eta i).symm).trans ((reference_apply _ (i 0) (i 1)).trans (array_eq m c i).symm)

/-- The reference's frame. -/
theorem frame_reference : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

end Cert.Layout

end
-- ==== Proof.Bias.lean ====
/- The table of position biases: 32 choices in turn by the bucket, beside the rows taken by index. -/
module

public import proofs.«01_k».proof.Defs
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import Idealize.ShloMosaic.Lib.Pointwise
public import Idealize.ShloMosaic.Lib.StableHlo.Predicate
public import Idealize.ShloMosaic.Adequacy
public import Idealize.ShloMosaic.Init

@[expose] public section

set_option maxRecDepth 65536

noncomputable section

namespace Cert.Bias

open Idealize.ShloMosaic Idealize.ShloMosaic.TcCoe Idealize.SL.Sem

/-- The distance at which the logarithm takes over. -/
theorem eight : Ideal.ofBits .f32 0x41000000#32 = ((8 : ℝ) : EReal) := by
  simp [Ideal.ofBits, Ideal.ieee, -EReal.coe_mul]
  norm_num

/-- The logarithm's scale, as rounded. -/
theorem scale : Ideal.ofBits .f32 0x40317218#32 = ((11629080 / 4194304 : ℝ) : EReal) := by
  simp [Ideal.ofBits, Ideal.ieee, -EReal.coe_mul]
  norm_num

/-- The part of a distance's bucket that grows with its logarithm. -/
def far (n : BitVec 32) : BitVec 32 :=
  Ideal.fptosi 32 (Ideal.div (Ideal.log (Ideal.div ((((IntOp.maxsi n 1#32).toInt : ℝ) : EReal)) (Ideal.ofBits .f32 0x41000000#32))) (Ideal.ofBits .f32 0x40317218#32) * Ideal.ofBits .f32 0x41000000#32)

/-- The bucket of a place relative to the query. -/
def bucket (r : BitVec 32) : BitVec 32 :=
  IntOp.addi (Scalar.select (IntOp.cmpi .sgt r 0#32) 16#32 0#32)
    (Scalar.select (IntOp.cmpi .slt (IntOp.absi r) 8#32) (IntOp.absi r) (IntOp.minsi (IntOp.addi 8#32 (far (IntOp.absi r))) 15#32))

/-- The logarithmic part is a small natural number: the logarithm is not negative from eight on, and below the distance. -/
theorem far_bounds (n : ℕ) (h8 : 8 ≤ n) (hn : n < 256) : ∃ k : ℕ, k < 256 ∧ far (BitVec.ofNat 32 n) = BitVec.ofNat 32 k := by
  have hmax : (IntOp.maxsi (BitVec.ofNat 32 n) 1#32).toInt = n := by
    have ht := StableHlo.Predicate.toInt_ofNat_small n (by omega)
    have h1 : (1#32 : BitVec 32).toInt = 1 := by decide
    unfold IntOp.maxsi
    split <;> rename_i hc <;> simp only [BitVec.slt, ht, h1, decide_eq_true_eq] at hc
    all_goals first | exact ht | (rw [h1]; omega)
  have hpos : (0 : ℝ) < ((n : ℤ) : ℝ) * (1 / 8) := by
    have : (8 : ℝ) ≤ (n : ℝ) := by exact_mod_cast h8
    push_cast
    linarith
  have hge : (1 : ℝ) ≤ ((n : ℤ) : ℝ) * (1 / 8) := by
    have : (8 : ℝ) ≤ (n : ℝ) := by exact_mod_cast h8
    push_cast
    linarith
  have hlt : ((n : ℤ) : ℝ) < 256 := by exact_mod_cast hn
  have ea : Ideal.div ((((n : ℤ) : ℝ)) : EReal) ((8 : ℝ) : EReal) = ((((n : ℤ) : ℝ) * (1 / 8) : ℝ) : EReal) := by
    rw [Ideal.div_coe (by norm_num), ← EReal.coe_mul]
  unfold far
  rw [hmax, eight, scale, ea, Ideal.log_coe, if_neg (not_le.mpr hpos), Ideal.div_coe (by norm_num), ← EReal.coe_mul, ← EReal.coe_mul]
  have h0 : 0 ≤ Real.log (((n : ℤ) : ℝ) * (1 / 8)) := Real.log_nonneg hge
  have h1 := Real.log_le_sub_one_of_pos hpos
  generalize hL : Real.log (((n : ℤ) : ℝ) * (1 / 8)) = L at *
  set y : ℝ := L * (1 / (11629080 / 4194304)) * 8 with hy
  have y0 : 0 ≤ y := by positivity
  have y1 : y < 256 := by
    have : y = L * (8 * 4194304 / 11629080) := by rw [hy]; ring
    rw [this]
    nlinarith
  have f0 : 0 ≤ ⌊y⌋ := Int.floor_nonneg.mpr y0
  have f1 : ⌊y⌋ < 256 := Int.floor_lt.mpr (by exact_mod_cast y1)
  refine ⟨⌊y⌋.toNat, by omega, ?_⟩
  show BitVec.ofInt 32 (max (-((2 ^ 31 : ℕ) : ℤ)) (min (((2 ^ 31 : ℕ) : ℤ) - 1) (if 0 ≤ y then ⌊y⌋ else ⌈y⌉))) = _
  rw [if_pos y0, ← BitVec.ofInt_natCast]
  congr 1
  omega

/-- A bucket is one of the table's 32 rows. -/
theorem bucket_lt (r : BitVec 32) (h : (IntOp.absi r).toNat < 256) : (bucket r).toNat < 32 := by
  have e : IntOp.absi r = BitVec.ofNat 32 (IntOp.absi r).toNat := ((BitVec.ofNat_toNat 32 _).trans (BitVec.setWidth_eq _)).symm
  have hs : (Scalar.select (IntOp.cmpi .sgt r 0#32) 16#32 0#32 : BitVec 32) = 16#32 ∨ (Scalar.select (IntOp.cmpi .sgt r 0#32) 16#32 0#32 : BitVec 32) = 0#32 := by
    unfold Scalar.select
    split <;> simp
  have ht : (Scalar.select (IntOp.cmpi .slt (IntOp.absi r) 8#32) (IntOp.absi r) (IntOp.minsi (IntOp.addi 8#32 (far (IntOp.absi r))) 15#32) : BitVec 32).toNat < 16 := by
    unfold Scalar.select
    split <;> rename_i hc
    · have := (StableHlo.Predicate.slt_iff_toNat (by omega) (by decide)).mp hc
      have : (8#32 : BitVec 32).toNat = 8 := by decide
      omega
    · have h8 : 8 ≤ (IntOp.absi r).toNat := by
        by_contra hh
        refine hc ((StableHlo.Predicate.slt_iff_toNat (by omega) (by decide)).mpr ?_)
        show (IntOp.absi r).toNat < 8
        omega
      obtain ⟨k, hk, ek⟩ := far_bounds _ h8 h
      rw [e, ek]
      have : IntOp.addi 8#32 (BitVec.ofNat 32 k) = BitVec.ofNat 32 (8 + k) := by
        unfold IntOp.addi
        exact (BitVec.ofNat_add 8 k).symm
      rw [this]
      have t1 := StableHlo.Predicate.toInt_ofNat_small (8 + k) (by omega)
      have t2 : (15#32 : BitVec 32).toInt = 15 := by decide
      have t3 : (15#32 : BitVec 32).toNat = 15 := by decide
      unfold IntOp.minsi
      split <;> rename_i hd <;> simp only [BitVec.slt, t1, t2, decide_eq_true_eq] at hd
      · rw [BitVec.toNat_ofNat]; omega
      · omega
  unfold bucket
  generalize (Scalar.select (IntOp.cmpi .slt (IntOp.absi r) 8#32) (IntOp.absi r) (IntOp.minsi (IntOp.addi 8#32 (far (IntOp.absi r))) 15#32) : BitVec 32) = t at ht
  unfold IntOp.addi
  rcases hs with hs | hs <;> rw [hs, BitVec.toNat_add] <;> simp only [BitVec.toNat_ofNat] <;> omega

/-- The place of column `q` relative to the query of row `p`. -/
abbrev place (p : Fin 128) (q : Fin 256) : BitVec 32 := IntOp.subi (IntOp.subi (BitVec.ofNat 32 q.val) 128#32) (BitVec.ofNat 32 p.val)

/-- A place is fewer than 256 away. -/
theorem place_bound (p : Fin 128) (q : Fin 256) : (IntOp.absi (place p q)).toNat < 256 := by
  have hp := p.isLt
  have hq := q.isLt
  unfold place IntOp.absi IntOp.subi
  split <;> simp [BitVec.toNat_sub, BitVec.toNat_neg, BitVec.slt, BitVec.msb_eq_decide] at * <;> omega

section Kernel
open Cert.Kernel15Ideal Cert.Kernel15Ideal.Gen

/-- The kernel's buckets at an index. -/
theorem bucket_apply (p : Fin 128) (q : Fin 256) : k0_pay2 (F := Ideal) (ix2 p q) = bucket (place p q) := by
  pointwise [k0_pay2]
  rfl

/-- A choice by a word's equality. -/
theorem select_eq (a b : BitVec 32) (x y : EReal) : Scalar.select (IntOp.cmpi .eq a b) x y = if a = b then x else y := by
  unfold Scalar.select
  by_cases h : a = b
  · rw [if_pos h]; exact if_pos (StableHlo.Predicate.cmpi_eq_iff.mpr h)
  · rw [if_neg h]; exact if_neg (fun hh => h (StableHlo.Predicate.cmpi_eq_iff.mp hh))

variable (c : Dev nD) (i : grid0.Coords) (a1 : Memref sig .tc .smem S32x16 .f32) (h1 : a1.IsWhole) (a2 : Memref sig .tc .vmem S1x128x256 .f32) (h2 : a2.IsWhole) (x : Vec Ideal S32x16 .f32)

/-- A head's block at an index: of the 32 choices in turn, the one made is the bucket's row. -/
theorem block_apply (p : Fin 128) (q : Fin 256) (n : Fin 32) (hn : n.val = (bucket (place p q)).toNat) :
    out0_A_1 c i a1 h1 a2 h2 x (ix3 0 p q) = (x (ix2 n (i 0)) - x (ix2 15 (i 0))) * Ideal.ofBits .f32 0x413504F3#32 := by
  unfold out0_A_1
  rw [View.read_writes_junk_eq_canon]
  unfold kernelRun0_A
  dsimp only
  sl_unfold_words
  simp only [View.readAt_eq_ld, h1.read_unread]
  rw [View.canon_unit_zero (by decide)]
  pointwise [k0_pay1, k0_pay3, k0_pay4, k0_pay5, k0_pay6, k0_pay7, k0_pay8, k0_pay9]
  have hh : ∀ h, (⟨BitVec.toNat (Scalar.indexCast (BitVec.ofNat 32 (i 0).val)), h⟩ : Fin 16) = i 0 := fun h => Fin.ext (by
    have hi : (i 0).val < 16 := (i 0).isLt
    show (BitVec.ofNat 32 (i 0).val).toNat = (i 0).val
    rw [BitVec.toNat_ofNat]
    omega)
  have hb : k0_pay2 (F := Ideal) (ix2 p q) = BitVec.ofNat 32 n.val := by
    rw [bucket_apply, hn]
    exact ((BitVec.ofNat_toNat 32 _).trans (BitVec.setWidth_eq _)).symm
  rw [hb]
  simp only [hh, select_eq]
  generalize i 0 = h
  clear hb hn
  refine congrArg (fun z => (z - x (ix2 15 h)) * Ideal.ofBits .f32 0x413504F3#32) ?_
  fin_cases n <;> rfl

variable (m : (ℓ : Loc nD τ sig) → Buf (Elt Ideal) ℓ) (c : Dev nD)

/-- Where the table's window lies at point `t`, and the head of the point. -/
theorem index1 : ∀ t : Fin cfg0.N, win0_1.index t 0 = t.val ∧ win0_1.index t 1 = 0 ∧ win0_1.index t 2 = 0 ∧ (grid0.coords t 0).val = t.val :=
  (by decide +kernel : ∀ t : Fin grid0.N, win0_1.index t 0 = t.val ∧ win0_1.index t 1 = 0 ∧ win0_1.index t 2 = 0 ∧ (grid0.coords t 0).val = t.val)

/-- Where the biases' window lies. -/
theorem index0 : ∀ t : Fin cfg0.N, win0_0.index t 0 = 0 ∧ win0_0.index t 1 = 0 :=
  (by decide +kernel : ∀ t : Fin grid0.N, win0_0.index t 0 = 0 ∧ win0_0.index t 1 = 0)

/-- The biases as launched. -/
abbrev biases : FVec Ideal S32x16 .f32 := m ((c : Thread nD τ).loc main_arg0)

/-- The biases' block is the whole array at every point. -/
theorem blk0 (t : Fin cfg0.N) (n : Fin 32) (h : Fin 16) : iblk m c 0 t (ix2 n h) = biases m c (ix2 n h) := by
  obtain ⟨e0, e1⟩ := index0 t
  refine Eq.trans ?_ (congrFun (V_main_arg0 m c) _)
  refine congrArg (V m c main_arg0) (funext fun a => Fin.ext ?_)
  match a with
  | ⟨0, _⟩ =>
    show win0_0.index t 0 * 32 + 1 * n.val = n.val
    rw [e0]
    omega
  | ⟨1, _⟩ =>
    show win0_0.index t 1 * 16 + 1 * h.val = h.val
    rw [e1]
    omega

/-- The bias of a head for a place, over the farthest place's, scaled. -/
def bias (w : FVec Ideal S32x16 .f32) (h : Fin 16) (p : Fin 128) (q : Fin 256) : EReal :=
  (w (ix2 ⟨(bucket (place p q)).toNat, bucket_lt _ (place_bound p q)⟩ h) - w (ix2 15 h)) * Ideal.ofBits .f32 0x413504F3#32

/-- What a point writes back. -/
theorem point_eq (t : Fin cfg0.N) (h : Fin 16) (ht : h.val = t.val) (p : Fin 128) (q : Fin 256) :
    (dats m 0 c).flushed 1 t (ix3 0 p q) = bias (biases m c) h p q := by
  obtain ⟨_, _, _, e⟩ := index1 t
  have hh : (grid0.coords t 0 : Fin 16) = h := Fin.ext (e.trans ht.symm)
  rw [Value.flushed1_A]
  refine (block_apply c (grid0.coords t) (ms0_0 t) (hs0_0 t) (ms0_1 t) (hs0_1 t) (iblk m c 0 t) p q ⟨(bucket (place p q)).toNat, bucket_lt _ (place_bound p q)⟩ rfl).trans ?_
  unfold bias
  rw [hh]
  exact congrArg₂ (fun a b => (a - b) * Ideal.ofBits .f32 0x413504F3#32) (blk0 m c t _ h) (blk0 m c t 15 h)

/-- THE KERNEL'S RESULT at an index. -/
theorem array_eq (i : S16x128x256.Idx) : (dats m 0 c).arrAt 1 cfg0.N i = bias (biases m c) (i 0) (i 1) (i 2) := by
  have h0 : (i 0).val < 16 := (i 0).isLt
  have ht : (i 0).val < cfg0.N := Nat.lt_of_lt_of_eq h0 N_0.symm
  obtain ⟨e0, e1, e2, _⟩ := index1 ⟨_, ht⟩
  have hb := congrFun (Value.blocks1 m c ⟨_, ht⟩ (flush0_1 _)) (ix3 0 (i 1) (i 2))
  rw [point_eq m c ⟨_, ht⟩ (i 0) rfl (i 1) (i 2)] at hb
  refine Eq.trans (congrArg ((dats m 0 c).arrAt 1 cfg0.N) (funext fun a => Fin.ext ?_)) hb
  match a with
  | ⟨0, _⟩ =>
    show (i 0).val = win0_1.index ⟨_, ht⟩ 0 * 1 + 1 * 0
    rw [e0]
    show (i 0).val = (i 0).val * 1 + 1 * 0
    omega
  | ⟨1, _⟩ =>
    show (i 1).val = win0_1.index ⟨_, ht⟩ 1 * 128 + 1 * (i 1).val
    rw [e1]
    omega
  | ⟨2, _⟩ =>
    show (i 2).val = win0_1.index ⟨_, ht⟩ 2 * 256 + 1 * (i 2).val
    rw [e2]
    omega

end Kernel

section Reference
open Cert.Reference15Ideal Cert.Reference15Ideal.Gen
/-- The reference's rows taken by index, at an index that is one of the table's. -/
theorem take (x : FVec Ideal S32x16 .f32) (idx : IVec S128x256x1 32) (p : Fin 128) (q : Fin 256) (h : Fin 16) (n : Fin 32)
    (hn : idx (ix3 p q 0) = BitVec.ofNat 32 n.val) :
    Host.gather gather_S32x16_S128x256x1_S128x256x16_2_0_n_n_0_2_116 x idx (ix3 p q h) = x (ix2 n h) := by
  unfold Host.gather
  refine congrArg x (funext fun a => Fin.ext ?_)
  have hs : gather_S32x16_S128x256x1_S128x256x16_2_0_n_n_0_2_116.siIdx (ix3 p q h) ⟨0, by decide⟩ = ix3 p q 0 := by
    funext b
    match b with
    | ⟨0, _⟩ => rfl
    | ⟨1, _⟩ => rfl
    | ⟨2, _⟩ => rfl
  match a with
  | ⟨0, _⟩ =>
    show min (idx (gather_S32x16_S128x256x1_S128x256x16_2_0_n_n_0_2_116.siIdx (ix3 p q h) ⟨0, by decide⟩)).toInt.toNat 31 + 0 + 0 = n.val
    have hl := n.isLt
    rw [hs, hn, StableHlo.Predicate.toInt_ofNat_small _ (by omega)]
    omega
  | ⟨1, _⟩ =>
    show 0 + 0 + h.val = h.val
    omega

/-- A word wrapped into the table from its end, as an index below zero is. -/
def wrap (b : BitVec 32) : BitVec 32 := Scalar.select (IntOp.cmpi .slt b 0#32) (IntOp.addi b 32#32) b

/-- A word of the table's rows is not wrapped. -/
theorem wrap_eq (b : BitVec 32) (h : b.toNat < 32) : wrap b = b := by
  refine if_neg fun hh => ?_
  have := (StableHlo.Predicate.slt_iff_toNat (by omega) (by decide)).mp hh
  exact Nat.not_lt_zero _ this

/-- The reference's table at an index. -/
theorem reference_apply (m : (ℓ : Loc nD τ sig) → Buf (Elt Ideal) ℓ) (c : Dev nD) (h : Fin 16) (p : Fin 128) (q : Fin 256) :
    Cert.Reference15Ideal.Value.res_main_v47 m c (ix3 h p q) = bias (m ((c : Thread nD τ).loc main_arg0)) h p q := by
  unfold Cert.Reference15Ideal.Value.res_main_v47 bias
  pointwise
  refine congrArg (fun z => (z - m (c.tc.loc main_arg0) (ix2 15 h)) * Ideal.ofBits .f32 0x413504F3#32) (take _ _ p q h _ ?_)
  pointwise
  show wrap (bucket (place p q)) = _
  rw [wrap_eq _ (bucket_lt _ (place_bound p q))]
  exact ((BitVec.ofNat_toNat 32 _).trans (BitVec.setWidth_eq _)).symm

end Reference

/-- The table of biases: the value claim. -/
theorem algebraic : Cert.algebraic_Kernel15Ideal_Reference15Ideal := by
  intro m ρ m' ρ' _ hagree
  refine ⟨fun c => (Cert.Kernel15Ideal.Gen.dats m 0 c).arrAt 1 Cert.Kernel15Ideal.cfg0.N, Cert.Kernel15Ideal.Value.run_blocks (F := Ideal) m ρ, ?_⟩
  refine (θ_run _ _ _).mono (fun _ h c => ⟨(h c).1.trans ?_, (h c).2⟩) (Cert.Reference15Ideal.Value.run (F := Ideal) m' ρ')
  funext i
  refine (congrArg _ (ix3_eta i).symm).trans ((reference_apply m' c (i 0) (i 1) (i 2)).trans (Eq.trans ?_ (array_eq m c i).symm))
  exact congrArg (fun w => bias w (i 0) (i 1) (i 2)) (hagree c)

/-- The reference's frame. -/
theorem frame_reference : Cert.quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

end Cert.Bias
end
-- ==== Proof.Route.lean ====
module

public import proofs.«01_k».proof.Defs
public import proofs.«01_k».proof.Proof.Gen.Kernel16Ideal.Frame
public import proofs.«01_k».proof.Proof.Gen.Kernel16Ideal.Value
public import proofs.«01_k».proof.Proof.Gen.Reference16Ideal.Run
public import Idealize.ShloMosaic.Lib.Pointwise

/-! The scores of the experts' keys: the products of both halves of a head's query with the keys, stored by tiles of
128 tokens, and the second half's largest score, read back from the scratch rows. -/

@[expose] public section

set_option maxRecDepth 65536

noncomputable section

namespace Cert.Route

open Idealize.ShloMosaic Idealize.ShloMosaic.TcCoe Idealize.SL.Sem

section Kernel
open Cert.Kernel16Ideal Cert.Kernel16Ideal.Gen

/-- A block's scores of the first half's keys. -/
abbrev first (x : FVec Ideal S256x512 .f32) (w : FVec Ideal S2x128x128 .bf16) : FVec Ideal S128x512 .f32 :=
  k0_pay2 (View.ld w (Rect.unit (s := S2x128x128) ![0, 0, 0] S1x128x128.size inb_S2x128x128_S1x128x128_0_0_0)) (View.ld x (Rect.unit (s := S256x512) ![0, 0] S128x512.size inb_S256x512_S128x512_0_0))
/-- A block's scores of the second half's keys. -/
abbrev second (x : FVec Ideal S256x512 .f32) (w : FVec Ideal S2x128x128 .bf16) : FVec Ideal S128x512 .f32 :=
  k0_pay3 (View.ld w (Rect.unit (s := S2x128x128) ![1, 0, 0] S1x128x128.size inb_S2x128x128_S1x128x128_1_0_0)) (View.ld x (Rect.unit (s := S256x512) ![128, 0] S128x512.size inb_S256x512_S128x512_128_0))

theorem pay2_apply (w : FVec Ideal S1x128x128 .bf16) (x : FVec Ideal S128x512 .f32) (k : Fin 128) (j : Fin 512) :
    k0_pay2 (F := Ideal) w x (ix2 k j) = ∑ d : Fin 128, w (ix3 0 k d) * x (ix2 d j) := by
  pointwise [k0_pay2]
theorem pay3_apply (w : FVec Ideal S1x128x128 .bf16) (x : FVec Ideal S128x512 .f32) (k : Fin 128) (j : Fin 512) :
    k0_pay3 (F := Ideal) w x (ix2 k j) = ∑ d : Fin 128, w (ix3 0 k d) * x (ix2 d j) := by
  pointwise [k0_pay3]

/-- A half's keys and rows of a block, loaded, at an index. -/
theorem keys_load (w : FVec Ideal S2x128x128 .bf16) (g : Fin 2) (ib : ∀ a, (![g.val, 0, 0] : Fin 3 → ℕ) a + S1x128x128.size a ≤ S2x128x128.size a) (k d : Fin 128) :
    (View.ld (Val := Elt Ideal) (e' := .bf16) w (Rect.unit (s := S2x128x128) ![g.val, 0, 0] S1x128x128.size ib) : FVec Ideal S1x128x128 .bf16) (ix3 0 k d) = w (ix3 g k d) := by
  show w _ = w _
  refine congrArg w (funext fun a => Fin.ext ?_)
  match a with
  | ⟨0, _⟩ => rfl
  | ⟨1, _⟩ => show 0 + 1 * k.val = k.val; omega
  | ⟨2, _⟩ => show 0 + 1 * d.val = d.val; omega
theorem rows_load (x : FVec Ideal S256x512 .f32) (o : ℕ) (ib : ∀ a, (![o, 0] : Fin 2 → ℕ) a + S128x512.size a ≤ S256x512.size a) (d : Fin 128) (j : Fin 512) (e : Fin 256) (he : e.val = o + d.val) :
    (View.ld (Val := Elt Ideal) (e' := .f32) x (Rect.unit (s := S256x512) ![o, 0] S128x512.size ib) : FVec Ideal S128x512 .f32) (ix2 d j) = x (ix2 e j) := by
  show x _ = x _
  refine congrArg x (funext fun a => Fin.ext ?_)
  match a with
  | ⟨0, _⟩ => show o + 1 * d.val = e.val; omega
  | ⟨1, _⟩ => show 0 + 1 * j.val = j.val; omega

/-- Entry `d` of half `g` among a block's 256 rows. -/
def half (g : Fin 2) (d : Fin 128) : Fin 256 := ⟨128 * g.val + d.val, by omega⟩

theorem first_apply (x : FVec Ideal S256x512 .f32) (w : FVec Ideal S2x128x128 .bf16) (k : Fin 128) (j : Fin 512) :
    first x w (ix2 k j) = ∑ d : Fin 128, w (ix3 0 k d) * x (ix2 (half 0 d) j) :=
  (pay2_apply _ _ k j).trans (Finset.sum_congr rfl fun d _ => congrArg₂ (· * ·) (keys_load w 0 _ k d) (rows_load x _ _ d j _ (by show 128 * 0 + d.val = 0 + d.val; omega)))
theorem second_apply (x : FVec Ideal S256x512 .f32) (w : FVec Ideal S2x128x128 .bf16) (k : Fin 128) (j : Fin 512) :
    second x w (ix2 k j) = ∑ d : Fin 128, w (ix3 1 k d) * x (ix2 (half 1 d) j) :=
  (pay3_apply _ _ k j).trans (Finset.sum_congr rfl fun d _ => congrArg₂ (· * ·) (keys_load w 1 _ k d) (rows_load x _ _ d j _ (by show 128 * 1 + d.val = 128 + d.val; omega)))

/-- A tile's columns, as stored whole, at an index. -/
theorem tile_apply (P : FVec Ideal S128x512 .f32) (p : ℕ) (hp : p + 128 ≤ 512) (hs : S128x512.Slices ![0, p] S128x128) (k j : Fin 128) :
    shapeCast S1x1x128x128 (extractStridedSlice S128x128 ![0, p] P hs) shapeCasts_S128x128_S1x1x128x128 (ix4 0 0 k j) = P (ix2 k ⟨p + j.val, by omega⟩) := by
  pointwise
/-- Four rows of a tile's columns at an index. -/
theorem rows_apply (P : FVec Ideal S128x512 .f32) (p o : ℕ) (hp : p + 128 ≤ 512) (ho : o + 4 ≤ 128) (hs : S128x512.Slices ![0, p] S128x128) (hh : S128x128.Slices ![o, 0] S4x128) (k : Fin 4) (j : Fin 128) :
    shapeCast S1x1x4x128 (extractStridedSlice S4x128 ![o, 0] (extractStridedSlice S128x128 ![0, p] P hs) hh) shapeCasts_S4x128_S1x1x4x128 (ix4 0 0 k j) = P (ix2 ⟨o + k.val, by omega⟩ ⟨p + j.val, by omega⟩) := by
  pointwise
/-- The largest of a tile's columns at an index. -/
theorem top_apply (P : FVec Ideal S128x512 .f32) (p : ℕ) (hp : p + 128 ≤ 512) (hs : S128x512.Slices ![0, p] S128x128) (j : Fin 128) :
    k0_pay54 (F := Ideal) (extractStridedSlice S128x128 ![0, p] P hs) (ix2 0 j) = Finset.fold max (Ideal.ofBits .f32 0xFF800000#32) (fun k : Fin 128 => P (ix2 k ⟨p + j.val, by omega⟩)) Finset.univ := by
  pointwise [k0_pay54, k0_pay53]

/-- The first half's block: rows in groups of four. -/
def block2 (P : FVec Ideal S128x512 .f32) (z : S1x32x4x512.Idx) : EReal :=
  P (ix2 ⟨4 * (z 1).val + (z 2).val, by have h1 : (z 1).val < 32 := (z 1).isLt; have h2 : (z 2).val < 4 := (z 2).isLt; omega⟩ (z 3))
/-- The second half's block: columns in groups of 128. -/
def block3 (P : FVec Ideal S128x512 .f32) (z : S1x4x128x128.Idx) : EReal :=
  P (ix2 (z 2) ⟨128 * (z 1).val + (z 3).val, by have h1 : (z 1).val < 4 := (z 1).isLt; have h2 : (z 3).val < 128 := (z 3).isLt; omega⟩)
/-- The block of the second half's largest scores. -/
def block5 (P : FVec Ideal S128x512 .f32) (z : S1x1x512.Idx) : EReal :=
  Finset.fold max (Ideal.ofBits .f32 0xFF800000#32) (fun k : Fin 128 => P (ix2 k (z 2))) Finset.univ

/-- EVERY STORE OF FOUR ROWS is the first half's block at the store's own place. -/
theorem piece2 (P : FVec Ideal S128x512 .f32) (o p e : ℕ) (hs : S128x512.Slices ![0, p] S128x128) (hh : S128x128.Slices ![o, 0] S4x128)
    (io : ∀ a, (![0, e, 0, p] : Fin 4 → ℕ) a + S1x1x4x128.size a ≤ S1x32x4x512.size a) (ho : o = 4 * e) (y : S1x1x4x128.Idx) :
    shapeCast S1x1x4x128 (extractStridedSlice S4x128 ![o, 0] (extractStridedSlice S128x128 ![0, p] P hs) hh) shapeCasts_S4x128_S1x1x4x128 y
      = block2 P ((Rect.unit (s := S1x32x4x512) ![0, e, 0, p] S1x1x4x128.size io).emb y) := by
  have he : e + 1 ≤ 32 := io 1
  have hp : p + 128 ≤ 512 := io 3
  have ey : y = ix4 0 0 (y 2) (y 3) := (ix4_eta y).symm.trans (congrArg₂ (fun a b => ix4 a b (y 2) (y 3)) (Subsingleton.elim (α := Fin 1) (y 0) 0) (Subsingleton.elim (α := Fin 1) (y 1) 0))
  have h1 : (y 1).val < 1 := (y 1).isLt
  refine (congrArg _ ey).trans ((rows_apply P p o hp (by omega) hs hh (y 2) (y 3)).trans (congrArg P (congrArg₂ ix2 (Fin.ext ?_) (Fin.ext ?_))))
  · show o + (y 2).val = 4 * (e + 1 * (y 1).val) + (0 + 1 * (y 2).val)
    omega
  · show p + (y 3).val = p + 1 * (y 3).val
    omega
/-- EVERY STORE OF A TILE is the second half's block at the store's own place. -/
theorem piece3 (P : FVec Ideal S128x512 .f32) (p e : ℕ) (hs : S128x512.Slices ![0, p] S128x128)
    (io : ∀ a, (![0, e, 0, 0] : Fin 4 → ℕ) a + S1x1x128x128.size a ≤ S1x4x128x128.size a) (ho : p = 128 * e) (y : S1x1x128x128.Idx) :
    shapeCast S1x1x128x128 (extractStridedSlice S128x128 ![0, p] P hs) shapeCasts_S128x128_S1x1x128x128 y
      = block3 P ((Rect.unit (s := S1x4x128x128) ![0, e, 0, 0] S1x1x128x128.size io).emb y) := by
  have he : e + 1 ≤ 4 := io 1
  have ey : y = ix4 0 0 (y 2) (y 3) := (ix4_eta y).symm.trans (congrArg₂ (fun a b => ix4 a b (y 2) (y 3)) (Subsingleton.elim (α := Fin 1) (y 0) 0) (Subsingleton.elim (α := Fin 1) (y 1) 0))
  have h1 : (y 1).val < 1 := (y 1).isLt
  refine (congrArg _ ey).trans ((tile_apply P p (by omega) hs (y 2) (y 3)).trans (congrArg P (congrArg₂ ix2 (Fin.ext ?_) (Fin.ext ?_))))
  · show (y 2).val = 0 + 1 * (y 2).val
    omega
  · show p + (y 3).val = 128 * (e + 1 * (y 1).val) + (0 + 1 * (y 3).val)
    omega

/-- Row 0 of the scratch lies outside every later row. -/
theorem skip (o : ℕ) (ho : 1 ≤ o) (ib : ∀ a, (![o, 0] : Fin 2 → ℕ) a + S1x128.size a ≤ S16x128.size a) (j : Fin 128) :
    (ix2 0 j : S16x128.Idx) ∉ (Rect.unit (s := S16x128) ![o, 0] S1x128.size ib).set := by
  intro h
  obtain ⟨y, hy⟩ := (Rect.unit (s := S16x128) ![o, 0] S1x128.size ib).exists_idx_of_mem h
  have h0 := congrArg (fun z : S16x128.Idx => (z 0).val) hy
  have h1 : o + 1 * (y 0).val = 0 := h0
  omega
/-- Row 0 of the scratch is what was last stored there. -/
theorem keep (w : FVec Ideal S1x128 .f32) (ib : ∀ a, (![0, 0] : Fin 2 → ℕ) a + S1x128.size a ≤ S16x128.size a) (L : List (View.Piece (Elt Ideal) S16x128 .f32)) (j : Fin 128) :
    View.canon (⟨Rect.unit (s := S16x128) ![0, 0] S1x128.size ib, w⟩ :: L) (ix2 0 j) = w (ix2 0 j) := by
  refine Eq.trans (congrArg _ (funext fun a => Fin.ext ?_)) (View.canon_cons_emb (Rect.unit (s := S16x128) ![0, 0] S1x128.size ib) w L (ix2 0 j))
  match a with
  | ⟨0, _⟩ => rfl
  | ⟨1, _⟩ => show j.val = 0 + 1 * j.val; omega

/-- A later row's store leaves row 0 as it was. -/
theorem pass (o : ℕ) (w : FVec Ideal S1x128 .f32) (ib : ∀ a, (![o, 0] : Fin 2 → ℕ) a + S1x128.size a ≤ S16x128.size a) (L : List (View.Piece (Elt Ideal) S16x128 .f32)) (j : Fin 128) (r : EReal)
    (ho : 1 ≤ o) (h : View.canon L (ix2 0 j) = r) : View.canon (⟨Rect.unit (s := S16x128) ![o, 0] S1x128.size ib, w⟩ :: L) (ix2 0 j) = r :=
  (View.canon_cons_of_not_mem _ _ (skip o ho ib j)).trans h

/-- Row 0 of the whole scratch, read back. -/
theorem whole {sp : Space} (v : View sig .tc sp S16x128 .f32) (L : List (View.Piece (Elt Ideal) S16x128 .f32)) (ib : ∀ a, (![0, 0] : Fin 2 → ℕ) a + S16x128.size a ≤ S16x128.size a) (j : Fin 128) :
    v.readCov L (Rect.unit (s := S16x128) ![0, 0] S16x128.size ib).toLoadRect (ix2 0 j) = View.canon L (ix2 0 j) := by
  refine (congrFun (View.readCov_eq_canon' v L (Rect.unit (s := S16x128) ![0, 0] S16x128.size ib).toLoadRect) (ix2 0 j : S16x128.Idx)).trans (congrArg (View.canon L) (funext fun a => Fin.ext ?_))
  match a with
  | ⟨0, _⟩ => rfl
  | ⟨1, _⟩ => show 0 + 1 * j.val = j.val; omega

/-- Row 0 of a scratch, cut out and stored, at an index. -/
theorem cut_apply (V : FVec Ideal S16x128 .f32) (hs : S16x128.Slices ![0, 0] S1x128) (j : Fin 128) :
    shapeCast S1x1x128 (extractStridedSlice S1x128 ![0, 0] V hs) shapeCasts_S1x128_S1x1x128 (ix3 0 0 j) = V (ix2 0 j) := by
  pointwise

/-- EVERY STORE OF THE LARGEST is their block at the store's own place, where row 0 holds them. -/
theorem piece5 (P : FVec Ideal S128x512 .f32) (p : ℕ) (V : FVec Ideal S16x128 .f32) (hs : S16x128.Slices ![0, 0] S1x128)
    (io : ∀ a, (![0, 0, p] : Fin 3 → ℕ) a + S1x1x128.size a ≤ S1x1x512.size a) (ht : S128x512.Slices ![0, p] S128x128)
    (hV : ∀ j : Fin 128, V (ix2 0 j) = k0_pay54 (F := Ideal) (extractStridedSlice S128x128 ![0, p] P ht) (ix2 0 j)) (y : S1x1x128.Idx) :
    shapeCast S1x1x128 (extractStridedSlice S1x128 ![0, 0] V hs) shapeCasts_S1x128_S1x1x128 y
      = block5 P ((Rect.unit (s := S1x1x512) ![0, 0, p] S1x1x128.size io).emb y) := by
  have hp : p + 128 ≤ 512 := io 2
  have ey : y = ix3 0 0 (y 2) := (ix3_eta y).symm.trans (congrArg₂ (fun a b => ix3 a b (y 2)) (Subsingleton.elim (α := Fin 1) (y 0) 0) (Subsingleton.elim (α := Fin 1) (y 1) 0))
  refine (congrArg _ ey).trans ((cut_apply V hs (y 2)).trans ((hV (y 2)).trans ((top_apply P p hp ht (y 2)).trans ?_)))
  refine Finset.fold_congr fun k _ => congrArg P (congrArg (ix2 k) (Fin.ext ?_))
  show p + (y 2).val = p + 1 * (y 2).val
  omega

section Point
variable (c : Dev nD) (i : grid0.Coords) (arg2 : Memref sig .tc .vmem S256x512 .f32) (harg2 : arg2.IsWhole) (arg3 : Memref sig .tc .vmem S2x128x128 .bf16) (harg3 : arg3.IsWhole) (arg4 : Memref sig .tc .vmem S1x32x4x512 .f32) (harg4 : arg4.IsWhole) (arg5 : Memref sig .tc .vmem S1x4x128x128 .f32) (harg5 : arg5.IsWhole) (arg6 : Memref sig .tc .vmem S1x32x4x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S80x128 .f32) (harg11 : arg11.IsWhole) (arg12 : Memref sig .tc .vmem S80x128 .f32) (harg12 : arg12.IsWhole) (x0 : Vec Ideal S256x512 .f32) (x1 : Vec Ideal S2x128x128 .bf16)

/-- THE FOUR TILES of the second half leave its block. -/
theorem out3_apply (z : S1x4x128x128.Idx) : out0_A_3 c i arg2 harg2 arg3 harg3 arg4 harg4 arg5 harg5 arg6 harg6 arg7 harg7 arg8 harg8 arg9 harg9 arg10 harg10 arg11 harg11 arg12 harg12 x0 x1 z = block3 (second x0 x1) z := by
  have hc := cover0_A_3 c i arg2 harg2 arg3 harg3 arg4 harg4 arg5 harg5 arg6 harg6 arg7 harg7 arg8 harg8 arg9 harg9 arg10 harg10 arg11 harg11 arg12 harg12 x0 x1 z
  unfold out0_A_3
  rw [View.read_writes_junk_eq_canon]
  refine View.canon_apply_of_pieces (Val := Elt Ideal) (e := .f32) (block3 (second x0 x1)) _ ?_ z hc
  unfold kernelRun0_A
  dsimp only
  sl_unfold_words
  simp only [View.readAt_eq_ld, harg2.read_unread, harg3.read_unread]
  repeat refine List.forall_mem_cons.2 ⟨piece3 (second x0 x1) _ _ (by decide) (by decide) (by decide), ?_⟩
  exact fun _ hp => absurd hp List.not_mem_nil

/-- THE STORES OF FOUR ROWS leave the first half's block. -/
theorem out2_apply (z : S1x32x4x512.Idx) : out0_A_2 c i arg2 harg2 arg3 harg3 arg4 harg4 arg5 harg5 arg6 harg6 arg7 harg7 arg8 harg8 arg9 harg9 arg10 harg10 arg11 harg11 arg12 harg12 x0 x1 z = block2 (first x0 x1) z := by
  have hc := cover0_A_2 c i arg2 harg2 arg3 harg3 arg4 harg4 arg5 harg5 arg6 harg6 arg7 harg7 arg8 harg8 arg9 harg9 arg10 harg10 arg11 harg11 arg12 harg12 x0 x1 z
  unfold out0_A_2
  rw [View.read_writes_junk_eq_canon]
  refine View.canon_apply_of_pieces (Val := Elt Ideal) (e := .f32) (block2 (first x0 x1)) _ ?_ z hc
  unfold kernelRun0_A
  dsimp only
  sl_unfold_words
  simp only [View.readAt_eq_ld, harg2.read_unread, harg3.read_unread]
  repeat refine List.forall_mem_cons.2 ⟨piece2 (first x0 x1) _ _ _ (by decide) (by decide) (by decide) (by decide), ?_⟩
  exact fun _ hp => absurd hp List.not_mem_nil

/-- THE FOUR STORES OF THE LARGEST leave their block. -/
theorem out5_apply (z : S1x1x512.Idx) : out0_A_5 c i arg2 harg2 arg3 harg3 arg4 harg4 arg5 harg5 arg6 harg6 arg7 harg7 arg8 harg8 arg9 harg9 arg10 harg10 arg11 harg11 arg12 harg12 x0 x1 z = block5 (second x0 x1) z := by
  have hc := cover0_A_5 c i arg2 harg2 arg3 harg3 arg4 harg4 arg5 harg5 arg6 harg6 arg7 harg7 arg8 harg8 arg9 harg9 arg10 harg10 arg11 harg11 arg12 harg12 x0 x1 z
  unfold out0_A_5
  rw [View.read_writes_junk_eq_canon]
  refine View.canon_apply_of_pieces (Val := Elt Ideal) (e := .f32) (block5 (second x0 x1)) _ ?_ z hc
  unfold kernelRun0_A
  dsimp only
  sl_unfold_words
  simp only [View.readAt_eq_ld, harg2.read_unread, harg3.read_unread]
  dsimp only [k0_pay798, k0_pay699, k0_pay602, k0_pay496, k0_pay397, k0_pay298, k0_pay201, k0_pay101]
  refine List.forall_mem_cons.2 ⟨fun y => ?_, ?_⟩
  · dsimp only
    generalize hV : View.readCov (Val := Elt Ideal) arg10.view _ _ = V
    refine piece5 (second x0 x1) 384 V slices_S16x128_o0_0_S1x128 inb_S1x1x512_S1x1x128_0_0_384 slices_S128x512_o0_384_S128x128 (fun j => ?_) y
    refine (congrFun hV.symm (ix2 0 j : S16x128.Idx)).trans ((whole _ _ _ j).trans ?_)
    iterate 15 refine pass _ _ _ _ j _ (by decide) ?_
    exact keep _ _ _ j
  refine List.forall_mem_cons.2 ⟨fun y => ?_, ?_⟩
  · dsimp only
    generalize hV : View.readCov (Val := Elt Ideal) arg10.view _ _ = V
    refine piece5 (second x0 x1) 256 V slices_S16x128_o0_0_S1x128 inb_S1x1x512_S1x1x128_0_0_256 slices_S128x512_o0_256_S128x128 (fun j => ?_) y
    refine (congrFun hV.symm (ix2 0 j : S16x128.Idx)).trans ((whole _ _ _ j).trans ?_)
    iterate 15 refine pass _ _ _ _ j _ (by decide) ?_
    exact keep _ _ _ j
  refine List.forall_mem_cons.2 ⟨fun y => ?_, ?_⟩
  · dsimp only
    generalize hV : View.readCov (Val := Elt Ideal) arg10.view _ _ = V
    refine piece5 (second x0 x1) 128 V slices_S16x128_o0_0_S1x128 inb_S1x1x512_S1x1x128_0_0_128 slices_S128x512_o0_128_S128x128 (fun j => ?_) y
    refine (congrFun hV.symm (ix2 0 j : S16x128.Idx)).trans ((whole _ _ _ j).trans ?_)
    iterate 15 refine pass _ _ _ _ j _ (by decide) ?_
    exact keep _ _ _ j
  refine List.forall_mem_cons.2 ⟨fun y => ?_, ?_⟩
  · dsimp only
    generalize hV : View.readCov (Val := Elt Ideal) arg10.view _ _ = V
    refine piece5 (second x0 x1) 0 V slices_S16x128_o0_0_S1x128 inb_S1x1x512_S1x1x128_0_0_0 slices_S128x512_o0_0_S128x128 (fun j => ?_) y
    refine (congrFun hV.symm (ix2 0 j : S16x128.Idx)).trans ((whole _ _ _ j).trans ?_)
    iterate 15 refine pass _ _ _ _ j _ (by decide) ?_
    exact keep _ _ _ j
  exact fun _ hp => absurd hp List.not_mem_nil

end Point
/-- Where the queries' window lies at point `t`: the head's rows, the tile's columns. -/
theorem index0 : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)
/-- Where the keys lie at point `t`. -/
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
/-- Where the results' windows lie at point `t`. -/
theorem index2 : ∀ t : Fin cfg0.N, win0_2.index t 0 = t.val / 16 ∧ win0_2.index t 1 = 0 ∧ win0_2.index t 2 = 0 ∧ win0_2.index t 3 = t.val % 16 :=
  (by decide +kernel : ∀ t : Fin grid0.N, win0_2.index t 0 = t.val / 16 ∧ win0_2.index t 1 = 0 ∧ win0_2.index t 2 = 0 ∧ win0_2.index t 3 = t.val % 16)
theorem index3 : ∀ t : Fin cfg0.N, win0_3.index t 0 = t.val / 16 ∧ win0_3.index t 1 = t.val % 16 ∧ win0_3.index t 2 = 0 ∧ win0_3.index t 3 = 0 :=
  (by decide +kernel : ∀ t : Fin grid0.N, win0_3.index t 0 = t.val / 16 ∧ win0_3.index t 1 = t.val % 16 ∧ win0_3.index t 2 = 0 ∧ win0_3.index t 3 = 0)
theorem index5 : ∀ t : Fin cfg0.N, win0_5.index t 0 = t.val / 16 ∧ win0_5.index t 1 = 0 ∧ win0_5.index t 2 = t.val % 16 :=
  (by decide +kernel : ∀ t : Fin grid0.N, win0_5.index t 0 = t.val / 16 ∧ win0_5.index t 1 = 0 ∧ win0_5.index t 2 = t.val % 16)

variable (m : (ℓ : Loc nD τ sig) → Buf (Elt Ideal) ℓ) (c : Dev nD)

/-- The queries, transposed: a row an entry, a column a token. -/
abbrev queries : FVec Ideal S2048x8192 .f32 := m ((c.tc : Thread nD τ).loc main_arg0)
/-- Both halves' keys. -/
abbrev keys : FVec Ideal S2x128x128 .bf16 := m ((c.tc : Thread nD τ).loc main_arg1)

/-- The queries' block at a point. -/
theorem blk0 (t : Fin cfg0.N) (p : Fin 256) (q : Fin 512) (i : Fin 2048) (j : Fin 8192) (hi : i.val = 256 * (t.val / 16) + p.val) (hj : j.val = 512 * (t.val % 16) + q.val) :
    iblk m c 0 t (ix2 p q) = queries m c (ix2 i j) := by
  obtain ⟨e0, e1⟩ := index0 t
  show V m c main_arg0 _ = _
  rw [V_main_arg0]
  refine congrArg (queries m c) (funext fun a => Fin.ext ?_)
  match a with
  | ⟨0, _⟩ =>
    show win0_0.index t 0 * 256 + 1 * p.val = i.val
    rw [e0, hi]
    omega
  | ⟨1, _⟩ =>
    show win0_0.index t 1 * 512 + 1 * q.val = j.val
    rw [e1, hj]
    omega
/-- The keys at a point. -/
theorem blk1 (t : Fin cfg0.N) (g : Fin 2) (k d : Fin 128) : iblk m c 1 t (ix3 g k d) = keys m c (ix3 g k d) := by
  obtain ⟨e0, e1, e2⟩ := index1 t
  show V m c main_arg1 _ = _
  rw [V_main_arg1]
  refine congrArg (keys m c) (funext fun a => Fin.ext ?_)
  match a with
  | ⟨0, _⟩ =>
    show win0_1.index t 0 * 2 + 1 * g.val = g.val
    rw [e0]
    omega
  | ⟨1, _⟩ =>
    show win0_1.index t 1 * 128 + 1 * k.val = k.val
    rw [e1]
    omega
  | ⟨2, _⟩ =>
    show win0_1.index t 2 * 128 + 1 * d.val = d.val
    rw [e2]
    omega

end Kernel

/-- The score of half `g`'s key `k` for head `h` of token `n`. -/
def score (x : FVec Ideal Cert.Kernel16Ideal.S2048x8192 .f32) (w : FVec Ideal Cert.Kernel16Ideal.S2x128x128 .bf16) (g : Fin 2) (h : Fin 8) (k : Fin 128) (n : Fin 8192) : EReal :=
  ∑ d : Fin 128, w (ix3 g k d) * x (ix2 ⟨256 * h.val + (half g d).val, by have := (half g d).isLt; omega⟩ n)

section Kernel
open Cert.Kernel16Ideal Cert.Kernel16Ideal.Gen
variable (m : (ℓ : Loc nD τ sig) → Buf (Elt Ideal) ℓ) (c : Dev nD)

/-- A point's scores are its head's and its tile's. -/
theorem first_point (t : Fin cfg0.N) (k : Fin 128) (j : Fin 512) (h : Fin 8) (n : Fin 8192) (hh : h.val = t.val / 16) (hn : n.val = 512 * (t.val % 16) + j.val) :
    first (iblk m c 0 t) (iblk m c 1 t) (ix2 k j) = score (queries m c) (keys m c) 0 h k n :=
  (first_apply _ _ k j).trans (Finset.sum_congr rfl fun d _ => congrArg₂ (· * ·) (blk1 m c t 0 k d) (blk0 m c t _ _ _ _ (by rw [← hh]) hn))
theorem second_point (t : Fin cfg0.N) (k : Fin 128) (j : Fin 512) (h : Fin 8) (n : Fin 8192) (hh : h.val = t.val / 16) (hn : n.val = 512 * (t.val % 16) + j.val) :
    second (iblk m c 0 t) (iblk m c 1 t) (ix2 k j) = score (queries m c) (keys m c) 1 h k n :=
  (second_apply _ _ k j).trans (Finset.sum_congr rfl fun d _ => congrArg₂ (· * ·) (blk1 m c t 1 k d) (blk0 m c t _ _ _ _ (by rw [← hh]) hn))

/-- The grid point of head `h` and token `n`. -/
def point (h : Fin 8) (n : Fin 8192) : Fin cfg0.N := ⟨16 * h.val + n.val / 512, Nat.lt_of_lt_of_eq (by omega : _ < 128) N_0.symm⟩

/-- THE FIRST RESULT at an index. -/
theorem array2 (h : Fin 8) (a : Fin 32) (b : Fin 4) (n : Fin 8192) :
    (dats m 0 c).arrAt 2 cfg0.N (ix4 h a b n) = score (queries m c) (keys m c) 0 h ⟨4 * a.val + b.val, by omega⟩ n := by
  have tv : (point h n).val = 16 * h.val + n.val / 512 := rfl
  obtain ⟨e0, e1, e2, e3⟩ := index2 (point h n)
  refine Eq.trans (congrArg ((dats m 0 c).arrAt 2 cfg0.N) (funext fun q => Fin.ext ?_))
    ((congrFun (Value.blocks2 m c (point h n) (flush0_2 _)) (ix4 0 a b ⟨n.val % 512, by omega⟩)).trans ?_)
  · match q with
    | ⟨0, _⟩ =>
      show h.val = win0_2.index (point h n) 0 * 1 + 1 * 0
      rw [e0, tv]
      omega
    | ⟨1, _⟩ =>
      show a.val = win0_2.index (point h n) 1 * 32 + 1 * a.val
      rw [e1]
      omega
    | ⟨2, _⟩ =>
      show b.val = win0_2.index (point h n) 2 * 4 + 1 * b.val
      rw [e2]
      omega
    | ⟨3, _⟩ =>
      show n.val = win0_2.index (point h n) 3 * 512 + 1 * (n.val % 512)
      rw [e3, tv]
      omega
  · rw [Value.flushed2_A]
    refine (out2_apply _ _ _ _ _ _ _ _ _ _ _ _ _ _ _ _ _ _ _ _ _ _ _ _ _ _ (ix4 0 a b ⟨n.val % 512, by omega⟩)).trans ?_
    exact first_point m c (point h n) _ _ h n (by rw [tv]; omega) (by rw [tv]; show n.val = _ + n.val % 512; omega)
/-- THE SECOND RESULT at an index. -/
theorem array3 (h : Fin 8) (a : Fin 64) (k : Fin 128) (b : Fin 128) :
    (dats m 0 c).arrAt 3 cfg0.N (ix4 h a k b) = score (queries m c) (keys m c) 1 h k ⟨128 * a.val + b.val, by omega⟩ := by
  have tv : (point h ⟨128 * a.val + b.val, by omega⟩).val = 16 * h.val + (128 * a.val + b.val) / 512 := rfl
  generalize point h ⟨128 * a.val + b.val, by omega⟩ = t at tv
  obtain ⟨e0, e1, e2, e3⟩ := index3 t
  refine Eq.trans (congrArg ((dats m 0 c).arrAt 3 cfg0.N) (funext fun q => Fin.ext ?_))
    ((congrFun (Value.blocks3 m c t (flush0_3 _)) (ix4 0 ⟨a.val % 4, by omega⟩ k b)).trans ?_)
  · match q with
    | ⟨0, _⟩ =>
      show h.val = win0_3.index t 0 * 1 + 1 * 0
      rw [e0, tv]
      omega
    | ⟨1, _⟩ =>
      show a.val = win0_3.index t 1 * 4 + 1 * (a.val % 4)
      rw [e1, tv]
      omega
    | ⟨2, _⟩ =>
      show k.val = win0_3.index t 2 * 128 + 1 * k.val
      rw [e2]
      omega
    | ⟨3, _⟩ =>
      show b.val = win0_3.index t 3 * 128 + 1 * b.val
      rw [e3]
      omega
  · rw [Value.flushed3_A]
    refine (out3_apply _ _ _ _ _ _ _ _ _ _ _ _ _ _ _ _ _ _ _ _ _ _ _ _ _ _ (ix4 0 ⟨a.val % 4, by omega⟩ k b)).trans ?_
    exact second_point m c t _ _ h _ (by rw [tv]; omega) (by rw [tv]; show 128 * a.val + b.val = _ + (128 * (a.val % 4) + b.val); omega)
/-- THE THIRD RESULT at an index. -/
theorem array5 (h : Fin 8) (n : Fin 8192) :
    (dats m 0 c).arrAt 5 cfg0.N (ix3 h 0 n) = Finset.fold max (Ideal.ofBits .f32 0xFF800000#32) (fun k : Fin 128 => score (queries m c) (keys m c) 1 h k n) Finset.univ := by
  have tv : (point h n).val = 16 * h.val + n.val / 512 := rfl
  obtain ⟨e0, e1, e2⟩ := index5 (point h n)
  refine Eq.trans (congrArg ((dats m 0 c).arrAt 5 cfg0.N) (funext fun q => Fin.ext ?_))
    ((congrFun (Value.blocks5 m c (point h n) (flush0_5 _)) (ix3 0 0 ⟨n.val % 512, by omega⟩)).trans ?_)
  · match q with
    | ⟨0, _⟩ =>
      show h.val = win0_5.index (point h n) 0 * 1 + 1 * 0
      rw [e0, tv]
      omega
    | ⟨1, _⟩ =>
      show 0 = win0_5.index (point h n) 1 * 1 + 1 * 0
      rw [e1]
    | ⟨2, _⟩ =>
      show n.val = win0_5.index (point h n) 2 * 512 + 1 * (n.val % 512)
      rw [e2, tv]
      omega
  · rw [Value.flushed5_A]
    refine (out5_apply _ _ _ _ _ _ _ _ _ _ _ _ _ _ _ _ _ _ _ _ _ _ _ _ _ _ (ix3 0 0 ⟨n.val % 512, by omega⟩)).trans ?_
    exact Finset.fold_congr fun k _ => second_point m c (point h n) _ _ h n (by rw [tv]; omega) (by rw [tv]; show n.val = _ + n.val % 512; omega)

end Kernel

section Reference
open Cert.Reference16Ideal Cert.Reference16Ideal.Gen

/-- The reference's first result at an index. -/
theorem reference_first (x : FVec Ideal S2048x8192 .f32) (w : FVec Ideal S2x128x128 .bf16) (h : Fin 8) (a : Fin 32) (b : Fin 4) (n : Fin 8192) :
    shapeCast S8x32x4x8192 (transpose S8x128x8192 [2, 0, 1] (Host.dotGeneral (F := Ideal) dot_S128x128_S8192x8x128_S128x8192x8_1_2_0_01_n_n none (shapeCast _ (extractStridedSlice S1x128x128 ![0, 0, 0] (extf .f32 w bitsLt_bf16_f32) slices_S2x128x128_S1x128x128_0_0_0) shapeCasts_S1x128x128_S128x128) (extractStridedSlice S8192x8x128 ![0, 0, 0] (shapeCast _ (transpose S8192x2048 [1, 0] x transposes_S2048x8192_S8192x2048_1_0) shapeCasts_S8192x2048_S8192x8x256) slices_S8192x8x256_S8192x8x128_0_0_0)) transposes_S128x8192x8_S8x128x8192_2_0_1) shapeCasts_S8x128x8192_S8x32x4x8192 (ix4 h a b n)
      = score x w 0 h ⟨4 * a.val + b.val, by omega⟩ n := by
  unfold score
  pointwise
  refine Finset.sum_congr rfl fun d _ => congrArg₂ (fun (p : Fin 128) (q : Fin 2048) => w (ix3 0 p d) * x (ix2 q n)) (Fin.ext ?_) (Fin.ext ?_)
  · show a.val * 4 + b.val = 4 * a.val + b.val
    omega
  · show h.val * 256 + d.val = 256 * h.val + (128 * 0 + d.val)
    omega
/-- The reference's scores of the second half's keys at an index. -/
theorem reference_second (x : FVec Ideal S2048x8192 .f32) (w : FVec Ideal S2x128x128 .bf16) (h : Fin 8) (k : Fin 128) (n : Fin 8192) :
    transpose S8x128x8192 [2, 0, 1] (Host.dotGeneral (F := Ideal) dot_S128x128_S8192x8x128_S128x8192x8_1_2_0_01_n_n none (shapeCast _ (extractStridedSlice S1x128x128 ![1, 0, 0] (extf .f32 w bitsLt_bf16_f32) slices_S2x128x128_S1x128x128_1_0_0) shapeCasts_S1x128x128_S128x128) (extractStridedSlice S8192x8x128 ![0, 0, 128] (shapeCast _ (transpose S8192x2048 [1, 0] x transposes_S2048x8192_S8192x2048_1_0) shapeCasts_S8192x2048_S8192x8x256) slices_S8192x8x256_S8192x8x128_0_0_128)) transposes_S128x8192x8_S8x128x8192_2_0_1 (ix3 h k n)
      = score x w 1 h k n := by
  unfold score
  pointwise
  refine Finset.sum_congr rfl fun d _ => congrArg (fun q : Fin 2048 => w (ix3 1 k d) * x (ix2 q n)) (Fin.ext ?_)
  show h.val * 256 + (128 + d.val) = 256 * h.val + (128 * 1 + d.val)
  omega
/-- The second half's scores, laid out by tiles, at an index. -/
theorem tiles_apply (s : FVec Ideal S8x128x8192 .f32) (h : Fin 8) (a : Fin 64) (k : Fin 128) (b : Fin 128) :
    transpose S8x64x128x128 [0, 2, 1, 3] (shapeCast _ s shapeCasts_S8x128x8192_S8x128x64x128) transposes_S8x128x64x128_S8x64x128x128_0_2_1_3 (ix4 h a k b) = s (ix3 h k ⟨128 * a.val + b.val, by omega⟩) := by
  pointwise
  exact congrArg (fun q : Fin 8192 => s (ix3 h k q)) (Fin.ext (by show a.val * 128 + b.val = 128 * a.val + b.val; omega))
/-- The largest over the keys at an index. -/
theorem largest_apply (s : FVec Ideal S8x128x8192 .f32) (h : Fin 8) (n : Fin 8192) :
    broadcastInDim S8x1x8192 ![0, 2] bcast_S8x8192_S8x1x8192_0_2 (Host.reduce FloatOps.maximumf s (constant S_ .f32 0xFF800000#32) reducesTo_S8x128x8192_S8x8192_d1 h_S_) (ix3 h 0 n)
      = Finset.fold max (Ideal.ofBits .f32 0xFF800000#32) (fun k : Fin 128 => s (ix3 h k n)) Finset.univ := by
  pointwise

end Reference

/-- The scores and their largest: the value claim. -/
theorem algebraic : Cert.algebraic_Kernel16Ideal_Reference16Ideal := by
  intro m ρ m' ρ' _ hagree
  refine ⟨fun c => (Cert.Kernel16Ideal.Gen.dats m 0 c).arrAt 2 Cert.Kernel16Ideal.cfg0.N, fun c => (Cert.Kernel16Ideal.Gen.dats m 0 c).arrAt 3 Cert.Kernel16Ideal.cfg0.N, fun c => (Cert.Kernel16Ideal.Gen.dats m 0 c).arrAt 5 Cert.Kernel16Ideal.cfg0.N,
    (θ_run _ _ _).mono (fun _ h c => ⟨(h c).1, (h c).2.1, (h c).2.2.2.1, (h c).2.2.2.2.2⟩) (Cert.Kernel16Ideal.Value.run_blocks (F := Ideal) m ρ), ?_⟩
  refine (θ_run _ _ _).mono (fun _ h c => ⟨(h c).1.trans ?_, (h c).2.1.trans ?_, (h c).2.2.1.trans ?_, (h c).2.2.2⟩) (Cert.Reference16Ideal.Value.run (F := Ideal) m' ρ')
  · rw [(hagree c).1, (hagree c).2]
    funext i
    exact (congrArg _ (ix4_eta i).symm).trans ((reference_first _ _ (i 0) (i 1) (i 2) (i 3)).trans ((array2 m c (i 0) (i 1) (i 2) (i 3)).symm.trans (congrArg _ (ix4_eta i))))
  · rw [(hagree c).1, (hagree c).2]
    funext i
    exact (congrArg _ (ix4_eta i).symm).trans ((tiles_apply _ (i 0) (i 1) (i 2) (i 3)).trans ((reference_second _ _ (i 0) (i 2) _).trans ((array3 m c (i 0) (i 1) (i 2) (i 3)).symm.trans (congrArg _ (ix4_eta i)))))
  · rw [(hagree c).1, (hagree c).2]
    funext i
    have ei : ix3 (i 0) 0 (i 2) = i := (congrArg (fun b => ix3 (i 0) b (i 2)) (Subsingleton.elim (α := Fin 1) 0 (i 1))).trans (ix3_eta i)
    exact (congrArg _ ei.symm).trans ((largest_apply _ (i 0) (i 2)).trans ((Finset.fold_congr fun k _ => reference_second _ _ (i 0) k (i 2)).trans ((array5 m c (i 0) (i 2)).symm.trans (congrArg _ ei))))

/-- The reference's frame. -/
theorem frame_reference : Cert.quiescent_Reference16Ideal := fun m ρ _ =>
  (θ_run Cert.Reference16Ideal.defs _ _).mono (fun r h => ⟨fun c => (h c).2.2.2, Idealize.ShloMosaic.sem_eq_zero_of_no_sems (by decide) r.2⟩)
    (Cert.Reference16Ideal.Value.run (F := Ideal) m ρ)

end Cert.Route
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Retention
public import proofs.«01_k».proof.Proof.Gates
public import proofs.«01_k».proof.Proof.InProj
public import proofs.«01_k».proof.Proof.Merge
public import proofs.«01_k».proof.Proof.OutProj
public import proofs.«01_k».proof.Proof.QUp
public import proofs.«01_k».proof.Proof.PeerQ
public import proofs.«01_k».proof.Proof.QLat
public import proofs.«01_k».proof.Proof.NormMix
public import proofs.«01_k».proof.Proof.NormFfn
public import proofs.«01_k».proof.Proof.FinalNorm
public import proofs.«01_k».proof.Proof.Prep
public import proofs.«01_k».proof.Proof.Modulation
public import proofs.«01_k».proof.Proof.Layout
public import proofs.«01_k».proof.Proof.Bias
public import proofs.«01_k».proof.Proof.Route
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts,
  fun m ρ _ => Cert.Kernel.Gen.frame m ρ, fun m ρ _ => Cert.KernelIdeal.Gen.frame m ρ, Cert.Ret.frame_reference,
  fun m ρ _ => Cert.Kernel2.Gen.frame m ρ, fun m ρ _ => Cert.Kernel2Ideal.Gen.frame m ρ, Cert.Gates.frame_reference,
  fun m ρ _ => Cert.Kernel3.Gen.frame m ρ, fun m ρ _ => Cert.Kernel3Ideal.Gen.frame m ρ, Cert.InProj.frame_reference,
  fun m ρ _ => Cert.Kernel4.Gen.frame m ρ, fun m ρ _ => Cert.Kernel4Ideal.Gen.frame m ρ, Cert.Merge.frame_reference,
  fun m ρ _ => Cert.Kernel5.Gen.frame m ρ, fun m ρ _ => Cert.Kernel5Ideal.Gen.frame m ρ, Cert.OutProj.frame_reference,
  fun m ρ _ => Cert.Kernel6.Gen.frame m ρ, fun m ρ _ => Cert.Kernel6Ideal.Gen.frame m ρ, Cert.QUp.frame_reference,
  fun m ρ _ => Cert.Kernel7.Gen.frame m ρ, fun m ρ _ => Cert.Kernel7Ideal.Gen.frame m ρ, Cert.PeerQ.frame_reference,
  fun m ρ _ => Cert.Kernel8.Gen.frame m ρ, fun m ρ _ => Cert.Kernel8Ideal.Gen.frame m ρ, Cert.QLat.frame_reference,
  fun m ρ _ => Cert.Kernel9.Gen.frame m ρ, fun m ρ _ => Cert.Kernel9Ideal.Gen.frame m ρ, Cert.NormMix.frame_reference,
  fun m ρ _ => Cert.Kernel10.Gen.frame m ρ, fun m ρ _ => Cert.Kernel10Ideal.Gen.frame m ρ, Cert.NormFfn.frame_reference,
  fun m ρ _ => Cert.Kernel11.Gen.frame m ρ, fun m ρ _ => Cert.Kernel11Ideal.Gen.frame m ρ, Cert.FinalNorm.frame_reference,
  fun m ρ _ => Cert.Kernel12.Gen.frame m ρ, fun m ρ _ => Cert.Kernel12Ideal.Gen.frame m ρ, Cert.Prep.frame_reference,
  fun m ρ _ => Cert.Kernel13.Gen.frame m ρ, fun m ρ _ => Cert.Kernel13Ideal.Gen.frame m ρ, Cert.Modulation.frame_reference,
  fun m ρ _ => Cert.Kernel14.Gen.frame m ρ, fun m ρ _ => Cert.Kernel14Ideal.Gen.frame m ρ, Cert.Layout.frame_reference,
  fun m ρ _ => Cert.Kernel15.Gen.frame m ρ, fun m ρ _ => Cert.Kernel15Ideal.Gen.frame m ρ, Cert.Bias.frame_reference,
  fun m ρ _ => Cert.Kernel16.Gen.frame m ρ, fun m ρ _ => Cert.Kernel16Ideal.Gen.frame m ρ, Cert.Route.frame_reference,
  trivial, Cert.Ret.algebraic, trivial, Cert.Gates.algebraic, trivial, Cert.InProj.algebraic, trivial, Cert.Merge.algebraic, trivial, Cert.OutProj.algebraic, trivial, Cert.QUp.algebraic, trivial, Cert.PeerQ.algebraic, trivial, Cert.QLat.algebraic, trivial, Cert.NormMix.algebraic, trivial, Cert.NormFfn.algebraic, trivial, Cert.FinalNorm.algebraic, trivial, Cert.Prep.algebraic, trivial, Cert.Modulation.algebraic, trivial, Cert.Layout.algebraic, trivial, Cert.Bias.algebraic, trivial, Cert.Route.algebraic⟩

end Cert.Proof

end
